-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "masked" .f32 0xC1F00000#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨3, ![2, 256, 512]⟩ ⟨3, ![32, 256, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn_part1 {F : FTy → Type} [FloatOps F] (main_arg2 : FVec F S32x256x64x64 .f32) (main_v12 : IVec S_ 1) (main_v14 : IVec S32x256x64x64 1) (main_v15 : FVec F S32x256x64x64 .f32) : IVec S_ 1 :=
  let main_v16 : IVec S32x256x64x64 1 := cmpf .olt main_arg2 main_v15
  let main_v17 : IVec S32x256x64x64 1 := andi main_v14 main_v16
  let main_c_6 : IVec S_ 1 := constantI S_ 1 1#1
  let main_v18 : IVec S_ 1 := (fun x v => Host.reduce IntOp.andi x v reducesTo_S32x256x64x64_S_d0_1_2_3 h_S_) main_v17 main_c_6
  let main_v19 : IVec S_ 1 := andi main_v12 main_v18
  main_v19

def fn {F : FTy → Type} [FloatOps F] (main_arg0 : FVec F S2x256x512 .f32) (main_arg1 : FVec F S512x256 .f32) (main_arg2 : FVec F S32x256x64x64 .f32) (main_arg3 : FVec F S32x256x64x64 .f32) (main_arg4 : FVec F S256x512 .f32) : IVec S_ 1 :=
  let main_cst : FVec F S_ .f32 := constant S_ .f32 0xFF800000#32
  let main_v0 : FVec F S2x256x512 .f32 := broadcastInDim S2x256x512 ![] bcast_S_S2x256x512 main_cst
  let main_v1 : IVec S2x256x512 1 := cmpf .ogt main_arg0 main_v0
  let main_cst_0 : FVec F S_ .f32 := constant S_ .f32 0x7F800000#32
  let main_v2 : FVec F S2x256x512 .f32 := broadcastInDim S2x256x512 ![] bcast_S_S2x256x512 main_cst_0
  let main_v3 : IVec S2x256x512 1 := cmpf .olt main_arg0 main_v2
  let main_v4 : IVec S2x256x512 1 := andi main_v1 main_v3
  let main_c : IVec S_ 1 := constantI S_ 1 1#1
  let main_v5 : IVec S_ 1 := (fun x v => Host.reduce IntOp.andi x v reducesTo_S2x256x512_S_d0_1_2 h_S_) main_v4 main_c
  let main_cst_1 : FVec F S_ .f32 := constant S_ .f32 0xFF800000#32
  let main_v6 : FVec F S512x256 .f32 := broadcastInDim S512x256 ![] bcast_S_S512x256 main_cst_1
  let main_v7 : IVec S512x256 1 := cmpf .ogt main_arg1 main_v6
  let main_cst_2 : FVec F S_ .f32 := constant S_ .f32 0x7F800000#32
  let main_v8 : FVec F S512x256 .f32 := broadcastInDim S512x256 ![] bcast_S_S512x256 main_cst_2
  let main_v9 : IVec S512x256 1 := cmpf .olt main_arg1 main_v8
  let main_v10 : IVec S512x256 1 := andi main_v7 main_v9
  let main_c_3 : IVec S_ 1 := constantI S_ 1 1#1
  let main_v11 : IVec S_ 1 := (fun x v => Host.reduce IntOp.andi x v reducesTo_S512x256_S_d0_1 h_S_) main_v10 main_c_3
  let main_v12 : IVec S_ 1 := andi main_v5 main_v11
  let main_cst_4 : FVec F S_ .f32 := constant S_ .f32 0xFF800000#32
  let main_v13 : FVec F S32x256x64x64 .f32 := broadcastInDim S32x256x64x64 ![] bcast_S_S32x256x64x64 main_cst_4
  let main_v14 : IVec S32x256x64x64 1 := cmpf .ogt main_arg2 main_v13
  let main_cst_5 : FVec F S_ .f32 := constant S_ .f32 0x7F800000#32
  let main_v15 : FVec F S32x256x64x64 .f32 := broadcastInDim S32x256x64x64 ![] bcast_S_S32x256x64x64 main_cst_5
  fn_part1 (F := F) main_arg2 main_v12 main_v14 main_v15
-- ==== Pre_finite_scores_ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn_part1 {F : FTy → Type} [FloatOps F] (main_arg2 : FVec F S32x256x64x64 .f32) (main_v12 : IVec S_ 1) (main_v14 : IVec S32x256x64x64 1) (main_v15 : FVec F S32x256x64x64 .f32) : IVec S_ 1 :=
  let main_v16 : IVec S32x256x64x64 1 := cmpf .olt main_arg2 main_v15
  let main_v17 : IVec S32x256x64x64 1 := andi main_v14 main_v16
  let main_c_6 : IVec S_ 1 := constantI S_ 1 1#1
  let main_v18 : IVec S_ 1 := (fun x v => Host.reduce IntOp.andi x v reducesTo_S32x256x64x64_S_d0_1_2_3 h_S_) main_v17 main_c_6
  let main_v19 : IVec S_ 1 := andi main_v12 main_v18
  main_v19

def fn {F : FTy → Type} [FloatOps F] (main_arg0 : FVec F S32x256x512 .f32) (main_arg1 : FVec F S512x4096 .f32) (main_arg2 : FVec F S32x256x64x64 .f32) (main_arg3 : FVec F S32x256x64x64 .f32) (main_arg4 : FVec F S4096x512 .f32) : IVec S_ 1 :=
  let main_cst : FVec F S_ .f32 := constant S_ .f32 0xFF800000#32
  let main_v0 : FVec F S32x256x512 .f32 := broadcastInDim S32x256x512 ![] bcast_S_S32x256x512 main_cst
  let main_v1 : IVec S32x256x512 1 := cmpf .ogt main_arg0 main_v0
  let main_cst_0 : FVec F S_ .f32 := constant S_ .f32 0x7F800000#32
  let main_v2 : FVec F S32x256x512 .f32 := broadcastInDim S32x256x512 ![] bcast_S_S32x256x512 main_cst_0
  let main_v3 : IVec S32x256x512 1 := cmpf .olt main_arg0 main_v2
  let main_v4 : IVec S32x256x512 1 := andi main_v1 main_v3
  let main_c : IVec S_ 1 := constantI S_ 1 1#1
  let main_v5 : IVec S_ 1 := (fun x v => Host.reduce IntOp.andi x v reducesTo_S32x256x512_S_d0_1_2 h_S_) main_v4 main_c
  let main_cst_1 : FVec F S_ .f32 := constant S_ .f32 0xFF800000#32
  let main_v6 : FVec F S512x4096 .f32 := broadcastInDim S512x4096 ![] bcast_S_S512x4096 main_cst_1
  let main_v7 : IVec S512x4096 1 := cmpf .ogt main_arg1 main_v6
  let main_cst_2 : FVec F S_ .f32 := constant S_ .f32 0x7F800000#32
  let main_v8 : FVec F S512x4096 .f32 := broadcastInDim S512x4096 ![] bcast_S_S512x4096 main_cst_2
  let main_v9 : IVec S512x4096 1 := cmpf .olt main_arg1 main_v8
  let main_v10 : IVec S512x4096 1 := andi main_v7 main_v9
  let main_c_3 : IVec S_ 1 := constantI S_ 1 1#1
  let main_v11 : IVec S_ 1 := (fun x v => Host.reduce IntOp.andi x v reducesTo_S512x4096_S_d0_1 h_S_) main_v10 main_c_3
  let main_v12 : IVec S_ 1 := andi main_v5 main_v11
  let main_cst_4 : FVec F S_ .f32 := constant S_ .f32 0xFF800000#32
  let main_v13 : FVec F S32x256x64x64 .f32 := broadcastInDim S32x256x64x64 ![] bcast_S_S32x256x64x64 main_cst_4
  let main_v14 : IVec S32x256x64x64 1 := cmpf .ogt main_arg2 main_v13
  let main_cst_5 : FVec F S_ .f32 := constant S_ .f32 0x7F800000#32
  let main_v15 : FVec F S32x256x64x64 .f32 := broadcastInDim S32x256x64x64 ![] bcast_S_S32x256x64x64 main_cst_5
  fn_part1 (F := F) main_arg2 main_v12 main_v14 main_v15
-- ==== Kernel.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩
abbrev S512x512 : Shape := ⟨2, ![512, 512]⟩
abbrev S2x256x64x64 : Shape := ⟨4, ![2, 256, 64, 64]⟩
abbrev S2x64x256x64 : Shape := ⟨4, ![2, 64, 256, 64]⟩
abbrev S9x2x512x256 : Shape := ⟨4, ![9, 2, 512, 256]⟩
abbrev S8x2x512x256 : Shape := ⟨4, ![8, 2, 512, 256]⟩
abbrev S256x256 : Shape := ⟨2, ![256, 256]⟩
abbrev S4x2x4x256x64 : Shape := ⟨5, ![4, 2, 4, 256, 64]⟩
abbrev S9x2 : Shape := ⟨2, ![9, 2]⟩
abbrev S8x2 : Shape := ⟨2, ![8, 2]⟩
abbrev S4x2 : Shape := ⟨2, ![4, 2]⟩
abbrev S1x1x512x256 : Shape := ⟨4, ![1, 1, 512, 256]⟩
abbrev S1x1 : Shape := ⟨2, ![1, 1]⟩
abbrev S1x2x4x256x64 : Shape := ⟨5, ![1, 2, 4, 256, 64]⟩
abbrev S2x4x256x64 : Shape := ⟨4, ![2, 4, 256, 64]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S1x256x512 : Shape := ⟨3, ![1, 256, 512]⟩

abbrev nBuf : Space → Nat
  | .hbm => 38
  | .vmem => 9
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S32x256x64x64, .f32⟩
  | .hbm, ⟨3, _⟩ => ⟨S32x256x64x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S512x256, .f32⟩
  | .hbm, ⟨12, _⟩ => ⟨S512x512, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S2x256x64x64, .f32⟩
  | .hbm, ⟨24, _⟩ => ⟨S2x64x256x64, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S2x256x64x64, .f32⟩
  | .hbm, ⟨36, _⟩ => ⟨S2x64x256x64, .f32⟩
  | .hbm, ⟨37, _⟩ => ⟨S2x256x512, .f32⟩
  | .local _ .vmem, ⟨0, _⟩ => ⟨S512x512, .f32⟩
  | .local _ .vmem, ⟨1, _⟩ => ⟨S512x256, .f32⟩
  | .local _ .vmem, ⟨2, _⟩ => ⟨S512x256, .f32⟩
  | .local _ .vmem, ⟨3, _⟩ => ⟨S2x256x512, .f32⟩
  | .local _ .vmem, ⟨4, _⟩ => ⟨S9x2x512x256, .f32⟩
  | .local _ .vmem, ⟨5, _⟩ => ⟨S8x2x512x256, .f32⟩
  | .local _ .vmem, ⟨6, _⟩ => ⟨S256x256, .f32⟩
  | .local _ .vmem, ⟨7, _⟩ => ⟨S4x2x4x256x64, .f32⟩
  | .local _ .vmem, ⟨8, _⟩ => ⟨S4x2x4x256x64, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_c_11 : Ref sig .tc := ⟨.hbm, 33, rfl⟩
abbrev main_c_12 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_56 : BitVec 32 := 1#32
  let v96 : BitVec 32 := Scalar.muli v7 c1_i32_56
  let v97 : BitVec 32 := Scalar.addi c0_i32_57 v96
  v97.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_70 : BitVec 32 := 1#32
  let v106 : BitVec 32 := Scalar.muli v5 c1_i32_70
  let v107 : BitVec 32 := Scalar.addi c0_i32_71 v106
  v107.toNat
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_84 : BitVec 32 := 1#32
  let v116 : BitVec 32 := Scalar.muli v7 c1_i32_84
  let v117 : BitVec 32 := Scalar.addi c0_i32_85 v116
  v117.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_98 : BitVec 32 := 1#32
  let v126 : BitVec 32 := Scalar.muli v5 c1_i32_98
  let v127 : BitVec 32 := Scalar.addi c0_i32_99 v126
  v127.toNat
def k0_off1 (c0_i32_109 : BitVec 32) (c0_i32_107 : BitVec 32) : Fin 2 → Nat :=
  let c2_i32_108 : BitVec 32 := 2#32
  let v140 : BitVec 32 := Scalar.remsi c0_i32_107 c2_i32_108
  let v141 : BitVec 32 := Scalar.addi c0_i32_109 v140
  let c0_i32_110 : BitVec 32 := 0#32
  ![v141.toNat, 0]
def k0_off1_at (r : Fin 4) : BitVec 32 × BitVec 32 :=
  if r.val < 2 then
    if r.val < 1 then
      (0#32, 0#32)
    else
      (0#32, 1#32)
  else
    if r.val < 3 then
      (2#32, 1#32)
    else
      (0#32, 8#32)
def k0_off2 (c0_i32_109 : BitVec 32) (c0_i32_107 : BitVec 32) : Fin 5 → Nat :=
  let c2_i32_108 : BitVec 32 := 2#32
  let v140 : BitVec 32 := Scalar.remsi c0_i32_107 c2_i32_108
  let v141 : BitVec 32 := Scalar.addi c0_i32_109 v140
  let c0_i32_111 : BitVec 32 := 0#32
  let c0_i32_112 : BitVec 32 := 0#32
  let c0_i32_113 : BitVec 32 := 0#32
  let c0_i32_114 : BitVec 32 := 0#32
  ![v141.toNat, 0, 0, 0, 0]
def k0_off2_at (r : Fin 4) : BitVec 32 × BitVec 32 :=
  if r.val < 2 then
    if r.val < 1 then
      (0#32, 0#32)
    else
      (0#32, 1#32)
  else
    if r.val < 3 then
      (2#32, 1#32)
    else
      (0#32, 8#32)
def k0_off3 (d0 : Dev nD) (c0_i32_104 : BitVec 32) : Fin 4 → Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v136 : BitVec 32 := Scalar.addi v2 c0_i32_104
  let c16_i32_105 : BitVec 32 := 16#32
  let v137 : BitVec 32 := Scalar.addi v136 c16_i32_105
  let c16_i32_106 : BitVec 32 := 16#32
  let v138 : BitVec 32 := Scalar.remsi v137 c16_i32_106
  let c4_i32 : BitVec 32 := 4#32
  let v139 : BitVec 32 := Scalar.muli v138 c4_i32
  let c0_i32_116 : BitVec 32 := 0#32
  let c0_i32_117 : BitVec 32 := 0#32
  ![0, v139.toNat, 0, 0]
def k0_off3_at (r : Fin 4) : BitVec 32 :=
  if r.val < 2 then
    if r.val < 1 then
      0#32
    else
      4294967295#32
  else
    if r.val < 3 then
      1#32
    else
      4294967288#32
def k0_off4 (c0_i32_109 : BitVec 32) (c0_i32_107 : BitVec 32) : Fin 2 → Nat :=
  let c2_i32_108 : BitVec 32 := 2#32
  let v140 : BitVec 32 := Scalar.remsi c0_i32_107 c2_i32_108
  let v141 : BitVec 32 := Scalar.addi c0_i32_109 v140
  let c1_i32_118 : BitVec 32 := 1#32
  ![v141.toNat, 1]
def k0_off4_at (r : Fin 4) : BitVec 32 × BitVec 32 :=
  if r.val < 2 then
    if r.val < 1 then
      (0#32, 0#32)
    else
      (0#32, 1#32)
  else
    if r.val < 3 then
      (2#32, 1#32)
    else
      (0#32, 8#32)
@[reducible] def k0_t1_loop : Scf.Loop 32 :=
  let c1_i32_280 : BitVec 32 := 1#32
  let c7_i32 : BitVec 32 := 7#32
  let v383 : BitVec 32 := Scalar.addi c1_i32_280 c7_i32
  let c1_i32_281 : BitVec 32 := 1#32
  ⟨c1_i32_280, v383, c1_i32_281⟩
def k0_off5 (k0_t1 : Fin k0_t1_loop.trips) : Fin 2 → Nat :=
  let c1_i32_280 : BitVec 32 := 1#32
  let c1_i32_281 : BitVec 32 := 1#32
  let arg16 : BitVec 32 := Scf.iv c1_i32_280 c1_i32_281 k0_t1
  let c0_i32_455 : BitVec 32 := 0#32
  ![arg16.toNat, 0]
def k0_off6 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c0_i32_454 : BitVec 32 := 0#32
  let c0_i32_459 : BitVec 32 := 0#32
  let c0_i32_460 : BitVec 32 := 0#32
  ![arg16.toNat, 0, 0, 0]
def k0_off7 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_452 : BitVec 32 := 1#32
  let v620 : BitVec 32 := Scalar.subi arg16 c1_i32_452
  let c0_i32_453 : BitVec 32 := 0#32
  let c0_i32_461 : BitVec 32 := 0#32
  let c0_i32_462 : BitVec 32 := 0#32
  ![v620.toNat, 0, 0, 0]
def k0_off8 (k0_t1 : Fin k0_t1_loop.trips) : Fin 2 → Nat :=
  let c1_i32_280 : BitVec 32 := 1#32
  let c1_i32_281 : BitVec 32 := 1#32
  let arg16 : BitVec 32 := Scf.iv c1_i32_280 c1_i32_281 k0_t1
  let c1_i32_463 : BitVec 32 := 1#32
  let v629 : BitVec 32 := Scalar.addi arg16 c1_i32_463
  let c0_i32_468 : BitVec 32 := 0#32
  ![v629.toNat, 0]
def k0_off9 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_463 : BitVec 32 := 1#32
  let v629 : BitVec 32 := Scalar.addi arg16 c1_i32_463
  let c0_i32_466 : BitVec 32 := 0#32
  let c0_i32_471 : BitVec 32 := 0#32
  let c0_i32_472 : BitVec 32 := 0#32
  ![v629.toNat, 0, 0, 0]
def k0_off10 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_463 : BitVec 32 := 1#32
  let v629 : BitVec 32 := Scalar.addi arg16 c1_i32_463
  let c1_i32_464 : BitVec 32 := 1#32
  let v630 : BitVec 32 := Scalar.subi v629 c1_i32_464
  let c0_i32_465 : BitVec 32 := 0#32
  let c0_i32_473 : BitVec 32 := 0#32
  let c0_i32_474 : BitVec 32 := 0#32
  ![v630.toNat, 0, 0, 0]
def k0_dev7 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_469 : BitVec 32 := 1#32
  let v631 : BitVec 32 := Scalar.muli v7 c1_i32_469
  let v632 : BitVec 32 := Scalar.addi c0_i32_470 v631
  v632.toNat
def k0_off11 (k0_t1 : Fin k0_t1_loop.trips) : Fin 2 → Nat :=
  let c1_i32_280 : BitVec 32 := 1#32
  let c1_i32_281 : BitVec 32 := 1#32
  let arg16 : BitVec 32 := Scf.iv c1_i32_280 c1_i32_281 k0_t1
  let c0_i32_478 : BitVec 32 := 0#32
  ![arg16.toNat, 0]
def k0_off12 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c0_i32_477 : BitVec 32 := 0#32
  let c0_i32_482 : BitVec 32 := 0#32
  let c0_i32_483 : BitVec 32 := 0#32
  ![arg16.toNat, 0, 0, 0]
def k0_off13 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_475 : BitVec 32 := 1#32
  let v641 : BitVec 32 := Scalar.subi arg16 c1_i32_475
  let c0_i32_476 : BitVec 32 := 0#32
  let c0_i32_484 : BitVec 32 := 0#32
  let c0_i32_485 : BitVec 32 := 0#32
  ![v641.toNat, 0, 0, 0]
def k0_cond1 (k0_t1 : Fin k0_t1_loop.trips) : BitVec 1 :=
  let c1_i32_280 : BitVec 32 := 1#32
  let c1_i32_281 : BitVec 32 := 1#32
  let arg16 : BitVec 32 := Scf.iv c1_i32_280 c1_i32_281 k0_t1
  let c7_i32_486 : BitVec 32 := 7#32
  let v650 : BitVec 1 := Scalar.cmpi .slt arg16 c7_i32_486
  let v651 : BitVec 32 := Scalar.extui v650
  let c0_i32_487 : BitVec 32 := 0#32
  let v652 : BitVec 1 := Scalar.cmpi .ne v651 c0_i32_487
  v652

def k0_off14 (k0_t1 : Fin k0_t1_loop.trips) : Fin 2 → Nat :=
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let c0_i32_822 : BitVec 32 := 0#32
  ![v1157.toNat, 0]
def k0_off15 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let c0_i32_820 : BitVec 32 := 0#32
  let c0_i32_825 : BitVec 32 := 0#32
  let c0_i32_826 : BitVec 32 := 0#32
  ![v1157.toNat, 0, 0, 0]
def k0_off16 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let c1_i32_818 : BitVec 32 := 1#32
  let v1158 : BitVec 32 := Scalar.subi v1157 c1_i32_818
  let c0_i32_819 : BitVec 32 := 0#32
  let c0_i32_827 : BitVec 32 := 0#32
  let c0_i32_828 : BitVec 32 := 0#32
  ![v1158.toNat, 0, 0, 0]
def k0_dev8 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_823 : BitVec 32 := 1#32
  let v1159 : BitVec 32 := Scalar.muli v5 c1_i32_823
  let v1160 : BitVec 32 := Scalar.addi c0_i32_824 v1159
  v1160.toNat
def k0_off17 (k0_t1 : Fin k0_t1_loop.trips) : Fin 2 → Nat :=
  let c1_i32_280 : BitVec 32 := 1#32
  let c1_i32_281 : BitVec 32 := 1#32
  let arg16 : BitVec 32 := Scf.iv c1_i32_280 c1_i32_281 k0_t1
  let c1_i32_491 : BitVec 32 := 1#32
  ![arg16.toNat, 1]
def k0_off18 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_490 : BitVec 32 := 1#32
  let c0_i32_495 : BitVec 32 := 0#32
  let c0_i32_496 : BitVec 32 := 0#32
  ![arg16.toNat, 1, 0, 0]
def k0_off19 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_488 : BitVec 32 := 1#32
  let v653 : BitVec 32 := Scalar.subi arg16 c1_i32_488
  let c1_i32_489 : BitVec 32 := 1#32
  let c0_i32_497 : BitVec 32 := 0#32
  let c0_i32_498 : BitVec 32 := 0#32
  ![v653.toNat, 1, 0, 0]
def k0_off20 (k0_t1 : Fin k0_t1_loop.trips) : Fin 2 → Nat :=
  let c1_i32_280 : BitVec 32 := 1#32
  let c1_i32_281 : BitVec 32 := 1#32
  let arg16 : BitVec 32 := Scf.iv c1_i32_280 c1_i32_281 k0_t1
  let c1_i32_499 : BitVec 32 := 1#32
  let v662 : BitVec 32 := Scalar.addi arg16 c1_i32_499
  let c1_i32_504 : BitVec 32 := 1#32
  ![v662.toNat, 1]
def k0_off21 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_499 : BitVec 32 := 1#32
  let v662 : BitVec 32 := Scalar.addi arg16 c1_i32_499
  let c1_i32_502 : BitVec 32 := 1#32
  let c0_i32_507 : BitVec 32 := 0#32
  let c0_i32_508 : BitVec 32 := 0#32
  ![v662.toNat, 1, 0, 0]
def k0_off22 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_499 : BitVec 32 := 1#32
  let v662 : BitVec 32 := Scalar.addi arg16 c1_i32_499
  let c1_i32_500 : BitVec 32 := 1#32
  let v663 : BitVec 32 := Scalar.subi v662 c1_i32_500
  let c1_i32_501 : BitVec 32 := 1#32
  let c0_i32_509 : BitVec 32 := 0#32
  let c0_i32_510 : BitVec 32 := 0#32
  ![v663.toNat, 1, 0, 0]
def k0_dev9 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_505 : BitVec 32 := 1#32
  let v664 : BitVec 32 := Scalar.muli v7 c1_i32_505
  let v665 : BitVec 32 := Scalar.addi c0_i32_506 v664
  v665.toNat
def k0_off23 (k0_t1 : Fin k0_t1_loop.trips) : Fin 2 → Nat :=
  let c1_i32_280 : BitVec 32 := 1#32
  let c1_i32_281 : BitVec 32 := 1#32
  let arg16 : BitVec 32 := Scf.iv c1_i32_280 c1_i32_281 k0_t1
  let c1_i32_514 : BitVec 32 := 1#32
  ![arg16.toNat, 1]
def k0_off24 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_513 : BitVec 32 := 1#32
  let c0_i32_518 : BitVec 32 := 0#32
  let c0_i32_519 : BitVec 32 := 0#32
  ![arg16.toNat, 1, 0, 0]
def k0_off25 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_511 : BitVec 32 := 1#32
  let v674 : BitVec 32 := Scalar.subi arg16 c1_i32_511
  let c1_i32_512 : BitVec 32 := 1#32
  let c0_i32_520 : BitVec 32 := 0#32
  let c0_i32_521 : BitVec 32 := 0#32
  ![v674.toNat, 1, 0, 0]
def k0_cond2 (k0_t1 : Fin k0_t1_loop.trips) : BitVec 1 :=
  let c1_i32_280 : BitVec 32 := 1#32
  let c1_i32_281 : BitVec 32 := 1#32
  let arg16 : BitVec 32 := Scf.iv c1_i32_280 c1_i32_281 k0_t1
  let c7_i32_522 : BitVec 32 := 7#32
  let v683 : BitVec 1 := Scalar.cmpi .slt arg16 c7_i32_522
  let v684 : BitVec 32 := Scalar.extui v683
  let c0_i32_523 : BitVec 32 := 0#32
  let v685 : BitVec 1 := Scalar.cmpi .ne v684 c0_i32_523
  v685

def k0_off26 (k0_t1 : Fin k0_t1_loop.trips) : Fin 2 → Nat :=
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let c1_i32_822 : BitVec 32 := 1#32
  ![v1157.toNat, 1]
def k0_off27 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let c1_i32_820 : BitVec 32 := 1#32
  let c0_i32_825 : BitVec 32 := 0#32
  let c0_i32_826 : BitVec 32 := 0#32
  ![v1157.toNat, 1, 0, 0]
def k0_off28 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let c1_i32_818 : BitVec 32 := 1#32
  let v1158 : BitVec 32 := Scalar.subi v1157 c1_i32_818
  let c1_i32_819 : BitVec 32 := 1#32
  let c0_i32_827 : BitVec 32 := 0#32
  let c0_i32_828 : BitVec 32 := 0#32
  ![v1158.toNat, 1, 0, 0]
def k0_dev10 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_823 : BitVec 32 := 1#32
  let v1159 : BitVec 32 := Scalar.muli v5 c1_i32_823
  let v1160 : BitVec 32 := Scalar.addi c0_i32_824 v1159
  v1160.toNat
def k0_off29 (k0_t1 : Fin k0_t1_loop.trips) (c0_i32_529 : BitVec 32) : Fin 2 → Nat :=
  let c1_i32_280 : BitVec 32 := 1#32
  let c1_i32_281 : BitVec 32 := 1#32
  let arg16 : BitVec 32 := Scf.iv c1_i32_280 c1_i32_281 k0_t1
  let c2_i32_528 : BitVec 32 := 2#32
  let v691 : BitVec 32 := Scalar.remsi arg16 c2_i32_528
  let v692 : BitVec 32 := Scalar.addi c0_i32_529 v691
  let c0_i32_530 : BitVec 32 := 0#32
  ![v692.toNat, 0]
def k0_off30 (k0_t1 : Fin k0_t1_loop.trips) (c0_i32_529 : BitVec 32) : Fin 5 → Nat :=
  let c1_i32_280 : BitVec 32 := 1#32
  let c1_i32_281 : BitVec 32 := 1#32
  let arg16 : BitVec 32 := Scf.iv c1_i32_280 c1_i32_281 k0_t1
  let c2_i32_528 : BitVec 32 := 2#32
  let v691 : BitVec 32 := Scalar.remsi arg16 c2_i32_528
  let v692 : BitVec 32 := Scalar.addi c0_i32_529 v691
  let c0_i32_531 : BitVec 32 := 0#32
  let c0_i32_532 : BitVec 32 := 0#32
  let c0_i32_533 : BitVec 32 := 0#32
  let c0_i32_534 : BitVec 32 := 0#32
  ![v692.toNat, 0, 0, 0, 0]
def k0_off31 (d0 : Dev nD) (k0_t1 : Fin k0_t1_loop.trips) : Fin 4 → Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_524 : BitVec 32 := 0#32
  let c1_i32_280 : BitVec 32 := 1#32
  let c1_i32_281 : BitVec 32 := 1#32
  let arg16 : BitVec 32 := Scf.iv c1_i32_280 c1_i32_281 k0_t1
  let v686 : BitVec 32 := Scalar.subi c0_i32_524 arg16
  let v687 : BitVec 32 := Scalar.addi v2 v686
  let c16_i32_525 : BitVec 32 := 16#32
  let v688 : BitVec 32 := Scalar.addi v687 c16_i32_525
  let c16_i32_526 : BitVec 32 := 16#32
  let v689 : BitVec 32 := Scalar.remsi v688 c16_i32_526
  let c4_i32_527 : BitVec 32 := 4#32
  let v690 : BitVec 32 := Scalar.muli v689 c4_i32_527
  let c0_i32_536 : BitVec 32 := 0#32
  let c0_i32_537 : BitVec 32 := 0#32
  ![0, v690.toNat, 0, 0]
def k0_off32 (k0_t1 : Fin k0_t1_loop.trips) (c0_i32_529 : BitVec 32) : Fin 2 → Nat :=
  let c1_i32_280 : BitVec 32 := 1#32
  let c1_i32_281 : BitVec 32 := 1#32
  let arg16 : BitVec 32 := Scf.iv c1_i32_280 c1_i32_281 k0_t1
  let c2_i32_528 : BitVec 32 := 2#32
  let v691 : BitVec 32 := Scalar.remsi arg16 c2_i32_528
  let v692 : BitVec 32 := Scalar.addi c0_i32_529 v691
  let c1_i32_538 : BitVec 32 := 1#32
  ![v692.toNat, 1]
def k0_off33 (d0 : Dev nD) (k0_t1 : Fin k0_t1_loop.trips) : Fin 4 → Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let c1_i32_281 : BitVec 32 := 1#32
  let arg16 : BitVec 32 := Scf.iv c1_i32_280 c1_i32_281 k0_t1
  let v703 : BitVec 32 := Scalar.addi v2 arg16
  let c16_i32_546 : BitVec 32 := 16#32
  let v704 : BitVec 32 := Scalar.addi v703 c16_i32_546
  let c16_i32_547 : BitVec 32 := 16#32
  let v705 : BitVec 32 := Scalar.remsi v704 c16_i32_547
  let c4_i32_548 : BitVec 32 := 4#32
  let v706 : BitVec 32 := Scalar.muli v705 c4_i32_548
  let c0_i32_557 : BitVec 32 := 0#32
  let c0_i32_558 : BitVec 32 := 0#32
  ![0, v706.toNat, 0, 0]
def k0_off34 (k0_t1 : Fin k0_t1_loop.trips) : Fin 2 → Nat :=
  let c0_i32_573 : BitVec 32 := 0#32
  let c1_i32_280 : BitVec 32 := 1#32
  let c1_i32_281 : BitVec 32 := 1#32
  let arg16 : BitVec 32 := Scf.iv c1_i32_280 c1_i32_281 k0_t1
  let c1_i32_567 : BitVec 32 := 1#32
  let v719 : BitVec 32 := Scalar.addi arg16 c1_i32_567
  let c2_i32_572 : BitVec 32 := 2#32
  let v725 : BitVec 32 := Scalar.remsi v719 c2_i32_572
  let v726 : BitVec 32 := Scalar.addi c0_i32_573 v725
  let c0_i32_574 : BitVec 32 := 0#32
  ![v726.toNat, 0]
def k0_off35 (k0_t1 : Fin k0_t1_loop.trips) : Fin 5 → Nat :=
  let c0_i32_573 : BitVec 32 := 0#32
  let c1_i32_280 : BitVec 32 := 1#32
  let c1_i32_281 : BitVec 32 := 1#32
  let arg16 : BitVec 32 := Scf.iv c1_i32_280 c1_i32_281 k0_t1
  let c1_i32_567 : BitVec 32 := 1#32
  let v719 : BitVec 32 := Scalar.addi arg16 c1_i32_567
  let c2_i32_572 : BitVec 32 := 2#32
  let v725 : BitVec 32 := Scalar.remsi v719 c2_i32_572
  let v726 : BitVec 32 := Scalar.addi c0_i32_573 v725
  let c0_i32_575 : BitVec 32 := 0#32
  let c0_i32_576 : BitVec 32 := 0#32
  let c0_i32_577 : BitVec 32 := 0#32
  let c0_i32_578 : BitVec 32 := 0#32
  ![v726.toNat, 0, 0, 0, 0]
def k0_off36 (d0 : Dev nD) (k0_t1 : Fin k0_t1_loop.trips) : Fin 4 → Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_568 : BitVec 32 := 0#32
  let c1_i32_280 : BitVec 32 := 1#32
  let c1_i32_281 : BitVec 32 := 1#32
  let arg16 : BitVec 32 := Scf.iv c1_i32_280 c1_i32_281 k0_t1
  let c1_i32_567 : BitVec 32 := 1#32
  let v719 : BitVec 32 := Scalar.addi arg16 c1_i32_567
  let v720 : BitVec 32 := Scalar.subi c0_i32_568 v719
  let v721 : BitVec 32 := Scalar.addi v2 v720
  let c16_i32_569 : BitVec 32 := 16#32
  let v722 : BitVec 32 := Scalar.addi v721 c16_i32_569
  let c16_i32_570 : BitVec 32 := 16#32
  let v723 : BitVec 32 := Scalar.remsi v722 c16_i32_570
  let c4_i32_571 : BitVec 32 := 4#32
  let v724 : BitVec 32 := Scalar.muli v723 c4_i32_571
  let c0_i32_580 : BitVec 32 := 0#32
  let c0_i32_581 : BitVec 32 := 0#32
  ![0, v724.toNat, 0, 0]
def k0_off37 (k0_t1 : Fin k0_t1_loop.trips) : Fin 2 → Nat :=
  let c0_i32_573 : BitVec 32 := 0#32
  let c1_i32_280 : BitVec 32 := 1#32
  let c1_i32_281 : BitVec 32 := 1#32
  let arg16 : BitVec 32 := Scf.iv c1_i32_280 c1_i32_281 k0_t1
  let c1_i32_567 : BitVec 32 := 1#32
  let v719 : BitVec 32 := Scalar.addi arg16 c1_i32_567
  let c2_i32_572 : BitVec 32 := 2#32
  let v725 : BitVec 32 := Scalar.remsi v719 c2_i32_572
  let v726 : BitVec 32 := Scalar.addi c0_i32_573 v725
  let c1_i32_582 : BitVec 32 := 1#32
  ![v726.toNat, 1]
def k0_cond3 (k0_t1 : Fin k0_t1_loop.trips) : BitVec 1 :=
  let c1_i32_280 : BitVec 32 := 1#32
  let c1_i32_281 : BitVec 32 := 1#32
  let arg16 : BitVec 32 := Scf.iv c1_i32_280 c1_i32_281 k0_t1
  let c7_i32_590 : BitVec 32 := 7#32
  let v737 : BitVec 1 := Scalar.cmpi .slt arg16 c7_i32_590
  let v738 : BitVec 32 := Scalar.extui v737
  let c0_i32_591 : BitVec 32 := 0#32
  let v739 : BitVec 1 := Scalar.cmpi .ne v738 c0_i32_591
  v739

def k0_off38 (k0_t1 : Fin k0_t1_loop.trips) : Fin 2 → Nat :=
  let c2_i32_822 : BitVec 32 := 2#32
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let c2_i32_821 : BitVec 32 := 2#32
  let v1162 : BitVec 32 := Scalar.remsi v1157 c2_i32_821
  let v1163 : BitVec 32 := Scalar.addi c2_i32_822 v1162
  let c0_i32_823 : BitVec 32 := 0#32
  ![v1163.toNat, 0]
def k0_off39 (k0_t1 : Fin k0_t1_loop.trips) : Fin 5 → Nat :=
  let c2_i32_822 : BitVec 32 := 2#32
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let c2_i32_821 : BitVec 32 := 2#32
  let v1162 : BitVec 32 := Scalar.remsi v1157 c2_i32_821
  let v1163 : BitVec 32 := Scalar.addi c2_i32_822 v1162
  let c0_i32_824 : BitVec 32 := 0#32
  let c0_i32_825 : BitVec 32 := 0#32
  let c0_i32_826 : BitVec 32 := 0#32
  let c0_i32_827 : BitVec 32 := 0#32
  ![v1163.toNat, 0, 0, 0, 0]
def k0_off40 (d0 : Dev nD) (k0_t1 : Fin k0_t1_loop.trips) : Fin 4 → Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let v1158 : BitVec 32 := Scalar.addi v2 v1157
  let c16_i32_818 : BitVec 32 := 16#32
  let v1159 : BitVec 32 := Scalar.addi v1158 c16_i32_818
  let c16_i32_819 : BitVec 32 := 16#32
  let v1160 : BitVec 32 := Scalar.remsi v1159 c16_i32_819
  let c4_i32_820 : BitVec 32 := 4#32
  let v1161 : BitVec 32 := Scalar.muli v1160 c4_i32_820
  let c0_i32_829 : BitVec 32 := 0#32
  let c0_i32_830 : BitVec 32 := 0#32
  ![0, v1161.toNat, 0, 0]
def k0_off41 (k0_t1 : Fin k0_t1_loop.trips) : Fin 2 → Nat :=
  let c2_i32_822 : BitVec 32 := 2#32
  let c1_i32_280 : BitVec 32 := 1#32
  let c1_i32_281 : BitVec 32 := 1#32
  let arg16 : BitVec 32 := Scf.iv c1_i32_280 c1_i32_281 k0_t1
  let c1_i32_817 : BitVec 32 := 1#32
  let v1157 : BitVec 32 := Scalar.addi arg16 c1_i32_817
  let c2_i32_821 : BitVec 32 := 2#32
  let v1162 : BitVec 32 := Scalar.remsi v1157 c2_i32_821
  let v1163 : BitVec 32 := Scalar.addi c2_i32_822 v1162
  let c1_i32_831 : BitVec 32 := 1#32
  ![v1163.toNat, 1]
def k0_off42 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let v741 : Index := Scalar.indexCast arg16
  let c0_593 : Index := 0#32
  let c0_594 : Index := 0#32
  let c0_595 : Index := 0#32
  ![v741.toNat, 0, 0, 0]
def k0_off43 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let v744 : Index := Scalar.indexCast arg16
  let c1_596 : Index := 1#32
  let c0_597 : Index := 0#32
  let c0_598 : Index := 0#32
  ![v744.toNat, 1, 0, 0]
def k0_off44 (k0_t1 : Fin k0_t1_loop.trips) : Fin 5 → Nat :=
  let c1_i32_280 : BitVec 32 := 1#32
  let c1_i32_281 : BitVec 32 := 1#32
  let arg16 : BitVec 32 := Scf.iv c1_i32_280 c1_i32_281 k0_t1
  let c2_i32_592 : BitVec 32 := 2#32
  let v740 : BitVec 32 := Scalar.remsi arg16 c2_i32_592
  let v747 : Index := Scalar.indexCast v740
  let c0_599 : Index := 0#32
  let c0_600 : Index := 0#32
  let c0_601 : Index := 0#32
  let c0_602 : Index := 0#32
  ![v747.toNat, 0, 0, 0, 0]
def k0_off45 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let v936 : Index := Scalar.indexCast arg16
  let c0_686 : Index := 0#32
  let c0_687 : Index := 0#32
  let c0_688 : Index := 0#32
  ![v936.toNat, 0, 0, 0]
def k0_off46 (k0_t1 : Fin k0_t1_loop.trips) : Fin 4 → Nat :=
  let c1_i32_280 : BitVec 32 := 1#32
  let c1_i32_281 : BitVec 32 := 1#32
  let arg16 : BitVec 32 := Scf.iv c1_i32_280 c1_i32_281 k0_t1
  let v939 : Index := Scalar.indexCast arg16
  let c1_689 : Index := 1#32
  let c0_690 : Index := 0#32
  let c0_691 : Index := 0#32
  ![v939.toNat, 1, 0, 0]
def k0_off47 (k0_t1 : Fin k0_t1_loop.trips) : Fin 5 → Nat :=
  let c2_i32_685 : BitVec 32 := 2#32
  let c1_i32_280 : BitVec 32 := 1#32
  let c1_i32_281 : BitVec 32 := 1#32
  let arg16 : BitVec 32 := Scf.iv c1_i32_280 c1_i32_281 k0_t1
  let c2_i32_684 : BitVec 32 := 2#32
  let v934 : BitVec 32 := Scalar.remsi arg16 c2_i32_684
  let v935 : BitVec 32 := Scalar.addi c2_i32_685 v934
  let v942 : Index := Scalar.indexCast v935
  let c0_692 : Index := 0#32
  let c0_693 : Index := 0#32
  let c0_694 : Index := 0#32
  let c0_695 : Index := 0#32
  ![v942.toNat, 0, 0, 0, 0]
def k0_off48 : Fin 5 → Nat :=
  let c8_i32_332 : BitVec 32 := 8#32
  let c2_i32_333 : BitVec 32 := 2#32
  let v416 : BitVec 32 := Scalar.remsi c8_i32_332 c2_i32_333
  let v421 : Index := Scalar.indexCast v416
  let c0_341 : Index := 0#32
  let c0_342 : Index := 0#32
  let c0_343 : Index := 0#32
  let c0_344 : Index := 0#32
  ![v421.toNat, 0, 0, 0, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "masked" => some ⊥
  | _ => none
-- ==== ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S32x256x4096 : Shape := ⟨3, ![32, 256, 4096]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32x64x256x256 : Shape := ⟨4, ![32, 64, 256, 256]⟩
abbrev S1x1x256x256 : Shape := ⟨4, ![1, 1, 256, 256]⟩
abbrev S32x64x256 : Shape := ⟨3, ![32, 64, 256]⟩
abbrev S32x64x256x1 : Shape := ⟨4, ![32, 64, 256, 1]⟩
abbrev S1x1x256x1 : Shape := ⟨4, ![1, 1, 256, 1]⟩
abbrev S32x64x64x256 : Shape := ⟨4, ![32, 64, 64, 256]⟩

abbrev nBuf : Space → Nat
  | .hbm => 123
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S512x4096, .f32⟩
  | .hbm, ⟨2, _⟩ => ⟨S32x256x64x64, .f32⟩
  | .hbm, ⟨3, _⟩ => ⟨S32x256x64x64, .f32⟩
  | .hbm, ⟨4, _⟩ => ⟨S4096x512, .f32⟩
  | .hbm, ⟨5, _⟩ => ⟨S32x256x4096, .f32⟩
  | .hbm, ⟨6, _⟩ => ⟨S32x256x64x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S256x256, .i1⟩
  | .hbm, ⟨54, _⟩ => ⟨S256x256, .i1⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S_, .i32⟩
  | .hbm, ⟨73, _⟩ => ⟨S_, .i1⟩
  | .hbm, ⟨74, _⟩ => ⟨S256x256, .i1⟩
  | .hbm, ⟨75, _⟩ => ⟨S256x256, .i1⟩
  | .hbm, ⟨76, _⟩ => ⟨S256x256, .i1⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S256x256, .i32⟩
  | .hbm, ⟨82, _⟩ => ⟨S256x256, .i1⟩
  | .hbm, ⟨83, _⟩ => ⟨S256x256, .i1⟩
  | .hbm, ⟨84, _⟩ => ⟨S32x64x256x256, .f32⟩
  | .hbm, ⟨85, _⟩ => ⟨S_, .f32⟩
  | .hbm, ⟨86, _⟩ => ⟨S32x64x256x256, .f32⟩
  | .hbm, ⟨87, _⟩ => ⟨S32x64x256x256, .f32⟩
  | .hbm, ⟨88, _⟩ => ⟨S1x1x256x256, .i1⟩
  | .hbm, ⟨89, _⟩ => ⟨S_, .f32⟩
  | .hbm, ⟨90, _⟩ => ⟨S_, .f32⟩
  | .hbm, ⟨91, _⟩ => ⟨S32x64x256x256, .i1⟩
  | .hbm, ⟨92, _⟩ => ⟨S32x64x256x256, .f32⟩
  | .hbm, ⟨93, _⟩ => ⟨S32x64x256x256, .f32⟩
  | .hbm, ⟨94, _⟩ => ⟨S_, .f32⟩
  | .hbm, ⟨95, _⟩ => ⟨S32x64x256, .f32⟩
  | .hbm, ⟨96, _⟩ => ⟨S32x64x256x1, .f32⟩
  | .hbm, ⟨97, _⟩ => ⟨S32x64x256x256, .f32⟩
  | .hbm, ⟨98, _⟩ => ⟨S32x64x256x256, .f32⟩
  | .hbm, ⟨99, _⟩ => ⟨S32x64x256x256, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S32x64x256, .f32⟩
  | .hbm, ⟨105, _⟩ => ⟨S32x64x256x1, .f32⟩
  | .hbm, ⟨106, _⟩ => ⟨S_, .f32⟩
  | .hbm, ⟨107, _⟩ => ⟨S_, .f32⟩
  | .hbm, ⟨108, _⟩ => ⟨S32x64x256x1, .i1⟩
  | .hbm, ⟨109, _⟩ => ⟨S32x64x256x1, .f32⟩
  | .hbm, ⟨110, _⟩ => ⟨S32x64x256x1, .f32⟩
  | .hbm, ⟨111, _⟩ => ⟨S32x64x256x256, .f32⟩
  | .hbm, ⟨112, _⟩ => ⟨S32x64x256x256, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S32x64x256x256, .i1⟩
  | .hbm, ⟨117, _⟩ => ⟨S32x64x256x256, .f32⟩
  | .hbm, ⟨118, _⟩ => ⟨S32x64x256x256, .f32⟩
  | .hbm, ⟨119, _⟩ => ⟨S32x64x64x256, .f32⟩
  | .hbm, ⟨120, _⟩ => ⟨S32x256x64x64, .f32⟩
  | .hbm, ⟨121, _⟩ => ⟨S32x256x4096, .f32⟩
  | .hbm, ⟨122, _⟩ => ⟨S32x256x512, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.K.Run.lean ====
/- The run of the kernel's program: its results, its arguments, its counters. -/
module

public import proofs.«01_k».proof.Proof.K.Launch

@[expose] public section

set_option maxRecDepth 10000

noncomputable section

namespace Cert.KProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable [∀ e, Nonempty (Elt F e)] (m : (ℓ : Loc nD τ sig) → Buf (Elt F) ℓ) (c : Dev nD)

variable (ρ : Dev nD → PrngReg)

theorem Vend_of (r : Ref sig .tc) (hn : (Proc.devRef .tc r : DevRef τ sig) ≠ Proc.devRef .tc main_v19) (hw : r ∉ hostOps0_W) :
    Vend m c (Proc.devRef .tc r) = m ((c.tc : Thread nD τ).loc r) :=
  (Function.update_of_ne hn _ _).trans (V1_of m c r hw)

theorem Vend_out : Vend m c (Proc.devRef .tc main_v19) = outV m c := Function.update_self _ _ _

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- What the run leaves: the kernel's result on every device, the arguments as they were, every counter at zero. -/
theorem run_result : θ_run defs (onTc (τ := τ) (main (F := F))) ⟨m, fun _ => 0, ρ⟩ (fun r =>
    (∀ c : Dev nD, r.2.mem ((c.tc : Thread nD τ).loc main_v19) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs (onTc (τ := τ) (main (F := F))) ⟨m, fun _ => 0, ρ⟩).mono (fun r h => ⟨fun c =>
    ⟨(h.1 c _ (mem_uc main_v19 (by decide))).trans (Vend_out m c),
     (h.1 c _ (mem_uc main_arg0 (by decide))).trans (Vend_of m c main_arg0 (by decide) (by decide)),
     (h.1 c _ (mem_uc main_arg1 (by decide))).trans (Vend_of m c main_arg1 (by decide) (by decide)),
     (h.1 c _ (mem_uc main_arg2 (by decide))).trans (Vend_of m c main_arg2 (by decide) (by decide)),
     (h.1 c _ (mem_uc main_arg3 (by decide))).trans (Vend_of m c main_arg3 (by decide) (by decide)),
     (h.1 c _ (mem_uc main_arg4 (by decide))).trans (Vend_of m c main_arg4 (by decide) (by decide))⟩, h.2⟩) (run_all m ρ)

end Cert.KProof

end
-- ==== Proof.KI.Common.lean ====
/- The protocol of the two-directional ring: devices, slots, cells, what each cell hands over, and what a device owes.

   Sixteen devices stand in a ring. Every device has two chains of landing slots: `gR` (nine rows) is filled from the
   left neighbour and passed on to the right one, `gL` (eight rows) the other way about. Row 0 holds the device's own
   two weight blocks; row `h` of `gR` on device `c` ends up holding the blocks of device `c - h`, row `h` of `gL` those of
   device `c + h`. A row has two entries (`s = 0`: the block of `Wq`; `s = 1`: the block of `Wo` transposed).

   * Barrier cell of `c`: one unit from each neighbour. The neighbour on side `X` hands over its rows `1, 2, …` of the
     chain `X`, at whatever they hold, for `c` is the one who will write them.
   * Receive cell `(X, h, s)` of `c`: credited by the neighbour's copy; hands over `c`'s own slot, filled.
   * Send cell `(X, h, s)` of `c`: credited by `c`'s own copy out of row `h - 1`; hands back the half share of that
     row's slot that was lent to the copy (the other half serves the loads made while the copy flies). -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Directions and devices -/

/-- The two chains: `R` is passed to the right neighbour, `L` to the left one. -/
inductive Dir | R | L
deriving DecidableEq

instance : Fintype Dir := ⟨{.R, .L}, fun X => by cases X <;> decide⟩
theorem univ_Dir : (Finset.univ : Finset Dir) = {.R, .L} := rfl

/-- The rows of a chain (row 0 is the device's own blocks). -/
def hops : Dir → ℕ | .R => 9 | .L => 8

/-- The neighbour a device sends chain `X` to, and the one it gets it from. -/
def nxt : Dir → Dev nD → Dev nD
  | .R, c => ⟨(c.val + 1) % 16, Nat.mod_lt _ (by decide)⟩
  | .L, c => ⟨(c.val + 15) % 16, Nat.mod_lt _ (by decide)⟩
def prv : Dir → Dev nD → Dev nD
  | .R, c => ⟨(c.val + 15) % 16, Nat.mod_lt _ (by decide)⟩
  | .L, c => ⟨(c.val + 1) % 16, Nat.mod_lt _ (by decide)⟩

theorem nxt_prv (X : Dir) (c : Dev nD) : nxt X (prv X c) = c := by revert c; cases X <;> decide
theorem prv_nxt (X : Dir) (c : Dev nD) : prv X (nxt X c) = c := by revert c; cases X <;> decide

/-- The device whose blocks row `h` of chain `X` holds on device `c`. -/
def srcDev : Dir → Dev nD → ℕ → Dev nD
  | .R, c, h => ⟨(c.val + 15 * h) % 16, Nat.mod_lt _ (by decide)⟩
  | .L, c, h => ⟨(c.val + h) % 16, Nat.mod_lt _ (by decide)⟩

theorem srcDev_zero (X : Dir) (c : Dev nD) : srcDev X c 0 = c := by
  have := c.isLt; cases X <;> exact Fin.ext (by show (_ : ℕ) % 16 = _; have : c.val < 16 := c.isLt; omega)
theorem srcDev_prv (X : Dir) (c : Dev nD) (h : ℕ) : srcDev X (prv X c) h = srcDev X c (h + 1) := by
  cases X
  · exact Fin.ext (by show ((c.val + 15) % 16 + 15 * h) % 16 = (c.val + 15 * (h + 1)) % 16; omega)
  · exact Fin.ext (by show ((c.val + 1) % 16 + h) % 16 = (c.val + (h + 1)) % 16; omega)

/-! ## The arrays the kernel works on -/

/-- What the devices hold when the kernel starts: the rows of `x`, the column block of `Wq`, the row block of `Wo`
    transposed, and the keys and values of the device's two batch entries, heads first. -/
structure Inp (F : FTy → Type) where
  x : Dev nD → FVec F S512x512 .f32
  wq : Dev nD → FVec F S512x256 .f32
  wt : Dev nD → FVec F S512x256 .f32
  k : Dev nD → FVec F S2x64x256x64 .f32
  v : Dev nD → FVec F S2x64x256x64 .f32

variable (I : Inp F)

/-- The two weight blocks of a device. -/
def Inp.w (d : Dev nD) (s : ℕ) : FVec F S512x256 .f32 := if s = 0 then I.wq d else I.wt d

/-- The landing buffer of a chain. -/
abbrev gRef : Dir → Ref sig .tc | .R => cc0_scratch0 | .L => cc0_scratch1

def idx2 (a : Fin 512) (b : Fin 256) : S512x256.Idx := fun | 0 => a | 1 => b

/-- What the whole landing buffer of chain `X` holds in the end: row `h`, entry `s` is block `s` of device `srcDev X c h`. -/
def gFin : (X : Dir) → (c : Dev nD) → Buf (Elt F) ((c : Thread nD τ).loc (gRef X))
  | .R, c => fun i => I.w (srcDev .R c (i 0).val) (i 1).val (idx2 (i 2) (i 3))
  | .L, c => fun i => I.w (srcDev .L c (i 0).val) (i 1).val (idx2 (i 2) (i 3))

/-- The elements of slot `(h, s)`. -/
def slotSet : (X : Dir) → (c : Dev nD) → ℕ → ℕ → Finset (Idx ((c : Thread nD τ).loc (gRef X)))
  | .R, c, h, s => Finset.univ.filter fun i : S9x2x512x256.Idx => (i 0).val = h ∧ (i 1).val = s
  | .L, c, h, s => Finset.univ.filter fun i : S8x2x512x256.Idx => (i 0).val = h ∧ (i 1).val = s

/-! ## The algebra -/

abbrev UB : Type := URounds (GSem nD τ sig) Dir
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig Unit (Elt F) ℕ UU ℕ) := countersEmb (U := UU)

/-! ## Cells -/

/-- The send and the receive semaphore of copy `(X, h, s)`: entries of the four scratch arrays. -/
def sSem (X : Dir) (h s : ℕ) : DmaSem sig := ⟨(match X with | .R => 4 + 2 * h + s | .L => 40 + 2 * h + s) % 80, Nat.mod_lt _ (by decide)⟩
def rSem (X : Dir) (h s : ℕ) : DmaSem sig := ⟨(match X with | .R => 22 + 2 * h + s | .L => 56 + 2 * h + s) % 80, Nat.mod_lt _ (by decide)⟩

abbrev barCell (c : Dev nD) : GSem nD τ sig := ((c : Thread nD τ), .reg (sig.barrier 0 rfl))
abbrev sCell (X : Dir) (c : Dev nD) (h s : ℕ) : GSem nD τ sig := ((c : Thread nD τ), .dma (sSem X h s))
abbrev rCell (X : Dir) (c : Dev nD) (h s : ℕ) : GSem nD τ sig := ((c : Thread nD τ), .dma (rSem X h s))

/-- The units one copy of a weight block credits. -/
abbrev N : ℕ := (Memref.whole cc0_stg1_0 : Memref sig .tc .vmem S512x256 .f32).view.dmaCredit
theorem N_pos : 0 < N := View.dmaCredit_pos _ (by decide)

/-! ## Slots -/

/-- Slot `(h, s)` of chain `X` on device `c`, holding what it holds in the end, at share `q`; -/
def slotQ (X : Dir) (c : Dev nD) (h s : ℕ) (q : PosShare TreeShare) : sProp 𝕄 :=
  ((c : Thread nD τ).loc (gRef X)) ↦[slotSet X c h s]{q} gFin I X c
/-- and at any contents, the whole share. -/
def slotAny (X : Dir) (c : Dev nD) (h s : ℕ) : sProp 𝕄 :=
  iprop(∃ f : Buf (Elt F) ((c : Thread nD τ).loc (gRef X)), ((c : Thread nD τ).loc (gRef X)) ↦[slotSet X c h s]{fullShare} f)

instance slotQ_storable (X : Dir) (c : Dev nD) (h s : ℕ) (q : PosShare TreeShare) : BI.Storable (upEmb : UEmb _ 𝕄) (slotQ I X c h s q) := by
  unfold slotQ; infer_instance
instance slotAny_storable (X : Dir) (c : Dev nD) (h s : ℕ) : BI.Storable (upEmb : UEmb _ 𝕄) (slotAny (F := F) X c h s) := by
  unfold slotAny; infer_instance

/-! ## The schedule -/

/-- What the neighbour on side `X` hands to device `d` with its barrier unit: its slots of chain `X`, and that the receive
    cells of those slots are open. -/
def barPay (d : Dev nD) (X : Dir) : sProp 𝕄 :=
  bigSep (Finset.Ico 1 (hops X)) fun h => iprop((slotAny X (nxt X d) h 0 ∗ reached ER (rCell X (nxt X d) h 0) 0)
    ∗ (slotAny X (nxt X d) h 1 ∗ reached ER (rCell X (nxt X d) h 1) 0))

/-- What a credited DMA cell hands over, by the semaphore's number. -/
def dmaPay (c : Dev nD) (n : ℕ) : sProp 𝕄 :=
  if n < 22 then slotQ I .R c ((n - 4) / 2 - 1) ((n - 4) % 2) fullShare.left
  else if n < 40 then slotQ I .R c ((n - 22) / 2) ((n - 22) % 2) fullShare
  else if n < 56 then slotQ I .L c ((n - 40) / 2 - 1) ((n - 40) % 2) fullShare.left
  else slotQ I .L c ((n - 56) / 2) ((n - 56) % 2) fullShare

/-- The numbers of the semaphores that rows 1, 2, … use. -/
def talks (n : ℕ) : Prop := (6 ≤ n ∧ n < 22) ∨ (24 ≤ n ∧ n < 40) ∨ (42 ≤ n ∧ n < 56) ∨ (58 ≤ n ∧ n < 72)
instance : DecidablePred talks := fun n => by unfold talks; infer_instance

def dutiesOf : SemLoc sig → Finset Dir
  | .reg _ => Finset.univ
  | .dma q => if talks q.val then {.R} else ∅
def amountOf' : SemLoc sig → ℕ
  | .reg _ => 1
  | .dma _ => N
def payOf (c : Dev nD) (d : Dir) : SemLoc sig → sProp 𝕄
  | .reg _ => barPay c d
  | .dma q => dmaPay I c q.val

def rd : Rounds.Schedule (GSem nD τ sig) Dir 𝕄 where
  duties g r := if r = 0 ∧ g.1.2 = .tc then dutiesOf g.2 else ∅
  unitless _ := False
  amount g _ _ := amountOf' g.2
  payload g _ d := payOf I g.1.1 d g.2
  amount_pos g _ _ _ := by
    rcases g with ⟨t, b | q⟩
    · exact Nat.one_pos
    · exact N_pos

instance rd_storable (g : GSem nD τ sig) (r : ℕ) (d : Dir) : BI.Storable (upEmb : UEmb _ 𝕄) ((rd I).payload g r d) := by
  rcases g with ⟨t, b | q⟩
  · show BI.Storable upEmb (barPay t.1 d); unfold barPay; infer_instance
  · show BI.Storable upEmb (dmaPay I t.1 q.val); unfold dmaPay; (repeat' split) <;> infer_instance

theorem duties_later (g : GSem nD τ sig) : ∀ r, 1 ≤ r → (rd I).duties g r = ∅ :=
  fun r hr => by dsimp only [rd]; exact if_neg fun h => by omega

/-- Row `h` and entry `s` of chain `X` are in use. -/
structure Used (X : Dir) (h s : ℕ) : Prop where
  pos : 1 ≤ h
  lt : h < hops X
  s2 : s < 2

section Tables

variable {X : Dir} {h s : ℕ} (u : Used X h s) (c : Dev nD)

include u

theorem sSem_val : (sSem X h s).val = (match X with | .R => 4 + 2 * h + s | .L => 40 + 2 * h + s) := by
  obtain ⟨h1, h2, h3⟩ := u
  cases X <;> simp only [hops] at h2 <;> exact Nat.mod_eq_of_lt (by dsimp only; omega)
theorem rSem_val : (rSem X h s).val = (match X with | .R => 22 + 2 * h + s | .L => 56 + 2 * h + s) := by
  obtain ⟨h1, h2, h3⟩ := u
  cases X <;> simp only [hops] at h2 <;> exact Nat.mod_eq_of_lt (by dsimp only; omega)
theorem talks_s : talks (sSem X h s).val := by
  rw [sSem_val u]; obtain ⟨h1, h2, h3⟩ := u; cases X <;> simp only [hops] at h2 <;> simp only [talks] <;> omega
theorem talks_r : talks (rSem X h s).val := by
  rw [rSem_val u]; obtain ⟨h1, h2, h3⟩ := u; cases X <;> simp only [hops] at h2 <;> simp only [talks] <;> omega

theorem duties_s : (rd I).duties (sCell X c h s) 0 = {.R} := by
  dsimp only [rd]; rw [if_pos ⟨rfl, rfl⟩]; exact if_pos (talks_s u)
theorem duties_r : (rd I).duties (rCell X c h s) 0 = {.R} := by
  dsimp only [rd]; rw [if_pos ⟨rfl, rfl⟩]; exact if_pos (talks_r u)
theorem payload_s : (rd I).payload (sCell X c h s) 0 .R = slotQ I X c (h - 1) s fullShare.left := by
  show dmaPay I c (sSem X h s).val = _
  rw [sSem_val u]; obtain ⟨h1, h2, h3⟩ := u
  cases X <;> simp only [hops] at h2 <;> unfold dmaPay <;> dsimp only
  · rw [if_pos (by omega), show (4 + 2 * h + s - 4) / 2 = h by omega, show (4 + 2 * h + s - 4) % 2 = s by omega]
  · rw [if_neg (by omega), if_neg (by omega), if_pos (by omega), show (40 + 2 * h + s - 40) / 2 = h by omega, show (40 + 2 * h + s - 40) % 2 = s by omega]
theorem payload_r : (rd I).payload (rCell X c h s) 0 .R = slotQ I X c h s fullShare := by
  show dmaPay I c (rSem X h s).val = _
  rw [rSem_val u]; obtain ⟨h1, h2, h3⟩ := u
  cases X <;> simp only [hops] at h2 <;> unfold dmaPay <;> dsimp only
  · rw [if_neg (by omega), if_pos (by omega), show (22 + 2 * h + s - 22) / 2 = h by omega, show (22 + 2 * h + s - 22) % 2 = s by omega]
  · rw [if_neg (by omega), if_neg (by omega), if_neg (by omega), show (56 + 2 * h + s - 56) / 2 = h by omega, show (56 + 2 * h + s - 56) % 2 = s by omega]

theorem expect_s : (rd I).expect (sCell X c h s) 0 = N := by
  unfold Schedule.expect Schedule.amountOf; rw [duties_s I u, Finset.sum_singleton]; rfl
theorem expect_r : (rd I).expect (rCell X c h s) 0 = N := by
  unfold Schedule.expect Schedule.amountOf; rw [duties_r I u, Finset.sum_singleton]; rfl
theorem rest_s : bigSep ((rd I).duties (sCell X c h s) 0 \ ∅) (fun d => (rd I).payload (sCell X c h s) 0 d) = slotQ I X c (h - 1) s fullShare.left := by
  rw [Finset.sdiff_empty, duties_s I u, bigSep_singleton, payload_s I u]
theorem rest_r : bigSep ((rd I).duties (rCell X c h s) 0 \ ∅) (fun d => (rd I).payload (rCell X c h s) 0 d) = slotQ I X c h s fullShare := by
  rw [Finset.sdiff_empty, duties_r I u, bigSep_singleton, payload_r I u]

end Tables

theorem duties_bar (c : Dev nD) : (rd I).duties (barCell c) 0 = Finset.univ := by dsimp only [rd]; rw [if_pos ⟨rfl, rfl⟩]; rfl
theorem payload_bar (c : Dev nD) (X : Dir) : (rd I).payload (barCell c) 0 X = barPay c X := rfl
theorem expect_bar (c : Dev nD) : (rd I).expect (barCell c) 0 = 2 := by
  unfold Schedule.expect Schedule.amountOf; rw [duties_bar]; rfl
theorem bigSep_Dir (Φ : Dir → sProp 𝕄) : bigSep Finset.univ Φ = iprop(Φ .R ∗ Φ .L) := by
  rw [univ_Dir, bigSep_insert (by decide), bigSep_singleton]; rfl
theorem rest_bar (c : Dev nD) : bigSep ((rd I).duties (barCell c) 0 \ ∅) (fun d => (rd I).payload (barCell c) 0 d) = iprop(barPay c .R ∗ barPay c .L) := by
  rw [Finset.sdiff_empty, duties_bar, bigSep_Dir]; rfl

/-! ## What a device owes, and the levels -/

/-- The receive credits device `c` still owes its neighbour for the rows of chain `X` above `h`. -/
def owedX (X : Dir) (c : Dev nD) (h : ℕ) : CellTallies nD τ sig Unit :=
  ∑ j ∈ Finset.Ico (h + 1) (hops X), (tallyAt (rCell X (nxt X c) j 1) () N + tallyAt (rCell X (nxt X c) j 0) () N)

theorem owedX_step (X : Dir) (c : Dev nD) (h : ℕ) (hh : h + 1 < hops X) :
    owedX X c h = (owedX X c (h + 1) + tallyAt (rCell X (nxt X c) (h + 1) 1) () N) + tallyAt (rCell X (nxt X c) (h + 1) 0) () N := by
  unfold owedX; rw [Finset.sum_eq_sum_Ico_succ_bot hh]; exact (add_comm _ _).trans (add_assoc _ _ _).symm
theorem owedX_last (X : Dir) (c : Dev nD) (h : ℕ) (hh : hops X ≤ h + 1) : owedX X c h = 0 := by
  unfold owedX; rw [Finset.Ico_eq_empty (by omega), Finset.sum_empty]

/-- What a device owes when the kernel starts: all its receive credits, and a unit to either neighbour's barrier. -/
def O₀ (c : Dev nD) : CellTallies nD τ sig Unit :=
  ((owedX .R c 0 + owedX .L c 0) + tallyAt (barCell (nxt .R c)) () 1) + tallyAt (barCell (nxt .L c)) () 1

def L (g : GSem nD τ sig) : Finset Unit := if g.1.2 = .tc then {()} else ∅
def lvOf : SemLoc sig → ℕ
  | .reg _ => 1
  | .dma q => if 22 ≤ q.val ∧ q.val < 40 then (q.val - 22) / 2 + 1 else if 56 ≤ q.val ∧ q.val < 72 then (q.val - 56) / 2 + 1 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_r {X : Dir} {h s : ℕ} (u : Used X h s) (c : Dev nD) : lv (rCell X c h s) () = h + 1 := by
  show lvOf (.dma (rSem X h s)) = _
  unfold lvOf; dsimp only; rw [rSem_val u]; obtain ⟨h1, h2, h3⟩ := u
  cases X <;> simp only [hops] at h2 <;> dsimp only
  · rw [if_pos (by omega)]; omega
  · rw [if_neg (by omega), if_pos (by omega)]; omega
theorem lv_s {X : Dir} {h s : ℕ} (u : Used X h s) (c : Dev nD) : lv (sCell X c h s) () = 0 := by
  show lvOf (.dma (sSem X h s)) = _
  unfold lvOf; dsimp only; rw [sSem_val u]; obtain ⟨h1, h2, h3⟩ := u
  cases X <;> simp only [hops] at h2 <;> dsimp only <;> rw [if_neg (by omega), if_neg (by omega)]

/-- Everything owed in `O` sits at cells of TensorCores at levels above `b`. -/
def Above (b : ℕ) (O : CellTallies nD τ sig Unit) : Prop := ∀ g (i : Unit), 0 < O g i → i ∈ L g ∧ b < lv g i

theorem Above.zero (b : ℕ) : Above b 0 := fun g i h => absurd h (Nat.lt_irrefl 0)
theorem Above.add {b : ℕ} {O O' : CellTallies nD τ sig Unit} (h : Above b O) (h' : Above b O') : Above b (O + O') := fun g i hg => by
  rw [Pi.add_apply, Finsupp.add_apply] at hg
  rcases Nat.eq_zero_or_pos (O g i) with h0 | h0
  · exact h' g i (by omega)
  · exact h g i h0
theorem Above.tally {b : ℕ} {c : Dev nD} {sm : SemLoc sig} {n : ℕ} (h : b < lv ((c : Thread nD τ), sm) ()) :
    Above b (tallyAt ((c : Thread nD τ), sm) () n) := fun g i hg => by
  rw [tallyAt_apply] at hg
  by_cases e : g = ((c : Thread nD τ), sm) ∧ i = ()
  · rw [e.1, L_tc]; exact ⟨Finset.mem_singleton_self _, h⟩
  · rw [if_neg e] at hg; exact absurd hg (Nat.lt_irrefl 0)
theorem Above.mono {b b' : ℕ} {O : CellTallies nD τ sig Unit} (h : Above b O) (hb : b' ≤ b) : Above b' O :=
  fun g i hg => ⟨(h g i hg).1, lt_of_le_of_lt hb (h g i hg).2⟩
theorem Above.sum {b : ℕ} (S : Finset ℕ) (f : ℕ → CellTallies nD τ sig Unit) (h : ∀ j ∈ S, Above b (f j)) : Above b (∑ j ∈ S, f j) := by
  induction S using Finset.induction_on with
  | empty => exact Above.zero b
  | insert j S hj ih =>
    rw [Finset.sum_insert hj]
    exact (h j (Finset.mem_insert_self _ _)).add (ih fun i hi => h i (Finset.mem_insert_of_mem hi))
theorem above_owedX (X : Dir) (c : Dev nD) (h : ℕ) : Above (h + 1) (owedX X c h) := Above.sum _ _ fun j hj => by
  rw [Finset.mem_Ico] at hj
  exact (Above.tally (by rw [lv_r ⟨by omega, hj.2, by omega⟩]; omega)).add (Above.tally (by rw [lv_r ⟨by omega, hj.2, by omega⟩]; omega))

theorem mayWait_above (c : Dev nD) (sm : SemLoc sig) (b : ℕ) (hb : lv ((c : Thread nD τ), sm) () ≤ b) {O : CellTallies nD τ sig Unit} (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g i hg => (hO g i hg).1) (fun p hp => by rw [Finset.mem_singleton.mp hp]; exact hb) (fun g i hg => (hO g i hg).2)

end Cert.KIProof

end
-- ==== Proof.KI.Slots.lean ====
/- The slots of the landing buffers as the kernel addresses them: which elements a slot's view has, what a copy into it
   writes, what a load of it reads; and the semaphore arrays' entries as numbers. -/
module

public import proofs.«01_k».proof.Proof.KI.Common
public import Idealize.ShloMosaic.Lib.ViewIndex

@[expose] public section

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

/-- Slot views, at an offset. -/
abbrev slotR (off : Fin 4 → ℕ) (inb : ∀ a, off a + S1x1x512x256.size a ≤ S9x2x512x256.size a) : Memref sig .tc .vmem S512x256 .f32 :=
  ((Memref.whole cc0_scratch0 : Memref sig .tc .vmem S9x2x512x256 .f32).slice (Rect.unit (s := S9x2x512x256) off S1x1x512x256.size inb) (fun _ => rfl)).squeeze
    S512x256 squeezes_S1x1x512x256_S512x256
abbrev slotL (off : Fin 4 → ℕ) (inb : ∀ a, off a + S1x1x512x256.size a ≤ S8x2x512x256.size a) : Memref sig .tc .vmem S512x256 .f32 :=
  ((Memref.whole cc0_scratch1 : Memref sig .tc .vmem S8x2x512x256 .f32).slice (Rect.unit (s := S8x2x512x256) off S1x1x512x256.size inb) (fun _ => rfl)).squeeze
    S512x256 squeezes_S1x1x512x256_S512x256

theorem unsqueeze (hn : S512x256.numel = S1x1x512x256.numel) (x : S512x256.Idx) :
    ((Shape.reshapeEquiv hn x : S1x1x512x256.Idx) 0).val = 0 ∧ ((Shape.reshapeEquiv hn x : S1x1x512x256.Idx) 1).val = 0
      ∧ ((Shape.reshapeEquiv hn x : S1x1x512x256.Idx) 2).val = (x 0).val ∧ ((Shape.reshapeEquiv hn x : S1x1x512x256.Idx) 3).val = (x 1).val := by
  let S1 : Shape := ⟨3, ![1, 512, 256]⟩
  have h1 : S512x256.numel = S1.numel := by decide
  have h2 : S1.numel = S1x1x512x256.numel := by decide
  have e1 : (Shape.reshapeEquiv h1 x : S1.Idx) = Fin.cons ⟨0, Nat.one_pos⟩ x := Shape.reshapeEquiv_cons_one (d := ![512, 256]) h1 x
  have e2 : (Shape.reshapeEquiv h2 (Shape.reshapeEquiv h1 x) : S1x1x512x256.Idx) = Fin.cons ⟨0, Nat.one_pos⟩ (Shape.reshapeEquiv h1 x) :=
    Shape.reshapeEquiv_cons_one (d := ![1, 512, 256]) h2 _
  rw [Shape.reshapeEquiv_reshapeEquiv h2 h1 x, e1] at e2
  rw [show Shape.reshapeEquiv hn x = _ from e2]
  exact ⟨rfl, rfl, rfl, rfl⟩

section Geometry

variable (h s : ℕ)

theorem slotR_emb (inb : ∀ a, (![h, s, 0, 0] : Fin 4 → ℕ) a + S1x1x512x256.size a ≤ S9x2x512x256.size a) (x : S512x256.Idx) :
    (((slotR ![h, s, 0, 0] inb).view.emb x : S9x2x512x256.Idx) 0).val = h ∧ (((slotR ![h, s, 0, 0] inb).view.emb x : S9x2x512x256.Idx) 1).val = s
      ∧ (((slotR ![h, s, 0, 0] inb).view.emb x : S9x2x512x256.Idx) 2).val = (x 0).val ∧ (((slotR ![h, s, 0, 0] inb).view.emb x : S9x2x512x256.Idx) 3).val = (x 1).val := by
  obtain ⟨h0, h1, h2, h3⟩ := unsqueeze squeezes_S1x1x512x256_S512x256.numel_eq x
  refine ⟨?_, ?_, ?_, ?_⟩
  · show h + 1 * ((Shape.reshapeEquiv squeezes_S1x1x512x256_S512x256.numel_eq x : S1x1x512x256.Idx) 0).val = h; rw [h0]; omega
  · show s + 1 * ((Shape.reshapeEquiv squeezes_S1x1x512x256_S512x256.numel_eq x : S1x1x512x256.Idx) 1).val = s; rw [h1]; omega
  · show 0 + 1 * ((Shape.reshapeEquiv squeezes_S1x1x512x256_S512x256.numel_eq x : S1x1x512x256.Idx) 2).val = _; rw [h2]; omega
  · show 0 + 1 * ((Shape.reshapeEquiv squeezes_S1x1x512x256_S512x256.numel_eq x : S1x1x512x256.Idx) 3).val = _; rw [h3]; omega

theorem slotL_emb (inb : ∀ a, (![h, s, 0, 0] : Fin 4 → ℕ) a + S1x1x512x256.size a ≤ S8x2x512x256.size a) (x : S512x256.Idx) :
    (((slotL ![h, s, 0, 0] inb).view.emb x : S8x2x512x256.Idx) 0).val = h ∧ (((slotL ![h, s, 0, 0] inb).view.emb x : S8x2x512x256.Idx) 1).val = s
      ∧ (((slotL ![h, s, 0, 0] inb).view.emb x : S8x2x512x256.Idx) 2).val = (x 0).val ∧ (((slotL ![h, s, 0, 0] inb).view.emb x : S8x2x512x256.Idx) 3).val = (x 1).val := by
  obtain ⟨h0, h1, h2, h3⟩ := unsqueeze squeezes_S1x1x512x256_S512x256.numel_eq x
  refine ⟨?_, ?_, ?_, ?_⟩
  · show h + 1 * ((Shape.reshapeEquiv squeezes_S1x1x512x256_S512x256.numel_eq x : S1x1x512x256.Idx) 0).val = h; rw [h0]; omega
  · show s + 1 * ((Shape.reshapeEquiv squeezes_S1x1x512x256_S512x256.numel_eq x : S1x1x512x256.Idx) 1).val = s; rw [h1]; omega
  · show 0 + 1 * ((Shape.reshapeEquiv squeezes_S1x1x512x256_S512x256.numel_eq x : S1x1x512x256.Idx) 2).val = _; rw [h2]; omega
  · show 0 + 1 * ((Shape.reshapeEquiv squeezes_S1x1x512x256_S512x256.numel_eq x : S1x1x512x256.Idx) 3).val = _; rw [h3]; omega

theorem slotR_set (c : Dev nD) (inb : ∀ a, (![h, s, 0, 0] : Fin 4 → ℕ) a + S1x1x512x256.size a ≤ S9x2x512x256.size a) :
    (slotR ![h, s, 0, 0] inb).view.set = slotSet .R c h s := by
  apply Finset.ext; intro i
  refine Iff.trans ?_ (Finset.mem_filter (p := fun i : S9x2x512x256.Idx => (i 0).val = h ∧ (i 1).val = s)).symm
  constructor
  · intro hi
    obtain ⟨x, -, rfl⟩ := Finset.mem_map.mp hi
    exact ⟨Finset.mem_univ _, (slotR_emb h s inb x).1, (slotR_emb h s inb x).2.1⟩
  · rintro ⟨-, e0, e1⟩
    refine Finset.mem_map.mpr ⟨idx2 (i 2) (i 3), Finset.mem_univ _, ?_⟩
    obtain ⟨h0, h1, h2, h3⟩ := slotR_emb h s inb (idx2 (i 2) (i 3))
    funext a
    match a with
    | ⟨0, _⟩ => exact Fin.ext (h0.trans e0.symm)
    | ⟨1, _⟩ => exact Fin.ext (h1.trans e1.symm)
    | ⟨2, _⟩ => exact Fin.ext h2
    | ⟨3, _⟩ => exact Fin.ext h3

theorem slotL_set (c : Dev nD) (inb : ∀ a, (![h, s, 0, 0] : Fin 4 → ℕ) a + S1x1x512x256.size a ≤ S8x2x512x256.size a) :
    (slotL ![h, s, 0, 0] inb).view.set = slotSet .L c h s := by
  apply Finset.ext; intro i
  refine Iff.trans ?_ (Finset.mem_filter (p := fun i : S8x2x512x256.Idx => (i 0).val = h ∧ (i 1).val = s)).symm
  constructor
  · intro hi
    obtain ⟨x, -, rfl⟩ := Finset.mem_map.mp hi
    exact ⟨Finset.mem_univ _, (slotL_emb h s inb x).1, (slotL_emb h s inb x).2.1⟩
  · rintro ⟨-, e0, e1⟩
    refine Finset.mem_map.mpr ⟨idx2 (i 2) (i 3), Finset.mem_univ _, ?_⟩
    obtain ⟨h0, h1, h2, h3⟩ := slotL_emb h s inb (idx2 (i 2) (i 3))
    funext a
    match a with
    | ⟨0, _⟩ => exact Fin.ext (h0.trans e0.symm)
    | ⟨1, _⟩ => exact Fin.ext (h1.trans e1.symm)
    | ⟨2, _⟩ => exact Fin.ext h2
    | ⟨3, _⟩ => exact Fin.ext h3

/-- The filled slot read: the block it holds. -/
theorem slotR_read (c : Dev nD) (inb : ∀ a, (![h, s, 0, 0] : Fin 4 → ℕ) a + S1x1x512x256.size a ≤ S9x2x512x256.size a) :
    (slotR ![h, s, 0, 0] inb).view.read (Elt F) (gFin I .R c) = I.w (srcDev .R c h) s := by
  funext x
  obtain ⟨h0, h1, h2, h3⟩ := slotR_emb h s inb x
  show I.w (srcDev .R c (((slotR ![h, s, 0, 0] inb).view.emb x : S9x2x512x256.Idx) 0).val) (((slotR ![h, s, 0, 0] inb).view.emb x : S9x2x512x256.Idx) 1).val
      (idx2 (((slotR ![h, s, 0, 0] inb).view.emb x : S9x2x512x256.Idx) 2) (((slotR ![h, s, 0, 0] inb).view.emb x : S9x2x512x256.Idx) 3)) = _
  rw [h0, h1]; congr 1
  funext a
  match a with
  | ⟨0, _⟩ => exact Fin.ext h2
  | ⟨1, _⟩ => exact Fin.ext h3
theorem slotL_read (c : Dev nD) (inb : ∀ a, (![h, s, 0, 0] : Fin 4 → ℕ) a + S1x1x512x256.size a ≤ S8x2x512x256.size a) :
    (slotL ![h, s, 0, 0] inb).view.read (Elt F) (gFin I .L c) = I.w (srcDev .L c h) s := by
  funext x
  obtain ⟨h0, h1, h2, h3⟩ := slotL_emb h s inb x
  show I.w (srcDev .L c (((slotL ![h, s, 0, 0] inb).view.emb x : S8x2x512x256.Idx) 0).val) (((slotL ![h, s, 0, 0] inb).view.emb x : S8x2x512x256.Idx) 1).val
      (idx2 (((slotL ![h, s, 0, 0] inb).view.emb x : S8x2x512x256.Idx) 2) (((slotL ![h, s, 0, 0] inb).view.emb x : S8x2x512x256.Idx) 3)) = _
  rw [h0, h1]; congr 1
  funext a
  match a with
  | ⟨0, _⟩ => exact Fin.ext h2
  | ⟨1, _⟩ => exact Fin.ext h3

/-- A slot overwritten with the block it is to hold. -/
theorem slotR_write (c : Dev nD) (inb : ∀ a, (![h, s, 0, 0] : Fin 4 → ℕ) a + S1x1x512x256.size a ≤ S9x2x512x256.size a)
    (fd : Buf (Elt F) ((c : Thread nD τ).loc cc0_scratch0)) (w : FVec F S512x256 .f32) (hw : w = I.w (srcDev .R c h) s) :
    ((((c : Thread nD τ).loc cc0_scratch0) ↦[(slotR ![h, s, 0, 0] inb).view.set]{fullShare} ((slotR ![h, s, 0, 0] inb).view.write (Elt F) fd w Finset.univ) : sProp 𝕄))
      = slotQ I .R c h s fullShare := by
  unfold slotQ
  rw [← slotR_set h s c inb]
  refine pointsTo_congr fun i hi => ?_
  obtain ⟨x, -, rfl⟩ := Finset.mem_map.mp hi
  have e : (slotR ![h, s, 0, 0] inb).view.read (Elt F) ((slotR ![h, s, 0, 0] inb).view.write (Elt F) fd w Finset.univ) x
      = (slotR ![h, s, 0, 0] inb).view.read (Elt F) (gFin I .R c) x := by
    rw [View.read_write_of_mem _ _ (Finset.mem_univ x), slotR_read, hw]
  exact View.eq_of_read_eq e
theorem slotL_write (c : Dev nD) (inb : ∀ a, (![h, s, 0, 0] : Fin 4 → ℕ) a + S1x1x512x256.size a ≤ S8x2x512x256.size a)
    (fd : Buf (Elt F) ((c : Thread nD τ).loc cc0_scratch1)) (w : FVec F S512x256 .f32) (hw : w = I.w (srcDev .L c h) s) :
    ((((c : Thread nD τ).loc cc0_scratch1) ↦[(slotL ![h, s, 0, 0] inb).view.set]{fullShare} ((slotL ![h, s, 0, 0] inb).view.write (Elt F) fd w Finset.univ) : sProp 𝕄))
      = slotQ I .L c h s fullShare := by
  unfold slotQ
  rw [← slotL_set h s c inb]
  refine pointsTo_congr fun i hi => ?_
  obtain ⟨x, -, rfl⟩ := Finset.mem_map.mp hi
  have e : (slotL ![h, s, 0, 0] inb).view.read (Elt F) ((slotL ![h, s, 0, 0] inb).view.write (Elt F) fd w Finset.univ) x
      = (slotL ![h, s, 0, 0] inb).view.read (Elt F) (gFin I .L c) x := by
    rw [View.read_write_of_mem _ _ (Finset.mem_univ x), slotL_read, hw]
  exact View.eq_of_read_eq e

end Geometry

/-! ## Semaphore entries -/

abbrev semAt9 (a : DmaSems sig S9x2) (off : Fin 2 → ℕ) (inb : ∀ a, off a + S1x1.size a ≤ S9x2.size a) : DmaSem sig :=
  ((a.slice (Rect.unit (s := S9x2) off S1x1.size inb)).squeeze S_ squeezes_S1x1_S_).sem
abbrev semAt8 (a : DmaSems sig S8x2) (off : Fin 2 → ℕ) (inb : ∀ a, off a + S1x1.size a ≤ S8x2.size a) : DmaSem sig :=
  ((a.slice (Rect.unit (s := S8x2) off S1x1.size inb)).squeeze S_ squeezes_S1x1_S_).sem
abbrev semAt4 (a : DmaSems sig S4x2) (off : Fin 2 → ℕ) (inb : ∀ a, off a + S1x1.size a ≤ S4x2.size a) : DmaSem sig :=
  ((a.slice (Rect.unit (s := S4x2) off S1x1.size inb)).squeeze S_ squeezes_S1x1_S_).sem

/-- The semaphore of the fetch of keys (`s = 0`) or values (`s = 1`) into slot `j` of the fetch buffers. -/
def kvSem (j s : ℕ) : DmaSem sig := ⟨(72 + 2 * j + s) % 80, Nat.mod_lt _ (by decide)⟩

theorem sem_s9 (h s : ℕ) (inb) : semAt9 cc0_scratch5 ![h, s] inb = sSem .R h s := by
  have h0 : h + 1 ≤ 9 := inb 0
  have h1 : s + 1 ≤ 2 := inb 1
  have key : ∀ (h : Fin 9) (s : Fin 2) (inb), semAt9 cc0_scratch5 ![h.val, s.val] inb = sSem .R h.val s.val := by decide +kernel
  exact key ⟨h, h0⟩ ⟨s, h1⟩ inb
theorem sem_r9 (h s : ℕ) (inb) : semAt9 cc0_scratch6 ![h, s] inb = rSem .R h s := by
  have h0 : h + 1 ≤ 9 := inb 0
  have h1 : s + 1 ≤ 2 := inb 1
  have key : ∀ (h : Fin 9) (s : Fin 2) (inb), semAt9 cc0_scratch6 ![h.val, s.val] inb = rSem .R h.val s.val := by decide +kernel
  exact key ⟨h, h0⟩ ⟨s, h1⟩ inb
theorem sem_s8 (h s : ℕ) (inb) : semAt8 cc0_scratch7 ![h, s] inb = sSem .L h s := by
  have h0 : h + 1 ≤ 8 := inb 0
  have h1 : s + 1 ≤ 2 := inb 1
  have key : ∀ (h : Fin 8) (s : Fin 2) (inb), semAt8 cc0_scratch7 ![h.val, s.val] inb = sSem .L h.val s.val := by decide +kernel
  exact key ⟨h, h0⟩ ⟨s, h1⟩ inb
theorem sem_r8 (h s : ℕ) (inb) : semAt8 cc0_scratch8 ![h, s] inb = rSem .L h s := by
  have h0 : h + 1 ≤ 8 := inb 0
  have h1 : s + 1 ≤ 2 := inb 1
  have key : ∀ (h : Fin 8) (s : Fin 2) (inb), semAt8 cc0_scratch8 ![h.val, s.val] inb = rSem .L h.val s.val := by decide +kernel
  exact key ⟨h, h0⟩ ⟨s, h1⟩ inb
theorem sem_kv (j s : ℕ) (inb) : semAt4 cc0_scratch9 ![j, s] inb = kvSem j s := by
  have h0 : j + 1 ≤ 4 := inb 0
  have h1 : s + 1 ≤ 2 := inb 1
  have key : ∀ (j : Fin 4) (s : Fin 2) (inb), semAt4 cc0_scratch9 ![j.val, s.val] inb = kvSem j.val s.val := by decide +kernel
  exact key ⟨j, h0⟩ ⟨s, h1⟩ inb

theorem creditR (off) (inb) : (slotR off inb).view.dmaCredit = N := rfl
theorem creditL (off) (inb) : (slotL off inb).view.dmaCredit = N := rfl

end Cert.KIProof

end
-- ==== Proof.KI.Steps.lean ====
/- One step of the kernel at a time: a barrier unit sent, a block sent on, a wait on a receive or a send semaphore. -/
module

public import proofs.«01_k».proof.Proof.KI.Slots

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

/-- The cells of the protocol: every device's barrier, and the send and receive cells of the rows in use. -/
def barEmb : Dev nD ↪ GSem nD τ sig := ⟨fun c => barCell c, fun _ _ h => congrArg (fun g : GSem nD τ sig => g.1.1) h⟩
def dmaEmb : Dev nD × DmaSem sig ↪ GSem nD τ sig :=
  ⟨fun y => ((y.1 : Thread nD τ), .dma y.2), fun x y h => Prod.ext (congrArg (fun g : GSem nD τ sig => g.1.1) h)
    (SemLoc.dma.inj (congrArg (fun g : GSem nD τ sig => g.2) h))⟩
/-- The semaphores of the copies between devices: all rows but row 0 of the four arrays. -/
def usedSems : Finset (DmaSem sig) :=
  Finset.univ.filter fun q : Fin 80 => (6 ≤ q.val ∧ q.val < 22) ∨ (24 ≤ q.val ∧ q.val < 40) ∨ (42 ≤ q.val ∧ q.val < 56) ∨ (58 ≤ q.val ∧ q.val < 72)
def barCells : Finset (GSem nD τ sig) := Finset.univ.map barEmb
def scCells : Finset (GSem nD τ sig) := ((Finset.univ : Finset (Dev nD)) ×ˢ usedSems).map dmaEmb

theorem bar_mem (c : Dev nD) : barCell c ∈ barCells ∪ scCells := Finset.mem_union_left _ (Finset.mem_map_of_mem barEmb (Finset.mem_univ c))
theorem dma_mem {q : DmaSem sig} (u : q ∈ usedSems) (c : Dev nD) : (((c : Thread nD τ), .dma q) : GSem nD τ sig) ∈ barCells ∪ scCells :=
  Finset.mem_union_right _ (Finset.mem_map_of_mem dmaEmb (a := (c, q)) (Finset.mem_product.mpr ⟨Finset.mem_univ c, u⟩))
theorem s_used {X : Dir} {h s : ℕ} (u : Used X h s) : sSem X h s ∈ usedSems := by
  obtain ⟨h1, h2, h3⟩ := u
  refine Finset.mem_filter.mpr ⟨Finset.mem_univ _, ?_⟩
  cases X <;> simp only [hops] at h2 <;> simp only [sSem] <;> omega
theorem r_used {X : Dir} {h s : ℕ} (u : Used X h s) : rSem X h s ∈ usedSems := by
  obtain ⟨h1, h2, h3⟩ := u
  refine Finset.mem_filter.mpr ⟨Finset.mem_univ _, ?_⟩
  cases X <;> simp only [hops] at h2 <;> simp only [rSem] <;> omega
theorem s_mem {X : Dir} {h s : ℕ} (u : Used X h s) (c : Dev nD) : sCell X c h s ∈ barCells ∪ scCells := dma_mem (s_used u) c
theorem r_mem {X : Dir} {h s : ℕ} (u : Used X h s) (c : Dev nD) : rCell X c h s ∈ barCells ∪ scCells := dma_mem (r_used u) c

attribute [irreducible] barCells scCells

abbrev 𝒱₀ : Variants := Variants.none

variable (K : GSem nD τ sig → ℕ)

/-- The invariants of all cells and the levels: what every device knows. -/
def Ctx : sProp 𝕄 := iprop(bigSep (barCells ∪ scCells) (fun g => cellInv ER (rd I) (K g) g) ∗ levAts L lv)

instance Ctx_persistent : BI.Persistent (Ctx I K) := by unfold Ctx; infer_instance

theorem Ctx_inv {g : GSem nD τ sig} (hg : g ∈ barCells ∪ scCells) : Ctx I K ⊢ cellInv ER (rd I) (K g) g := by
  unfold Ctx
  exact (BI.sep_and.trans BI.and_elimL).trans (bigSep_elim (Φ := fun g => cellInv ER (rd I) (K g) g) hg)
theorem Ctx_lev : Ctx I K ⊢ (levAts L lv : sProp 𝕄) := by
  have h : ∀ A B : sProp 𝕄, iprop(A ∗ B) ⊢ B := fun A B => BI.sep_and.trans BI.and_elimR
  unfold Ctx
  exact h _ _

/-- What a device owes, whatever it has waited for. -/
def owesA (c : Dev nD) (O : CellTallies nD τ sig Unit) : sProp 𝕄 := iprop(∃ W, owes (c : Thread nD τ) O W)

theorem slotQ_halves (X : Dir) (c : Dev nD) (h s : ℕ) :
    slotQ I X c h s fullShare ⊣⊢ iprop(slotQ I X c h s fullShare.left ∗ slotQ I X c h s fullShare.right) := by
  unfold slotQ
  exact pointsTo_share (PosShare.mem_left_op_right fullShare)

/-- The two entries of a row. -/
abbrev two (A : ℕ → sProp 𝕄) : sProp 𝕄 := iprop(A 0 ∗ A 1)

/-- What a device holds of the copies of row `h`, entry `s`, before it sends its own: the tokens of its send and of its
    neighbour's receive, its own two cells open, the credit of what it will receive, and its neighbour's slot. -/
def Fut (X : Dir) (c : Dev nD) (h s : ℕ) : sProp 𝕄 :=
  iprop((dutyTok ER (sCell X c h s) 0 .R ∗ dutyTok ER (rCell X (nxt X c) h s) 0 .R)
    ∗ (atPos ER (sCell X c h s) 0 ∅ 0 ∗ reached ER (sCell X c h s) 0)
    ∗ (atPos ER (rCell X c h s) 0 ∅ 0 ∗ cred (tallyAt (rCell X c h s) () N))
    ∗ (slotAny X (nxt X c) h s ∗ reached ER (rCell X (nxt X c) h s) 0))
/-- The receive side waited for next, -/
def Rcv (X : Dir) (c : Dev nD) (h s : ℕ) : sProp 𝕄 := iprop(atPos ER (rCell X c h s) 0 ∅ 0 ∗ cred (tallyAt (rCell X c h s) () N))
/-- the send side, with the half of the source kept for loads, -/
def Snd (X : Dir) (c : Dev nD) (h s : ℕ) : sProp 𝕄 :=
  iprop((atPos ER (sCell X c h s) 0 ∅ 0 ∗ cred (tallyAt (sCell X c h s) () N)) ∗ slotQ I X c (h - 1) s fullShare.right)
/-- and both over: the source whole again, both counters zero. -/
def Done (X : Dir) (c : Dev nD) (h s : ℕ) : sProp 𝕄 :=
  iprop(slotQ I X c (h - 1) s fullShare ∗ semVal (rCell X c h s) 0 ∗ semVal (sCell X c h s) 0)

variable (c : Dev nD)

/-- A wait for the one unit-batch of a cell: its payload, and the cell closed at zero. -/
theorem wait_cell {sm : DmaSem sig} {m₁ m₂ : Memref sig .tc .vmem S512x256 .f32} {h₁ : m₁.view.WordExact} {h₂ : m₂.view.WordExact}
    {α : Type} {Q : α → sProp 𝕄} {k : PUnit → Prog (TpuEff nD τ sig (Elt F) Λ₀ .tc) α} {O : CellTallies nD τ sig Unit} {P : sProp 𝕄}
    (hm : ((c : Thread nD τ), SemLoc.dma sm) ∈ barCells ∪ scCells) (hN : m₂.view.dmaCredit = N)
    (hex : (rd I).expect ((c : Thread nD τ), .dma sm) 0 = N)
    (hpay : bigSep ((rd I).duties ((c : Thread nD τ), .dma sm) 0 \ ∅) (fun d => (rd I).payload ((c : Thread nD τ), .dma sm) 0 d) = P)
    (hmay : (levAts L lv : sProp 𝕄) ⊢ MayWait (c : Thread nD τ) (.dma sm) () O) :
    iprop(Ctx I K ∗ (atPos ER ((c : Thread nD τ), .dma sm) 0 ∅ 0 ∗ cred (tallyAt ((c : Thread nD τ), .dma sm) () N)) ∗ owesA c O)
      ⊢ iprop(((P ∗ semVal ((c : Thread nD τ), .dma sm) 0 ∗ owesA c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm m₁ m₂ h₁ h₂) k) Q) := by
  subst hpay
  rw [← hN]
  unfold owesA
  iintro ⟨#HC, ⟨Hat, Hcr⟩, ⟨%W, HO⟩⟩ Hk
  ihave #HI := (Ctx_inv I K hm) $$ HC
  iapply (Rounds.wp_wait_rest_token 𝒱₀ ER (rd I) (c : Thread nD τ) none (κ := K ((c : Thread nD τ), .dma sm))
      (wpE_waitDma2_eq 𝒱₀ (c : Thread nD τ) none Set.univ) (Set.mem_univ _) () (O := O) (W := W) (R := 0) (m := 0) (T := ∅)
      (by rw [Nat.zero_add, hex, hN])) $$ [Hcr HO Hat]
  · isplitr; · iexact HI
    isplitl [Hcr]; · iexact Hcr
    isplitl [HO]; · iexact HO
    isplitr; · iapply ((Ctx_lev I K).trans hmay); iexact HC
    iexact Hat
  iintro ⟨HO, Hat, -, Hpay⟩
  imod (Rounds.cell_close ER (rd I) (Set.mem_univ (K ((c : Thread nD τ), .dma sm))) (fun h => h) (R := 0 + 1)
      (duties_later I ((c : Thread nD τ), .dma sm))) $$ [Hat] with Hz
  · isplitr; · iexact HI
    iexact Hat
  iapply Hk
  isplitl [Hpay]; · iexact Hpay
  isplitl [Hz]; · iexact Hz
  iexists _; iexact HO

/-- The wait on the receive semaphore of copy `(X, h, s)`: the slot filled. -/
theorem wait_recv {X : Dir} {h s : ℕ} (u : Used X h s) {sm : DmaSem sig} (hsm : sm = rSem X h s)
    {m₁ m₂ : Memref sig .tc .vmem S512x256 .f32} {h₁ : m₁.view.WordExact} {h₂ : m₂.view.WordExact}
    {α : Type} {Q : α → sProp 𝕄} {k : PUnit → Prog (TpuEff nD τ sig (Elt F) Λ₀ .tc) α} {O : CellTallies nD τ sig Unit}
    (hN : m₂.view.dmaCredit = N) (hO : Above (h + 1) O) :
    iprop(Ctx I K ∗ Rcv X c h s ∗ owesA c O)
      ⊢ iprop(((slotQ I X c h s fullShare ∗ semVal (rCell X c h s) 0 ∗ owesA c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm m₁ m₂ h₁ h₂) k) Q) := by
  subst hsm
  exact wait_cell I K c (r_mem u c) hN (expect_r I u c) (rest_r I u c) (mayWait_above c _ (h + 1) (le_of_eq (lv_r u c)) hO)

/-- The wait on its send semaphore: the source whole again. -/
theorem wait_send {X : Dir} {h s : ℕ} (u : Used X h s) {sm : DmaSem sig} (hsm : sm = sSem X h s)
    {m₁ m₂ : Memref sig .tc .vmem S512x256 .f32} {h₁ : m₁.view.WordExact} {h₂ : m₂.view.WordExact}
    {α : Type} {Q : α → sProp 𝕄} {k : PUnit → Prog (TpuEff nD τ sig (Elt F) Λ₀ .tc) α} {O : CellTallies nD τ sig Unit}
    (hN : m₂.view.dmaCredit = N) (hO : Above 0 O) :
    iprop(Ctx I K ∗ Snd I X c h s ∗ semVal (rCell X c h s) 0 ∗ owesA c O)
      ⊢ iprop(((Done I X c h s ∗ owesA c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm m₁ m₂ h₁ h₂) k) Q) := by
  subst hsm
  unfold Snd Done
  iintro ⟨#HC, ⟨Hcell, Hr⟩, Hz, HO⟩ Hk
  iapply (wait_cell I K c (s_mem u c) hN (expect_s I u c) (rest_s I u c) (mayWait_above c _ 0 (le_of_eq (lv_s u c)) hO)) $$ [Hcell HO]
  · isplitr; · iexact HC
    isplitl [Hcell] <;> iassumption
  iintro ⟨Hl, Hzs, HO⟩
  iapply Hk
  isplitr [HO]
  · isplitl [Hl Hr]
    · iapply (slotQ_halves I X c (h - 1) s).2
      isplitl [Hl] <;> iassumption
    isplitl [Hz] <;> iassumption
  iexact HO

/-- A block sent on to the neighbour: half of the source lent, half kept. -/
theorem send_core {X : Dir} {h s : ℕ} (u : Used X (h + 1) s) {n : Dev nD} (hn : n = nxt X c) {sS sR : DmaSem sig} (hsS : sS = sSem X (h + 1) s)
    (hsR : sR = rSem X (h + 1) s)
    {src : Memref sig (Dev.tc c : Thread nD τ).2.kind .vmem S512x256 .f32} {dst : Memref sig (Dev.tc n : Thread nD τ).2.kind .vmem S512x256 .f32} {hsc : dst.view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} {O₁ O : CellTallies nD τ sig Unit}
    (hO : O₁ = O + tallyAt (rCell X (nxt X c) (h + 1) s) () N)
    (hN : dst.view.dmaCredit = N)
    (fs : Buf (Elt F) (src.view.loc (Dev.tc c : Thread nD τ)))
    (hs : slotQ I X c h s fullShare.left = (src.view.loc (Dev.tc c : Thread nD τ) ↦[src.view.set]{fullShare.left} fs))
    (ha : (slotAny X n (h + 1) s : sProp 𝕄) ⊢ iprop(∃ fd : Buf (Elt F) (dst.view.loc (Dev.tc n : Thread nD τ)), dst.view.loc (Dev.tc n : Thread nD τ) ↦[dst.view.set]{fullShare} fd))
    (hl : ∀ fd : Buf (Elt F) (dst.view.loc (Dev.tc n : Thread nD τ)),
      (dst.view.loc (Dev.tc n : Thread nD τ) ↦[dst.view.set]{fullShare} (dst.view.write (Elt F) fd (src.view.read (Elt F) fs) Finset.univ)) = slotQ I X n (h + 1) s fullShare) :
    iprop(Ctx I K ∗ Fut X c (h + 1) s ∗ slotQ I X c h s fullShare ∗ owesA c O₁)
      ⊢ iprop(((Rcv X c (h + 1) s ∗ Snd I X c (h + 1) s ∗ owesA c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsS hsR
  unfold Fut owesA Rcv Snd
  iintro ⟨#HC, ⟨⟨HtS, HtR⟩, ⟨HatS, HrS⟩, Hrcv, ⟨Hslot, HrR⟩⟩, Hsrc, ⟨%W, HO⟩⟩ Hk
  ihave #HIs := (Ctx_inv I K (s_mem u c)) $$ HC
  ihave #HIr := (Ctx_inv I K (r_mem u (nxt X c))) $$ HC
  ihave Hsrc := (slotQ_halves I X c h s).1 $$ Hsrc
  icases Hsrc with ⟨Hl, Hr⟩
  ihave Hl := (Entails.of_eq hs) $$ Hl
  ihave Hslot := ha $$ Hslot
  icases Hslot with ⟨%fd, Hslot⟩
  iapply (Rounds.wp_send_pointsTo 𝒱₀ ER (rd I) (c : Thread nD τ) none (κ₁ := K (sCell X c (h + 1) s)) (κ₂ := K (rCell X (nxt X c) (h + 1) s))
    (sS := .dma (sSem X (h + 1) s)) (sem := .dma (rSem X (h + 1) s)) (r₁ := 0) (r₂ := 0) (d₁ := Dir.R) (d₂ := Dir.R) (fd := fd)
    (by rw [duties_s I u]; exact Finset.mem_singleton_self _) (by rw [duties_r I u]; exact Finset.mem_singleton_self _)
    () () N hN rfl rfl O hO (W := W)
    (by rw [payload_s I u, Nat.add_sub_cancel, hs])
    (by rw [payload_r I u, hl])) $$ [Hl Hslot HO HtS HtR HrS HrR]
  · isplitr; · iexact HIs
    isplitr; · iexact HIr
    isplitl [Hl]; · iexact Hl
    isplitl [Hslot]; · iexact Hslot
    isplitl [HO]; · iexact HO
    isplitl [HtS]; · iexact HtS
    isplitl [HrS]; · iexact HrS
    isplitl [HtR]; · iexact HtR
    iexact HrR
  iintro ⟨Hcs, HO⟩
  iapply Hk
  isplitl [Hrcv]; · iexact Hrcv
  isplitr [HO]
  · isplitr [Hr]
    · isplitl [HatS] <;> iassumption
    iexact Hr
  iexists W; iexact HO

/-- The send of entry `s` of row `h` of the chain to the right, -/
theorem send_R {h s : ℕ} (u : Used .R (h + 1) s) {n : Dev nD} (hn : n = nxt .R c) {sS sR : DmaSem sig} (hsS : sS = sSem .R (h + 1) s)
    (hsR : sR = rSem .R (h + 1) s) {o₁ o₂ : Fin 4 → ℕ} (ho₁ : o₁ = ![h, s, 0, 0]) (ho₂ : o₂ = ![h + 1, s, 0, 0]) {inb₁ inb₂}
    {hsc : (slotR o₂ inb₂ : Memref sig (Dev.tc n : Thread nD τ).2.kind .vmem S512x256 .f32).view.ref.isScScratch = false}
    {hsrc : (slotR o₁ inb₁).view.WordExact} {hdst : (slotR o₂ inb₂).view.WordExact}
    {hsem : DmaTarget.Typed .vmem (.dma sR) (.remote (Dev.tc n : Thread nD τ) (slotR o₂ inb₂) (.dma sS) hsc)}
    {α : Type} {Q : α → sProp 𝕄} {k : PUnit → Prog (TpuEff nD τ sig (Elt F) Λ₀ .tc) α} {O₁ O : CellTallies nD τ sig Unit}
    (hO : O₁ = O + tallyAt (rCell .R (nxt .R c) (h + 1) s) () N) :
    iprop(Ctx I K ∗ Fut .R c (h + 1) s ∗ slotQ I .R c h s fullShare ∗ owesA c O₁)
      ⊢ iprop(((Rcv .R c (h + 1) s ∗ Snd I .R c (h + 1) s ∗ owesA c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotR o₁ inb₁) (.remote (Dev.tc n : Thread nD τ) (slotR o₂ inb₂) (.dma sS) hsc) (.dma sR) hsrc hdst hsem) k) Q) := by
  subst ho₁ ho₂
  refine send_core I K c u hn hsS hsR hO rfl (gFin I .R c) ?_ ?_ ?_
  · unfold slotQ; rw [← slotR_set h s c inb₁]
  · unfold slotAny; rw [← slotR_set (h + 1) s n inb₂]
  · intro fd
    refine slotR_write I (h + 1) s n inb₂ fd _ ?_
    rw [slotR_read, hn, ← srcDev_prv, prv_nxt]

/-- and of the chain to the left. -/
theorem send_L {h s : ℕ} (u : Used .L (h + 1) s) {n : Dev nD} (hn : n = nxt .L c) {sS sR : DmaSem sig} (hsS : sS = sSem .L (h + 1) s)
    (hsR : sR = rSem .L (h + 1) s) {o₁ o₂ : Fin 4 → ℕ} (ho₁ : o₁ = ![h, s, 0, 0]) (ho₂ : o₂ = ![h + 1, s, 0, 0]) {inb₁ inb₂}
    {hsc : (slotL o₂ inb₂ : Memref sig (Dev.tc n : Thread nD τ).2.kind .vmem S512x256 .f32).view.ref.isScScratch = false}
    {hsrc : (slotL o₁ inb₁).view.WordExact} {hdst : (slotL o₂ inb₂).view.WordExact}
    {hsem : DmaTarget.Typed .vmem (.dma sR) (.remote (Dev.tc n : Thread nD τ) (slotL o₂ inb₂) (.dma sS) hsc)}
    {α : Type} {Q : α → sProp 𝕄} {k : PUnit → Prog (TpuEff nD τ sig (Elt F) Λ₀ .tc) α} {O₁ O : CellTallies nD τ sig Unit}
    (hO : O₁ = O + tallyAt (rCell .L (nxt .L c) (h + 1) s) () N) :
    iprop(Ctx I K ∗ Fut .L c (h + 1) s ∗ slotQ I .L c h s fullShare ∗ owesA c O₁)
      ⊢ iprop(((Rcv .L c (h + 1) s ∗ Snd I .L c (h + 1) s ∗ owesA c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotL o₁ inb₁) (.remote (Dev.tc n : Thread nD τ) (slotL o₂ inb₂) (.dma sS) hsc) (.dma sR) hsrc hdst hsem) k) Q) := by
  subst ho₁ ho₂
  refine send_core I K c u hn hsS hsR hO rfl (gFin I .L c) ?_ ?_ ?_
  · unfold slotQ; rw [← slotL_set h s c inb₁]
  · unfold slotAny; rw [← slotL_set (h + 1) s n inb₂]
  · intro fd
    refine slotL_write I (h + 1) s n inb₂ fd _ ?_
    rw [slotL_read, hn, ← srcDev_prv, prv_nxt]

end Cert.KIProof

end
-- ==== Proof.KI.Fetch.lean ====
/- The fetches of keys and values: four slots in either buffer, a copy in flight per slot, the arrays they are read from
   shared between the two directions. -/
module

public import proofs.«01_k».proof.Proof.KI.Steps
public import Idealize.ShloMosaic.Lib.Transfers

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

/-- Keys or values. -/
inductive Kv | K | V

/-- The number of the array, the array fetched from, and the buffer fetched into. -/
def Kv.n : Kv → ℕ | .K => 0 | .V => 1
abbrev Kv.hbm : Kv → Ref sig .tc | .K => main_v12 | .V => main_v18
abbrev Kv.buf : Kv → Ref sig .tc | .K => cc0_scratch3 | .V => cc0_scratch4
abbrev Kv.hbmM : Kv → Memref sig .tc .hbm S2x64x256x64 .f32 | .K => Memref.whole main_v12 | .V => Memref.whole main_v18
abbrev Kv.bufM : Kv → Memref sig .tc .vmem S4x2x4x256x64 .f32 | .K => Memref.whole cc0_scratch3 | .V => Memref.whole cc0_scratch4

/-- The array's contents on a device. -/
def Kv.arr : (a : Kv) → (c : Dev nD) → Buf (Elt F) ((c : Thread nD τ).loc a.hbm)
  | .K, c => I.k c
  | .V, c => I.v c

def idx4 (a : Fin 2) (b : Fin 64) (d : Fin 256) (e : Fin 64) : S2x64x256x64.Idx := fun | 0 => a | 1 => b | 2 => d | 3 => e

/-- The four heads of device `g`, out of an array of all heads. -/
def headsOf (A : FVec F S2x64x256x64 .f32) (g : Dev nD) : FVec F S2x4x256x64 .f32 :=
  fun y => A (idx4 (y 0) ⟨4 * g.val + (y 1).val, by have h1 : g.val < 16 := g.isLt; have h2 : (y 1).val < 4 := (y 1).isLt; omega⟩ (y 2) (y 3))

/-- The whole buffer's canonical contents when its slot holds the heads of device `g`: those heads in every slot. -/
def Kv.bfin : (a : Kv) → (c g : Dev nD) → Buf (Elt F) ((c : Thread nD τ).loc a.buf)
  | .K, c, g => fun i => headsOf (I.k c) g ((fun | 0 => i 1 | 1 => i 2 | 2 => i 3 | 3 => i 4) : S2x4x256x64.Idx)
  | .V, c, g => fun i => headsOf (I.v c) g ((fun | 0 => i 1 | 1 => i 2 | 2 => i 3 | 3 => i 4) : S2x4x256x64.Idx)

/-- The elements of slot `j`. -/
def Kv.bset : (a : Kv) → (c : Dev nD) → ℕ → Finset (Idx ((c : Thread nD τ).loc a.buf))
  | .K, c, j => Finset.univ.filter fun i : S4x2x4x256x64.Idx => (i 0).val = j
  | .V, c, j => Finset.univ.filter fun i : S4x2x4x256x64.Idx => (i 0).val = j

abbrev bslot (M : Memref sig .tc .vmem S4x2x4x256x64 .f32) (off : Fin 5 → ℕ) (inb : ∀ a, off a + S1x2x4x256x64.size a ≤ S4x2x4x256x64.size a) :
    Memref sig .tc .vmem S2x4x256x64 .f32 :=
  (M.slice (Rect.unit (s := S4x2x4x256x64) off S1x2x4x256x64.size inb) (fun _ => rfl)).squeeze S2x4x256x64 squeezes_S1x2x4x256x64_S2x4x256x64
abbrev aslice (M : Memref sig .tc .hbm S2x64x256x64 .f32) (off : Fin 4 → ℕ) (inb : ∀ a, off a + S2x4x256x64.size a ≤ S2x64x256x64.size a) :
    Memref sig .tc .hbm S2x4x256x64 .f32 :=
  M.slice (Rect.unit (s := S2x64x256x64) off S2x4x256x64.size inb) (fun _ => rfl)

theorem unsqueeze5 (hn : S2x4x256x64.numel = S1x2x4x256x64.numel) (x : S2x4x256x64.Idx) :
    ((Shape.reshapeEquiv hn x : S1x2x4x256x64.Idx) 0).val = 0 ∧ ((Shape.reshapeEquiv hn x : S1x2x4x256x64.Idx) 1).val = (x 0).val
      ∧ ((Shape.reshapeEquiv hn x : S1x2x4x256x64.Idx) 2).val = (x 1).val ∧ ((Shape.reshapeEquiv hn x : S1x2x4x256x64.Idx) 3).val = (x 2).val
      ∧ ((Shape.reshapeEquiv hn x : S1x2x4x256x64.Idx) 4).val = (x 3).val := by
  have e2 : (Shape.reshapeEquiv hn x : S1x2x4x256x64.Idx) = Fin.cons ⟨0, Nat.one_pos⟩ x := Shape.reshapeEquiv_cons_one (d := ![2, 4, 256, 64]) hn x
  rw [e2]
  exact ⟨rfl, rfl, rfl, rfl, rfl⟩

/-- What a squeezed slot's index is in the buffer. -/
theorem bslot_ix (j : ℕ) (inb : ∀ a, (![j, 0, 0, 0, 0] : Fin 5 → ℕ) a + S1x2x4x256x64.size a ≤ S4x2x4x256x64.size a) (x : S2x4x256x64.Idx) :
    let i : S4x2x4x256x64.Idx := (Rect.unit (s := S4x2x4x256x64) ![j, 0, 0, 0, 0] S1x2x4x256x64.size inb).emb
      (Shape.reshapeEquiv squeezes_S1x2x4x256x64_S2x4x256x64.numel_eq x)
    (i 0).val = j ∧ i 1 = x 0 ∧ i 2 = x 1 ∧ i 3 = x 2 ∧ i 4 = x 3 := by
  intro i
  obtain ⟨h0, h1, h2, h3, h4⟩ := unsqueeze5 squeezes_S1x2x4x256x64_S2x4x256x64.numel_eq x
  refine ⟨?_, Fin.ext ?_, Fin.ext ?_, Fin.ext ?_, Fin.ext ?_⟩
  · show j + 1 * ((Shape.reshapeEquiv squeezes_S1x2x4x256x64_S2x4x256x64.numel_eq x : S1x2x4x256x64.Idx) 0).val = j; rw [h0]; omega
  · show 0 + 1 * ((Shape.reshapeEquiv squeezes_S1x2x4x256x64_S2x4x256x64.numel_eq x : S1x2x4x256x64.Idx) 1).val = _; rw [h1]; omega
  · show 0 + 1 * ((Shape.reshapeEquiv squeezes_S1x2x4x256x64_S2x4x256x64.numel_eq x : S1x2x4x256x64.Idx) 2).val = _; rw [h2]; omega
  · show 0 + 1 * ((Shape.reshapeEquiv squeezes_S1x2x4x256x64_S2x4x256x64.numel_eq x : S1x2x4x256x64.Idx) 3).val = _; rw [h3]; omega
  · show 0 + 1 * ((Shape.reshapeEquiv squeezes_S1x2x4x256x64_S2x4x256x64.numel_eq x : S1x2x4x256x64.Idx) 4).val = _; rw [h4]; omega

theorem bslot_set (a : Kv) (c : Dev nD) (j : ℕ) (inb : ∀ a, (![j, 0, 0, 0, 0] : Fin 5 → ℕ) a + S1x2x4x256x64.size a ≤ S4x2x4x256x64.size a) :
    match a with
    | .K => (bslot (Kv.bufM .K) ![j, 0, 0, 0, 0] inb).view.set = Kv.bset .K c j
    | .V => (bslot (Kv.bufM .V) ![j, 0, 0, 0, 0] inb).view.set = Kv.bset .V c j := by
  have key : ∀ i : S4x2x4x256x64.Idx, (i 0).val = j → ∃ x : S2x4x256x64.Idx, (Rect.unit (s := S4x2x4x256x64) ![j, 0, 0, 0, 0] S1x2x4x256x64.size inb).emb
      (Shape.reshapeEquiv squeezes_S1x2x4x256x64_S2x4x256x64.numel_eq x) = i := by
    intro i e0
    refine ⟨((fun | 0 => i 1 | 1 => i 2 | 2 => i 3 | 3 => i 4) : S2x4x256x64.Idx), ?_⟩
    obtain ⟨h0, h1, h2, h3, h4⟩ := bslot_ix j inb ((fun | 0 => i 1 | 1 => i 2 | 2 => i 3 | 3 => i 4) : S2x4x256x64.Idx)
    funext b
    match b with
    | ⟨0, _⟩ => exact Fin.ext (h0.trans e0.symm)
    | ⟨1, _⟩ => exact h1
    | ⟨2, _⟩ => exact h2
    | ⟨3, _⟩ => exact h3
    | ⟨4, _⟩ => exact h4
  cases a <;> dsimp only <;> refine Finset.ext fun i => Iff.trans ?_ (Finset.mem_filter (p := fun i : S4x2x4x256x64.Idx => (i 0).val = j)).symm <;> constructor
  all_goals first
    | (intro hi; obtain ⟨x, -, rfl⟩ := Finset.mem_map.mp hi; exact ⟨Finset.mem_univ _, (bslot_ix j inb x).1⟩)
    | (rintro ⟨-, e0⟩; obtain ⟨x, hx⟩ := key i e0; exact Finset.mem_map.mpr ⟨x, Finset.mem_univ _, hx⟩)

/-- What a fetch writes into a slot. -/
theorem landed_K (c g : Dev nD) (j : ℕ) {o₁ : Fin 4 → ℕ} (ho : o₁ = ![0, 4 * g.val, 0, 0]) (inb₁ : ∀ a, o₁ a + S2x4x256x64.size a ≤ S2x64x256x64.size a) (inb₂) (fd : Buf (Elt F) ((c : Thread nD τ).loc cc0_scratch3)) :
    ((((c : Thread nD τ).loc cc0_scratch3) ↦[Kv.bset .K c j]{fullShare} ((bslot (Kv.bufM .K) ![j, 0, 0, 0, 0] inb₂).view.write (Elt F) fd
        ((aslice (Kv.hbmM .K) o₁ inb₁).view.read (Elt F) (I.k c)) Finset.univ) : sProp 𝕄))
      = (((c : Thread nD τ).loc cc0_scratch3) ↦[Kv.bset .K c j]{fullShare} Kv.bfin I .K c g) := by
  refine pointsTo_congr fun i hi => ?_
  rw [← bslot_set .K c j inb₂] at hi
  obtain ⟨x, -, rfl⟩ := Finset.mem_map.mp hi
  refine View.eq_of_read_eq (v := (bslot (Kv.bufM .K) ![j, 0, 0, 0, 0] inb₂).view) (x := x) ?_
  rw [View.read_write_of_mem _ _ (Finset.mem_univ x)]
  obtain ⟨-, h1, h2, h3, h4⟩ := bslot_ix j inb₂ x
  subst ho
  refine congrArg (I.k c) (a₁ := (Rect.unit (s := S2x64x256x64) ![0, 4 * g.val, 0, 0] S2x4x256x64.size inb₁).emb x) ?_
  funext b
  match b with
  | ⟨0, _⟩ => exact (Fin.ext (by show 0 + 1 * (x 0).val = _; omega) : _ = x 0).trans h1.symm
  | ⟨1, _⟩ => exact Fin.ext (by show 4 * g.val + 1 * (x 1).val = 4 * g.val + _; exact congrArg (4 * g.val + ·) ((Nat.one_mul _).trans (congrArg Fin.val h2.symm)))
  | ⟨2, _⟩ => exact (Fin.ext (by show 0 + 1 * (x 2).val = _; omega) : _ = x 2).trans h3.symm
  | ⟨3, _⟩ => exact (Fin.ext (by show 0 + 1 * (x 3).val = _; omega) : _ = x 3).trans h4.symm

theorem landed_V (c g : Dev nD) (j : ℕ) {o₁ : Fin 4 → ℕ} (ho : o₁ = ![0, 4 * g.val, 0, 0]) (inb₁ : ∀ a, o₁ a + S2x4x256x64.size a ≤ S2x64x256x64.size a) (inb₂) (fd : Buf (Elt F) ((c : Thread nD τ).loc cc0_scratch4)) :
    ((((c : Thread nD τ).loc cc0_scratch4) ↦[Kv.bset .V c j]{fullShare} ((bslot (Kv.bufM .V) ![j, 0, 0, 0, 0] inb₂).view.write (Elt F) fd
        ((aslice (Kv.hbmM .V) o₁ inb₁).view.read (Elt F) (I.v c)) Finset.univ) : sProp 𝕄))
      = (((c : Thread nD τ).loc cc0_scratch4) ↦[Kv.bset .V c j]{fullShare} Kv.bfin I .V c g) := by
  refine pointsTo_congr fun i hi => ?_
  rw [← bslot_set .V c j inb₂] at hi
  obtain ⟨x, -, rfl⟩ := Finset.mem_map.mp hi
  refine View.eq_of_read_eq (v := (bslot (Kv.bufM .V) ![j, 0, 0, 0, 0] inb₂).view) (x := x) ?_
  rw [View.read_write_of_mem _ _ (Finset.mem_univ x)]
  obtain ⟨-, h1, h2, h3, h4⟩ := bslot_ix j inb₂ x
  subst ho
  refine congrArg (I.v c) (a₁ := (Rect.unit (s := S2x64x256x64) ![0, 4 * g.val, 0, 0] S2x4x256x64.size inb₁).emb x) ?_
  funext b
  match b with
  | ⟨0, _⟩ => exact (Fin.ext (by show 0 + 1 * (x 0).val = _; omega) : _ = x 0).trans h1.symm
  | ⟨1, _⟩ => exact Fin.ext (by show 4 * g.val + 1 * (x 1).val = 4 * g.val + _; exact congrArg (4 * g.val + ·) ((Nat.one_mul _).trans (congrArg Fin.val h2.symm)))
  | ⟨2, _⟩ => exact (Fin.ext (by show 0 + 1 * (x 2).val = _; omega) : _ = x 2).trans h3.symm
  | ⟨3, _⟩ => exact (Fin.ext (by show 0 + 1 * (x 3).val = _; omega) : _ = x 3).trans h4.symm

/-! ## The states of a slot -/

/-- The slot that row `h` of chain `X` uses, and the share of the arrays that chain fetches with. -/
def jx : Dir → ℕ → ℕ | .R, h => h % 2 | .L, h => h % 2 + 2
def kshare : Dir → PosShare TreeShare | .R => fullShare.left | .L => fullShare.right
theorem jx_lt (X : Dir) (h : ℕ) : jx X h < 4 := by cases X <;> simp only [jx] <;> omega
theorem jx_add_two (X : Dir) (h : ℕ) : jx X (h + 2) = jx X h := by cases X <;> simp only [jx] <;> omega

/-- The units one fetch credits. -/
abbrev NK : ℕ := (bslot (Kv.bufM .K) ![0, 0, 0, 0, 0] (by decide)).view.dmaCredit
theorem NK_pos : 0 < NK := View.dmaCredit_pos _ (by decide)

/-- The array at a chain's share; -/
def Arr (a : Kv) (X : Dir) (c : Dev nD) : sProp 𝕄 := ((c : Thread nD τ).loc a.hbm) ↦{kshare X} a.arr I c
/-- a slot at any contents, its counter at zero; -/
def KvFree (a : Kv) (c : Dev nD) (j : ℕ) : sProp 𝕄 :=
  iprop((∃ f : Buf (Elt F) ((c : Thread nD τ).loc a.buf), ((c : Thread nD τ).loc a.buf) ↦[a.bset c j]{fullShare} f) ∗ semVal ((c : Thread nD τ), .dma (kvSem j a.n)) 0)
/-- the slot with the heads of row `h`, -/
def BufQ (a : Kv) (X : Dir) (c : Dev nD) (h : ℕ) : sProp 𝕄 :=
  ((c : Thread nD τ).loc a.buf) ↦[a.bset c (jx X h)]{fullShare} a.bfin I c (srcDev X c h)
/-- its counter at zero too; -/
def KvHeld (a : Kv) (X : Dir) (c : Dev nD) (h : ℕ) : sProp 𝕄 := iprop(BufQ I a X c h ∗ semVal ((c : Thread nD τ), .dma (kvSem (jx X h) a.n)) 0)
/-- and its fetch in flight, reading some elements of the array. -/
def KvFly (a : Kv) (X : Dir) (c : Dev nD) (h : ℕ) : sProp 𝕄 :=
  iprop(∃ S : Finset (Idx ((c : Thread nD τ).loc a.hbm)),
    Transfers.Flight EC (c : Thread nD τ) (.dma (kvSem (jx X h) a.n)) () NK iprop(BufQ I a X c h ∗ (((c : Thread nD τ).loc a.hbm) ↦[S]{kshare X} a.arr I c))
    ∗ (((c : Thread nD τ).loc a.hbm) ↦[Finset.univ \ S]{kshare X} a.arr I c))

theorem KvHeld_free (a : Kv) (X : Dir) (c : Dev nD) (h : ℕ) : KvHeld I a X c h ⊢ KvFree a c (jx X h) := by
  unfold KvHeld KvFree BufQ
  iintro ⟨H, Hz⟩
  isplitl [H]
  · iexists _; iexact H
  iexact Hz

theorem lv_kv (c : Dev nD) (X : Dir) (h : ℕ) (a : Kv) : lv ((c : Thread nD τ), .dma (kvSem (jx X h) a.n)) () = 0 := by
  have h1 := jx_lt X h
  have h2 : a.n < 2 := by cases a <;> decide
  show lvOf (.dma (kvSem (jx X h) a.n)) = _
  have hv : (kvSem (jx X h) a.n).val = 72 + 2 * jx X h + a.n := Nat.mod_eq_of_lt (by omega)
  unfold lvOf; dsimp only; rw [hv, if_neg (by omega), if_neg (by omega)]

variable (K : GSem nD τ sig → ℕ) (c : Dev nD)

/-- A fetch started, -/
theorem fetch_start (a : Kv) (X : Dir) {h : ℕ} {sm : DmaSem sig} (hsm : sm = kvSem (jx X h) a.n) {o₁ : Fin 4 → ℕ} {o₂ : Fin 5 → ℕ}
    (ho₁ : o₁ = ![0, 4 * (srcDev X c h).val, 0, 0]) (ho₂ : o₂ = ![jx X h, 0, 0, 0, 0]) {inb₁ inb₂}
    {hsrc : (aslice a.hbmM o₁ inb₁).view.WordExact} {hdst : (bslot a.bufM o₂ inb₂).view.WordExact}
    {hsem : DmaTarget.Typed (nD := nD) .hbm (.dma sm) (.here (p := (Dev.tc c : Thread nD τ).2) (bslot a.bufM o₂ inb₂))}
    {α : Type} {Q : α → sProp 𝕄} {k : PUnit → Prog (TpuEff nD τ sig (Elt F) Λ₀ .tc) α} :
    iprop(KvFree a c (jx X h) ∗ Arr I a X c)
      ⊢ iprop((KvFly I a X c h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aslice a.hbmM o₁ inb₁) (.here (bslot a.bufM o₂ inb₂)) (.dma sm) hsrc hdst hsem) k) Q) := by
  subst hsm ho₂
  unfold KvFree Arr KvFly
  cases a with
  | K =>
    iintro ⟨⟨⟨%fd, Hb⟩, Hz⟩, HA⟩ Hk
    ihave HA := (pointsTo_split_subset (Finset.subset_univ (aslice (Kv.hbmM .K) o₁ inb₁).view.set)).1 $$ HA
    icases HA with ⟨HA, HR⟩
    iapply (Transfers.wp_dmaLocal EC 𝒱₀ (c : Thread nD τ) none (src := aslice (Kv.hbmM .K) o₁ inb₁) (dst := bslot (Kv.bufM .K) ![jx X h, 0, 0, 0, 0] inb₂)
        (q := kshare X) (fs := Kv.arr I .K c) (Sd := Kv.bset .K c (jx X h)) (fd := fd) () NK rfl NK_pos (le_of_eq (bslot_set .K c (jx X h) inb₂))) $$ [Hb Hz HA]
    · isplitl [HA]; · iexact HA
      isplitl [Hb]; · iexact Hb
      iexact Hz
    iintro Hf
    iapply Hk
    iexists _
    isplitl [Hf]
    · iapply (Transfers.Flight_mono EC ?_) $$ Hf
      exact sep_mono_left (Entails.of_eq (landed_K I c (srcDev X c h) (jx X h) ho₁ inb₁ inb₂ fd))
    iexact HR
  | V =>
    iintro ⟨⟨⟨%fd, Hb⟩, Hz⟩, HA⟩ Hk
    ihave HA := (pointsTo_split_subset (Finset.subset_univ (aslice (Kv.hbmM .V) o₁ inb₁).view.set)).1 $$ HA
    icases HA with ⟨HA, HR⟩
    iapply (Transfers.wp_dmaLocal EC 𝒱₀ (c : Thread nD τ) none (src := aslice (Kv.hbmM .V) o₁ inb₁) (dst := bslot (Kv.bufM .V) ![jx X h, 0, 0, 0, 0] inb₂)
        (q := kshare X) (fs := Kv.arr I .V c) (Sd := Kv.bset .V c (jx X h)) (fd := fd) () NK rfl NK_pos (le_of_eq (bslot_set .V c (jx X h) inb₂))) $$ [Hb Hz HA]
    · isplitl [HA]; · iexact HA
      isplitl [Hb]; · iexact Hb
      iexact Hz
    iintro Hf
    iapply Hk
    iexists _
    isplitl [Hf]
    · iapply (Transfers.Flight_mono EC ?_) $$ Hf
      exact sep_mono_left (Entails.of_eq (landed_V I c (srcDev X c h) (jx X h) ho₁ inb₁ inb₂ fd))
    iexact HR

/-- and waited for. -/
theorem fetch_wait (a : Kv) (X : Dir) (h : ℕ) {sm : DmaSem sig} (hsm : sm = kvSem (jx X h) a.n) {m₁ : Memref sig .tc .hbm S2x4x256x64 .f32} {m₂ : Memref sig .tc .vmem S2x4x256x64 .f32}
    {h₁ : m₁.view.WordExact} {h₂ : m₂.view.WordExact}
    {α : Type} {Q : α → sProp 𝕄} {k : PUnit → Prog (TpuEff nD τ sig (Elt F) Λ₀ .tc) α} {O : CellTallies nD τ sig Unit}
    (hN : m₂.view.dmaCredit = NK) (hO : Above 0 O) :
    iprop(Ctx I K ∗ KvFly I a X c h ∗ owesA c O)
      ⊢ iprop(((KvHeld I a X c h ∗ Arr I a X c ∗ owesA c O) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm m₁ m₂ h₁ h₂) k) Q) := by
  subst hsm
  unfold KvFly owesA KvHeld Arr
  iintro ⟨#HC, ⟨%S, Hf, HR⟩, ⟨%W, HO⟩⟩ Hk
  iapply (Transfers.wp_waitLocalO EC 𝒱₀ (c : Thread nD τ) none () hN (O := O) (W := W)) $$ [Hf HO]
  · isplitl [Hf]; · iexact Hf
    isplitl [HO]; · iexact HO
    iapply ((Ctx_lev I K).trans (mayWait_above c _ 0 (le_of_eq (lv_kv c X h a)) hO)); iexact HC
  iintro ⟨⟨Hb, HA⟩, Hz, HO⟩
  iapply Hk
  isplitl [Hb Hz]
  · isplitl [Hb] <;> iassumption
  isplitl [HA HR]
  · iapply (pointsTo_split_subset (Finset.subset_univ S)).2
    isplitl [HA] <;> iassumption
  iexists _; iexact HO

end Cert.KIProof

end
-- ==== Proof.KI.Compute.lean ====
/- The loads and stores of one compute: the slots and fetch buffers read, the four column blocks of the context buffer
   written and read back, one batch entry of the result read and written. -/
module

public import proofs.«01_k».proof.Proof.KI.Fetch

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

/-! ## Contents -/

def idx3 (a : Fin 1) (b : Fin 256) (d : Fin 512) : S1x256x512.Idx := fun | 0 => a | 1 => b | 2 => d
def idxC (a : Fin 256) (b : Fin 64) : S256x64.Idx := fun | 0 => a | 1 => b

/-- The result buffer from its two batch entries. -/
def outOf (a0 a1 : FVec F S1x256x512 .f32) (c : Dev nD) : Buf (Elt F) ((c : Thread nD τ).loc cc0_stg3_0) :=
  fun i : S2x256x512.Idx => if (i 0).val = 0 then a0 (idx3 0 (i 1) (i 2)) else a1 (idx3 0 (i 1) (i 2))
/-- The batch entry `b`. -/
def pick {α : Type} (b : ℕ) (a0 a1 : α) : α := if b = 0 then a0 else a1

/-- A `256 × 256` array from its four blocks of 64 columns. -/
def colsOf (q : Fin 4 → FVec F S256x64 .f32) : FVec F S256x256 .f32 :=
  fun i => q ⟨(i 1).val / 64, by have h : (i 1).val < 256 := (i 1).isLt; omega⟩ (idxC (i 0) ⟨(i 1).val % 64, Nat.mod_lt _ (by decide)⟩)

/-- A weight slot as it is loaded. -/
def wSlot (w : FVec F S512x256 .f32) : FVec F S1x1x512x256 .f32 := fun i => w (idx2 (i 2) (i 3))
/-- A slot of the fetch buffers as it is loaded. -/
def kvSlot (A : FVec F S2x4x256x64 .f32) : FVec F S1x2x4x256x64 .f32 := fun i => A (fun | 0 => i 1 | 1 => i 2 | 2 => i 3 | 3 => i 4)

variable (c : Dev nD)

/-! ## Loads -/

theorem load_gR {h s : ℕ} {q : PosShare TreeShare} {off : Fin 4 → ℕ} (hoff : off = ![h, s, 0, 0]) {inb} {hl}
    {α : Type} {Q : α → sProp 𝕄} {k : Vec F S1x1x512x256 .f32 → Prog (TpuEff nD τ sig (Elt F) Λ₀ .tc) α} :
    slotQ I .R c h s q
      ⊢ iprop((slotQ I .R c h s q -∗ wp frame (wpE (defs₀ (F := F)) 𝒱₀ (c : Thread nD τ) none) Set.univ (k (wSlot (I.w (srcDev .R c h) s))) Q)
          -∗ wp frame (wpE (defs₀ (F := F)) 𝒱₀ (c : Thread nD τ) none) Set.univ
              (.op (.load (Memref.whole cc0_scratch0 : Memref sig .tc .vmem S9x2x512x256 .f32) (Rect.unit (s := S9x2x512x256) off S1x1x512x256.size inb).toLoadRect hl) k) Q) := by
  subst hoff
  have hS : ((Memref.whole cc0_scratch0 : Memref sig .tc .vmem S9x2x512x256 .f32).access (Rect.unit (s := S9x2x512x256) ![h, s, 0, 0] S1x1x512x256.size inb)).set = slotSet .R c h s := by
    rw [← slotR_set h s c inb]; exact (View.set_reshape _ _).symm
  have e : ((Memref.whole cc0_scratch0 : Memref sig .tc .vmem S9x2x512x256 .f32).access (Rect.unit (s := S9x2x512x256) ![h, s, 0, 0] S1x1x512x256.size inb)).read (Elt F) (gFin I .R c)
      = wSlot (I.w (srcDev .R c h) s) := by
    funext x
    have e0 : h + 1 * (x 0).val = h := by have h1 : (x 0).val < 1 := (x 0).isLt; omega
    have e1 : s + 1 * (x 1).val = s := by have h1 : (x 1).val < 1 := (x 1).isLt; omega
    show I.w (srcDev .R c (h + 1 * (x 0).val)) (s + 1 * (x 1).val) (idx2 _ _) = I.w (srcDev .R c h) s (idx2 (x 2) (x 3))
    rw [e0, e1]; congr 1
    funext a
    match a with
    | ⟨0, _⟩ => exact Fin.ext (by show 0 + 1 * (x 2).val = (x 2).val; omega)
    | ⟨1, _⟩ => exact Fin.ext (by show 0 + 1 * (x 3).val = (x 3).val; omega)
  unfold slotQ
  iintro H Hk
  iapply (wp_load_rect (defs := defs₀ (F := F)) 𝒱₀ (c : Thread nD τ) none Set.univ (hl := hl) (f := gFin I .R c) (le_of_eq hS)) $$ H
  rw [e]
  iexact Hk

theorem load_gL {h s : ℕ} {q : PosShare TreeShare} {off : Fin 4 → ℕ} (hoff : off = ![h, s, 0, 0]) {inb} {hl}
    {α : Type} {Q : α → sProp 𝕄} {k : Vec F S1x1x512x256 .f32 → Prog (TpuEff nD τ sig (Elt F) Λ₀ .tc) α} :
    slotQ I .L c h s q
      ⊢ iprop((slotQ I .L c h s q -∗ wp frame (wpE (defs₀ (F := F)) 𝒱₀ (c : Thread nD τ) none) Set.univ (k (wSlot (I.w (srcDev .L c h) s))) Q)
          -∗ wp frame (wpE (defs₀ (F := F)) 𝒱₀ (c : Thread nD τ) none) Set.univ
              (.op (.load (Memref.whole cc0_scratch1 : Memref sig .tc .vmem S8x2x512x256 .f32) (Rect.unit (s := S8x2x512x256) off S1x1x512x256.size inb).toLoadRect hl) k) Q) := by
  subst hoff
  have hS : ((Memref.whole cc0_scratch1 : Memref sig .tc .vmem S8x2x512x256 .f32).access (Rect.unit (s := S8x2x512x256) ![h, s, 0, 0] S1x1x512x256.size inb)).set = slotSet .L c h s := by
    rw [← slotL_set h s c inb]; exact (View.set_reshape _ _).symm
  have e : ((Memref.whole cc0_scratch1 : Memref sig .tc .vmem S8x2x512x256 .f32).access (Rect.unit (s := S8x2x512x256) ![h, s, 0, 0] S1x1x512x256.size inb)).read (Elt F) (gFin I .L c)
      = wSlot (I.w (srcDev .L c h) s) := by
    funext x
    have e0 : h + 1 * (x 0).val = h := by have h1 : (x 0).val < 1 := (x 0).isLt; omega
    have e1 : s + 1 * (x 1).val = s := by have h1 : (x 1).val < 1 := (x 1).isLt; omega
    show I.w (srcDev .L c (h + 1 * (x 0).val)) (s + 1 * (x 1).val) (idx2 _ _) = I.w (srcDev .L c h) s (idx2 (x 2) (x 3))
    rw [e0, e1]; congr 1
    funext a
    match a with
    | ⟨0, _⟩ => exact Fin.ext (by show 0 + 1 * (x 2).val = (x 2).val; omega)
    | ⟨1, _⟩ => exact Fin.ext (by show 0 + 1 * (x 3).val = (x 3).val; omega)
  unfold slotQ
  iintro H Hk
  iapply (wp_load_rect (defs := defs₀ (F := F)) 𝒱₀ (c : Thread nD τ) none Set.univ (hl := hl) (f := gFin I .L c) (le_of_eq hS)) $$ H
  rw [e]
  iexact Hk

/-- The heads that row `h` of a chain brings, of keys and of values. -/
def Kv.heads : (a : Kv) → (X : Dir) → (c : Dev nD) → ℕ → FVec F S2x4x256x64 .f32
  | .K, X, c, h => headsOf (I.k c) (srcDev X c h)
  | .V, X, c, h => headsOf (I.v c) (srcDev X c h)

/-- An index of a fetch buffer without its slot. -/
def back (i : S4x2x4x256x64.Idx) : S2x4x256x64.Idx := fun | 0 => i 1 | 1 => i 2 | 2 => i 3 | 3 => i 4

theorem load_buf (a : Kv) (X : Dir) {h : ℕ} {off : Fin 5 → ℕ} (hoff : off = ![jx X h, 0, 0, 0, 0]) {inb} {hl}
    {α : Type} {Q : α → sProp 𝕄} {k : Vec F S1x2x4x256x64 .f32 → Prog (TpuEff nD τ sig (Elt F) Λ₀ .tc) α} :
    BufQ I a X c h
      ⊢ iprop((BufQ I a X c h -∗ wp frame (wpE (defs₀ (F := F)) 𝒱₀ (c : Thread nD τ) none) Set.univ (k (kvSlot (a.heads I X c h))) Q)
          -∗ wp frame (wpE (defs₀ (F := F)) 𝒱₀ (c : Thread nD τ) none) Set.univ
              (.op (.load a.bufM (Rect.unit (s := S4x2x4x256x64) off S1x2x4x256x64.size inb).toLoadRect hl) k) Q) := by
  subst hoff
  unfold BufQ
  have key : ∀ (A : FVec F S2x4x256x64 .f32) (x : S1x2x4x256x64.Idx),
      A (back ((Rect.unit (s := S4x2x4x256x64) ![jx X h, 0, 0, 0, 0] S1x2x4x256x64.size inb).emb x)) = kvSlot A x := by
    intro A x
    unfold kvSlot; congr 1
    funext b
    match b with
    | ⟨0, _⟩ => exact Fin.ext (by show 0 + 1 * (x 1).val = (x 1).val; omega)
    | ⟨1, _⟩ => exact Fin.ext (by show 0 + 1 * (x 2).val = (x 2).val; omega)
    | ⟨2, _⟩ => exact Fin.ext (by show 0 + 1 * (x 3).val = (x 3).val; omega)
    | ⟨3, _⟩ => exact Fin.ext (by show 0 + 1 * (x 4).val = (x 4).val; omega)
  cases a with
  | K =>
    have hS : ((Kv.bufM .K).access (Rect.unit (s := S4x2x4x256x64) ![jx X h, 0, 0, 0, 0] S1x2x4x256x64.size inb)).set = Kv.bset .K c (jx X h) := by
      rw [← bslot_set .K c (jx X h) inb]; exact (View.set_reshape _ _).symm
    have e : ((Kv.bufM .K).access (Rect.unit (s := S4x2x4x256x64) ![jx X h, 0, 0, 0, 0] S1x2x4x256x64.size inb)).read (Elt F) (Kv.bfin I .K c (srcDev X c h))
        = kvSlot (Kv.heads I .K X c h) := funext fun x => key (headsOf (I.k c) (srcDev X c h)) x
    iintro H Hk
    iapply (wp_load_rect (defs := defs₀ (F := F)) 𝒱₀ (c : Thread nD τ) none Set.univ (hl := hl) (f := Kv.bfin I .K c (srcDev X c h)) (le_of_eq hS)) $$ H
    rw [e]
    iexact Hk
  | V =>
    have hS : ((Kv.bufM .V).access (Rect.unit (s := S4x2x4x256x64) ![jx X h, 0, 0, 0, 0] S1x2x4x256x64.size inb)).set = Kv.bset .V c (jx X h) := by
      rw [← bslot_set .V c (jx X h) inb]; exact (View.set_reshape _ _).symm
    have e : ((Kv.bufM .V).access (Rect.unit (s := S4x2x4x256x64) ![jx X h, 0, 0, 0, 0] S1x2x4x256x64.size inb)).read (Elt F) (Kv.bfin I .V c (srcDev X c h))
        = kvSlot (Kv.heads I .V X c h) := funext fun x => key (headsOf (I.v c) (srcDev X c h)) x
    iintro H Hk
    iapply (wp_load_rect (defs := defs₀ (F := F)) 𝒱₀ (c : Thread nD τ) none Set.univ (hl := hl) (f := Kv.bfin I .V c (srcDev X c h)) (le_of_eq hS)) $$ H
    rw [e]
    iexact Hk

/-- The activations loaded whole. -/
theorem load_x {off : Fin 2 → ℕ} (h : off = fun _ => 0) {inb} {hl} {q : PosShare TreeShare} {f : FVec F S512x512 .f32}
    {α : Type} {Q : α → sProp 𝕄} {k : Vec F S512x512 .f32 → Prog (TpuEff nD τ sig (Elt F) Λ₀ .tc) α} :
    ((((c : Thread nD τ).loc cc0_stg0_0) ↦{q} f : sProp 𝕄))
      ⊢ iprop(((((c : Thread nD τ).loc cc0_stg0_0) ↦{q} f) -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg0_0 : Memref sig .tc .vmem S512x512 .f32) (Rect.unit (s := S512x512) off S512x512.size inb).toLoadRect hl) k) Q) := by
  have e : (Memref.whole cc0_stg0_0 : Memref sig .tc .vmem S512x512 .f32).view.readAt (Elt F) (Rect.unit (s := S512x512) off S512x512.size inb).toLoadRect f = f :=
    Memref.readAt_unit_zero (Elt F) cc0_stg0_0 h inb f
  iintro H Hk
  iapply (wp_load (defs := defs₀ (F := F)) 𝒱₀ (c : Thread nD τ) none Set.univ (hl := hl) (m := (Memref.whole cc0_stg0_0 : Memref sig .tc .vmem S512x512 .f32)) (f := f) (S := Finset.univ) (Finset.subset_univ _)) $$ H
  rw [e]
  iexact Hk

/-- A weight block loaded whole. -/
theorem load_wq {off : Fin 2 → ℕ} (h : off = fun _ => 0) {inb} {hl} {q : PosShare TreeShare} {f : FVec F S512x256 .f32}
    {α : Type} {Q : α → sProp 𝕄} {k : Vec F S512x256 .f32 → Prog (TpuEff nD τ sig (Elt F) Λ₀ .tc) α} :
    ((((c : Thread nD τ).loc cc0_stg1_0) ↦{q} f : sProp 𝕄))
      ⊢ iprop(((((c : Thread nD τ).loc cc0_stg1_0) ↦{q} f) -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg1_0 : Memref sig .tc .vmem S512x256 .f32) (Rect.unit (s := S512x256) off S512x256.size inb).toLoadRect hl) k) Q) := by
  have e : (Memref.whole cc0_stg1_0 : Memref sig .tc .vmem S512x256 .f32).view.readAt (Elt F) (Rect.unit (s := S512x256) off S512x256.size inb).toLoadRect f = f :=
    Memref.readAt_unit_zero (Elt F) cc0_stg1_0 h inb f
  iintro H Hk
  iapply (wp_load (defs := defs₀ (F := F)) 𝒱₀ (c : Thread nD τ) none Set.univ (hl := hl) (m := (Memref.whole cc0_stg1_0 : Memref sig .tc .vmem S512x256 .f32)) (f := f) (S := Finset.univ) (Finset.subset_univ _)) $$ H
  rw [e]
  iexact Hk

/-- A weight block loaded whole. -/
theorem load_wt {off : Fin 2 → ℕ} (h : off = fun _ => 0) {inb} {hl} {q : PosShare TreeShare} {f : FVec F S512x256 .f32}
    {α : Type} {Q : α → sProp 𝕄} {k : Vec F S512x256 .f32 → Prog (TpuEff nD τ sig (Elt F) Λ₀ .tc) α} :
    ((((c : Thread nD τ).loc cc0_stg2_0) ↦{q} f : sProp 𝕄))
      ⊢ iprop(((((c : Thread nD τ).loc cc0_stg2_0) ↦{q} f) -∗ wp frame (wpE (defs₀ (F := F)) 𝒱₀ (c : Thread nD τ) none) Set.univ (k f) Q)
          -∗ wp frame (wpE (defs₀ (F := F)) 𝒱₀ (c : Thread nD τ) none) Set.univ
              (.op (.load (Memref.whole cc0_stg2_0 : Memref sig .tc .vmem S512x256 .f32) (Rect.unit (s := S512x256) off S512x256.size inb).toLoadRect hl) k) Q) := by
  have e : (Memref.whole cc0_stg2_0 : Memref sig .tc .vmem S512x256 .f32).view.readAt (Elt F) (Rect.unit (s := S512x256) off S512x256.size inb).toLoadRect f = f :=
    Memref.readAt_unit_zero (Elt F) cc0_stg2_0 h inb f
  iintro H Hk
  iapply (wp_load (defs := defs₀ (F := F)) 𝒱₀ (c : Thread nD τ) none Set.univ (hl := hl) (m := (Memref.whole cc0_stg2_0 : Memref sig .tc .vmem S512x256 .f32)) (f := f) (S := Finset.univ) (Finset.subset_univ _)) $$ H
  rw [e]
  iexact Hk

/-! ## The own blocks stored -/

/-- The first row of chain `R` filled with an own block. -/
theorem put_gR {s : ℕ} {o₁ o₂ : Fin 4 → ℕ} (ho₁ : o₁ = ![0, s, 0, 0]) (ho₂ : o₂ = ![0, s, 0, 0]) {inb₁ inb₂} {hl} {w : FVec F S1x1x512x256 .f32} {hx hm} (hw : w = wSlot (I.w c s))
    {α : Type} {Q : α → sProp 𝕄} {k : Vec F S1x1x512x256 .f32 → PUnit → Prog (TpuEff nD τ sig (Elt F) Λ₀ .tc) α} :
    slotAny .R c 0 s
      ⊢ iprop((∀ d, slotQ I .R c 0 s fullShare -∗ wp frame (wpE (defs₀ (F := F)) 𝒱₀ (c : Thread nD τ) none) Set.univ (k d ⟨⟩) Q)
          -∗ wp frame (wpE (defs₀ (F := F)) 𝒱₀ (c : Thread nD τ) none) Set.univ
              (.op (.load (Memref.whole cc0_scratch0 : Memref sig .tc .vmem S9x2x512x256 .f32) (Rect.unit (s := S9x2x512x256) o₁ S1x1x512x256.size inb₁).toLoadRect hl) fun d =>
                .op (.store (Memref.whole cc0_scratch0 : Memref sig .tc .vmem S9x2x512x256 .f32) (Rect.unit (s := S9x2x512x256) o₂ S1x1x512x256.size inb₂) w Finset.univ hx hm) (k d)) Q) := by
  subst ho₁ ho₂ hw
  have hS : ((Memref.whole cc0_scratch0 : Memref sig .tc .vmem S9x2x512x256 .f32).access (Rect.unit (s := S9x2x512x256) ![0, s, 0, 0] S1x1x512x256.size inb₁)).set = slotSet .R c 0 s := by
    rw [← slotR_set 0 s c inb₁]; exact (View.set_reshape _ _).symm
  unfold slotAny slotQ
  iintro ⟨%f, H⟩ Hk
  iapply (wp_load_rect (defs := defs₀ (F := F)) 𝒱₀ (c : Thread nD τ) none Set.univ (hl := hl) (f := f) (le_of_eq hS)) $$ H
  iintro H
  iapply (wp_store (defs := defs₀ (F := F)) 𝒱₀ (c : Thread nD τ) none Set.univ (hx := hx) (hm := hm) (f := f) (le_of_eq hS)) $$ H
  iintro H
  iapply Hk
  iapply (Entails.of_eq ?_) $$ H
  rw [← hS]
  refine pointsTo_congr fun i hi => ?_
  obtain ⟨x, -, rfl⟩ := Finset.mem_map.mp hi
  refine View.eq_of_read_eq (v := (Memref.whole cc0_scratch0 : Memref sig .tc .vmem S9x2x512x256 .f32).access (Rect.unit (s := S9x2x512x256) ![0, s, 0, 0] S1x1x512x256.size inb₂)) (x := x) ?_
  rw [View.read_write_of_mem _ _ (Finset.mem_univ x)]
  have e0 : 0 + 1 * (x 0).val = 0 := by have h1 : (x 0).val < 1 := (x 0).isLt; omega
  have e1 : s + 1 * (x 1).val = s := by have h1 : (x 1).val < 1 := (x 1).isLt; omega
  show I.w c s (idx2 (x 2) (x 3)) = I.w (srcDev .R c (0 + 1 * (x 0).val)) (s + 1 * (x 1).val) (idx2 _ _)
  rw [e0, e1, srcDev_zero]; congr 1
  funext a
  match a with
  | ⟨0, _⟩ => exact Fin.ext (by show (x 2).val = 0 + 1 * (x 2).val; omega)
  | ⟨1, _⟩ => exact Fin.ext (by show (x 3).val = 0 + 1 * (x 3).val; omega)

/-- The first row of chain `L` filled with an own block. -/
theorem put_gL {s : ℕ} {o₁ o₂ : Fin 4 → ℕ} (ho₁ : o₁ = ![0, s, 0, 0]) (ho₂ : o₂ = ![0, s, 0, 0]) {inb₁ inb₂} {hl} {w : FVec F S1x1x512x256 .f32} {hx hm} (hw : w = wSlot (I.w c s))
    {α : Type} {Q : α → sProp 𝕄} {k : Vec F S1x1x512x256 .f32 → PUnit → Prog (TpuEff nD τ sig (Elt F) Λ₀ .tc) α} :
    slotAny .L c 0 s
      ⊢ iprop((∀ d, slotQ I .L c 0 s fullShare -∗ wp frame (wpE (defs₀ (F := F)) 𝒱₀ (c : Thread nD τ) none) Set.univ (k d ⟨⟩) Q)
          -∗ wp frame (wpE (defs₀ (F := F)) 𝒱₀ (c : Thread nD τ) none) Set.univ
              (.op (.load (Memref.whole cc0_scratch1 : Memref sig .tc .vmem S8x2x512x256 .f32) (Rect.unit (s := S8x2x512x256) o₁ S1x1x512x256.size inb₁).toLoadRect hl) fun d =>
                .op (.store (Memref.whole cc0_scratch1 : Memref sig .tc .vmem S8x2x512x256 .f32) (Rect.unit (s := S8x2x512x256) o₂ S1x1x512x256.size inb₂) w Finset.univ hx hm) (k d)) Q) := by
  subst ho₁ ho₂ hw
  have hS : ((Memref.whole cc0_scratch1 : Memref sig .tc .vmem S8x2x512x256 .f32).access (Rect.unit (s := S8x2x512x256) ![0, s, 0, 0] S1x1x512x256.size inb₁)).set = slotSet .L c 0 s := by
    rw [← slotL_set 0 s c inb₁]; exact (View.set_reshape _ _).symm
  unfold slotAny slotQ
  iintro ⟨%f, H⟩ Hk
  iapply (wp_load_rect (defs := defs₀ (F := F)) 𝒱₀ (c : Thread nD τ) none Set.univ (hl := hl) (f := f) (le_of_eq hS)) $$ H
  iintro H
  iapply (wp_store (defs := defs₀ (F := F)) 𝒱₀ (c : Thread nD τ) none Set.univ (hx := hx) (hm := hm) (f := f) (le_of_eq hS)) $$ H
  iintro H
  iapply Hk
  iapply (Entails.of_eq ?_) $$ H
  rw [← hS]
  refine pointsTo_congr fun i hi => ?_
  obtain ⟨x, -, rfl⟩ := Finset.mem_map.mp hi
  refine View.eq_of_read_eq (v := (Memref.whole cc0_scratch1 : Memref sig .tc .vmem S8x2x512x256 .f32).access (Rect.unit (s := S8x2x512x256) ![0, s, 0, 0] S1x1x512x256.size inb₂)) (x := x) ?_
  rw [View.read_write_of_mem _ _ (Finset.mem_univ x)]
  have e0 : 0 + 1 * (x 0).val = 0 := by have h1 : (x 0).val < 1 := (x 0).isLt; omega
  have e1 : s + 1 * (x 1).val = s := by have h1 : (x 1).val < 1 := (x 1).isLt; omega
  show I.w c s (idx2 (x 2) (x 3)) = I.w (srcDev .L c (0 + 1 * (x 0).val)) (s + 1 * (x 1).val) (idx2 _ _)
  rw [e0, e1, srcDev_zero]; congr 1
  funext a
  match a with
  | ⟨0, _⟩ => exact Fin.ext (by show (x 2).val = 0 + 1 * (x 2).val; omega)
  | ⟨1, _⟩ => exact Fin.ext (by show (x 3).val = 0 + 1 * (x 3).val; omega)

/-! ## The context buffer -/

abbrev colR (off : Fin 2 → ℕ) (inb : ∀ a, off a + S256x64.size a ≤ S256x256.size a) : Rect S256x256 := Rect.unit (s := S256x256) off S256x64.size inb

def idxB (x : S256x64.Idx) (g : Fin 4) : S256x256.Idx := fun
  | 0 => x 0
  | 1 => ⟨64 * g.val + (x 1).val, by have h : (x 1).val < 64 := (x 1).isLt; have := g.isLt; show 64 * g.val + (x 1).val < 256; omega⟩

theorem colsOf_surj (f : FVec F S256x256 .f32) : ∃ q, f = colsOf q := by
  refine ⟨fun g x => f (idxB x g), ?_⟩
  funext i
  show f i = f _
  congr 1
  funext a
  match a with
  | ⟨0, _⟩ => rfl
  | ⟨1, _⟩ => exact Fin.ext (by show (i 1).val = 64 * ((i 1).val / 64) + (i 1).val % 64; omega)

/-- A column block overwritten. -/
theorem cols_write (q : Fin 4 → FVec F S256x64 .f32) (g : Fin 4) {off : Fin 2 → ℕ} (ho : off = ![0, 64 * g.val]) (inb) (w : FVec F S256x64 .f32) :
    ((Memref.whole cc0_scratch2 : Memref sig .tc .vmem S256x256 .f32).access (colR off inb)).write (Elt F) (colsOf q) w Finset.univ = colsOf (Function.update q g w) := by
  subst ho
  have hread : ∀ x : S256x64.Idx, ((Memref.whole cc0_scratch2 : Memref sig .tc .vmem S256x256 .f32).access (colR ![0, 64 * g.val] inb)).read (Elt F) (colsOf (Function.update q g w)) x = w x := by
    intro x
    have hx : (x 1).val < 64 := (x 1).isLt
    show Function.update q g w ⟨(64 * g.val + 1 * (x 1).val) / 64, _⟩ (idxC _ _) = w x
    have hg : (⟨(64 * g.val + 1 * (x 1).val) / 64, by have := g.isLt; omega⟩ : Fin 4) = g := Fin.ext (by show (64 * g.val + 1 * (x 1).val) / 64 = g.val; omega)
    rw [hg, Function.update_self]
    congr 1
    funext a
    match a with
    | ⟨0, _⟩ => exact Fin.ext (by show 0 + 1 * (x 0).val = (x 0).val; omega)
    | ⟨1, _⟩ => exact Fin.ext (by show (64 * g.val + 1 * (x 1).val) % 64 = (x 1).val; omega)
  funext i
  by_cases hi : ∃ x : S256x64.Idx, ((Memref.whole cc0_scratch2 : Memref sig .tc .vmem S256x256 .f32).access (colR ![0, 64 * g.val] inb)).emb x = i
  · obtain ⟨x, rfl⟩ := hi
    refine View.eq_of_read_eq ?_
    rw [View.read_write_of_mem _ _ (Finset.mem_univ x), hread]
  · rw [View.write_of_not_mem _ _ _ (fun hm => by obtain ⟨x, -, hx⟩ := Finset.mem_map.mp hm; exact hi ⟨x, hx⟩)]
    show q _ _ = Function.update q g w _ _
    rw [Function.update_of_ne]
    intro he
    have hd : (i 1).val / 64 = g.val := congrArg Fin.val he
    refine hi ⟨idxC (i 0) ⟨(i 1).val % 64, Nat.mod_lt _ (by decide)⟩, ?_⟩
    funext a
    match a with
    | ⟨0, _⟩ => exact Fin.ext (by show 0 + 1 * (i 0).val = (i 0).val; omega)
    | ⟨1, _⟩ => exact Fin.ext (by show 64 * g.val + 1 * ((i 1).val % 64) = (i 1).val; omega)

/-- The context buffer with given column blocks. -/
def CtxS (q : Fin 4 → FVec F S256x64 .f32) : sProp 𝕄 := ((c : Thread nD τ).loc cc0_scratch2) ↦{fullShare} (colsOf q : FVec F S256x256 .f32)

/-- A column block read, the value unused, and overwritten. -/
theorem col_store (q : Fin 4 → FVec F S256x64 .f32) (g : Fin 4) {o₁ o₂ : Fin 2 → ℕ} (ho : o₂ = ![0, 64 * g.val]) {inb₁ inb₂} {hl} {w : FVec F S256x64 .f32} {hx hm}
    {α : Type} {Q : α → sProp 𝕄} {k : Vec F S256x64 .f32 → PUnit → Prog (TpuEff nD τ sig (Elt F) Λ₀ .tc) α} :
    CtxS c q
      ⊢ iprop((∀ d, CtxS c (Function.update q g w) -∗ wp frame (wpE (defs₀ (F := F)) 𝒱₀ (c : Thread nD τ) none) Set.univ (k d ⟨⟩) Q)
          -∗ wp frame (wpE (defs₀ (F := F)) 𝒱₀ (c : Thread nD τ) none) Set.univ
              (.op (.load (Memref.whole cc0_scratch2 : Memref sig .tc .vmem S256x256 .f32) (colR o₁ inb₁).toLoadRect hl) fun d =>
                .op (.store (Memref.whole cc0_scratch2 : Memref sig .tc .vmem S256x256 .f32) (colR o₂ inb₂) w Finset.univ hx hm) (k d)) Q) := by
  unfold CtxS
  iintro H Hk
  iapply (wp_load (defs := defs₀ (F := F)) 𝒱₀ (c : Thread nD τ) none Set.univ (hl := hl) (m := (Memref.whole cc0_scratch2 : Memref sig .tc .vmem S256x256 .f32)) (r := (colR o₁ inb₁).toLoadRect) (f := colsOf q) (S := Finset.univ) (Finset.subset_univ _)) $$ H
  iintro H
  iapply (wp_store (defs := defs₀ (F := F)) 𝒱₀ (c : Thread nD τ) none Set.univ (hx := hx) (hm := hm) (f := colsOf q) (S := Finset.univ) (Finset.subset_univ _)) $$ H
  rw [cols_write q g ho inb₂ w]
  iintro H
  iapply Hk
  iexact H

/-- The context loaded whole. -/
theorem load_ctx (q : Fin 4 → FVec F S256x64 .f32) {off : Fin 2 → ℕ} (h : off = fun _ => 0) {inb} {hl}
    {α : Type} {Q : α → sProp 𝕄} {k : Vec F S256x256 .f32 → Prog (TpuEff nD τ sig (Elt F) Λ₀ .tc) α} :
    CtxS c q
      ⊢ iprop((CtxS c q -∗ wp frame (wpE (defs₀ (F := F)) 𝒱₀ (c : Thread nD τ) none) Set.univ (k (colsOf q)) Q)
          -∗ wp frame (wpE (defs₀ (F := F)) 𝒱₀ (c : Thread nD τ) none) Set.univ
              (.op (.load (Memref.whole cc0_scratch2 : Memref sig .tc .vmem S256x256 .f32) (Rect.unit (s := S256x256) off S256x256.size inb).toLoadRect hl) k) Q) := by
  have e : (Memref.whole cc0_scratch2 : Memref sig .tc .vmem S256x256 .f32).view.readAt (Elt F) (Rect.unit (s := S256x256) off S256x256.size inb).toLoadRect (colsOf q) = colsOf q :=
    Memref.readAt_unit_zero (Elt F) cc0_scratch2 h inb (colsOf q)
  unfold CtxS
  iintro H Hk
  iapply (wp_load (defs := defs₀ (F := F)) 𝒱₀ (c : Thread nD τ) none Set.univ (hl := hl) (m := (Memref.whole cc0_scratch2 : Memref sig .tc .vmem S256x256 .f32)) (f := colsOf q) (S := Finset.univ) (Finset.subset_univ _)) $$ H
  rw [e]
  iexact Hk

/-! ## The result buffer -/

abbrev outR (off : Fin 3 → ℕ) (inb : ∀ a, off a + S1x256x512.size a ≤ S2x256x512.size a) : Rect S2x256x512 := Rect.unit (s := S2x256x512) off S1x256x512.size inb

theorem out_read (a0 a1 : FVec F S1x256x512 .f32) (b : ℕ) (hb : b < 2) {off : Fin 3 → ℕ} (ho : off = ![b, 0, 0]) (inb) :
    ((Memref.whole cc0_stg3_0 : Memref sig .tc .vmem S2x256x512 .f32).access (outR off inb)).read (Elt F) (outOf a0 a1 c) = pick b a0 a1 := by
  subst ho
  funext x
  have h0 : (x 0).val < 1 := (x 0).isLt
  have key : ∀ a : FVec F S1x256x512 .f32, a (idx3 0 ((outR ![b, 0, 0] inb).emb x 1) ((outR ![b, 0, 0] inb).emb x 2)) = a x := by
    intro a; congr 1
    funext d
    match d with
    | ⟨0, _⟩ => exact Fin.ext (by show 0 = (x 0).val; omega)
    | ⟨1, _⟩ => exact Fin.ext (by show 0 + 1 * (x 1).val = (x 1).val; omega)
    | ⟨2, _⟩ => exact Fin.ext (by show 0 + 1 * (x 2).val = (x 2).val; omega)
  show (if b + 1 * (x 0).val = 0 then a0 (idx3 0 ((outR ![b, 0, 0] inb).emb x 1) ((outR ![b, 0, 0] inb).emb x 2))
    else a1 (idx3 0 ((outR ![b, 0, 0] inb).emb x 1) ((outR ![b, 0, 0] inb).emb x 2))) = _
  unfold pick
  by_cases h : b = 0
  · exact (if_pos (by omega)).trans ((key a0).trans (congrFun (if_pos h).symm x))
  · exact (if_neg (by omega)).trans ((key a1).trans (congrFun (if_neg h).symm x))

theorem out_write (a0 a1 w : FVec F S1x256x512 .f32) (b : ℕ) (hb : b < 2) {off : Fin 3 → ℕ} (ho : off = ![b, 0, 0]) (inb) :
    ((Memref.whole cc0_stg3_0 : Memref sig .tc .vmem S2x256x512 .f32).access (outR off inb)).write (Elt F) (outOf a0 a1 c) w Finset.univ
      = outOf (pick b w a0) (pick b a1 w) c := by
  have hread : ∀ x, ((Memref.whole cc0_stg3_0 : Memref sig .tc .vmem S2x256x512 .f32).access (outR off inb)).read (Elt F) (outOf (pick b w a0) (pick b a1 w) c) x = w x := by
    intro x
    rw [out_read c _ _ b hb ho inb]; unfold pick; split <;> rfl
  subst ho
  funext i
  by_cases hi : ∃ x : S1x256x512.Idx, ((Memref.whole cc0_stg3_0 : Memref sig .tc .vmem S2x256x512 .f32).access (outR ![b, 0, 0] inb)).emb x = i
  · obtain ⟨x, rfl⟩ := hi
    refine View.eq_of_read_eq ?_
    rw [View.read_write_of_mem _ _ (Finset.mem_univ x), hread]
  · rw [View.write_of_not_mem _ _ _ (fun hm => by obtain ⟨x, -, hx⟩ := Finset.mem_map.mp hm; exact hi ⟨x, hx⟩)]
    have hne : (i 0).val ≠ b := by
      intro he
      refine hi ⟨idx3 0 (i 1) (i 2), ?_⟩
      funext a
      match a with
      | ⟨0, _⟩ => exact Fin.ext (by show b + 1 * 0 = (i 0).val; omega)
      | ⟨1, _⟩ => exact Fin.ext (by show 0 + 1 * (i 1).val = (i 1).val; omega)
      | ⟨2, _⟩ => exact Fin.ext (by show 0 + 1 * (i 2).val = (i 2).val; omega)
    have h2 : (i 0).val < 2 := (i 0).isLt
    show (if (i 0).val = 0 then _ else _) = (if (i 0).val = 0 then _ else _)
    unfold pick
    by_cases h : b = 0
    · rw [if_neg (by omega), if_neg (by omega), if_pos h]
    · rw [if_pos (by omega), if_pos (by omega), if_neg h]

/-- The result buffer with given batch entries. -/
def OutS (a0 a1 : FVec F S1x256x512 .f32) : sProp 𝕄 := ((c : Thread nD τ).loc cc0_stg3_0) ↦{fullShare} outOf a0 a1 c

theorem out_store (a0 a1 : FVec F S1x256x512 .f32) (b : ℕ) (hb : b < 2) {o₁ o₂ : Fin 3 → ℕ} (ho : o₂ = ![b, 0, 0]) {inb₁ inb₂} {hl} {w : FVec F S1x256x512 .f32} {hx hm}
    {α : Type} {Q : α → sProp 𝕄} {k : Vec F S1x256x512 .f32 → PUnit → Prog (TpuEff nD τ sig (Elt F) Λ₀ .tc) α} :
    OutS c a0 a1
      ⊢ iprop((∀ d, OutS c (pick b w a0) (pick b a1 w) -∗ wp frame (wpE (defs₀ (F := F)) 𝒱₀ (c : Thread nD τ) none) Set.univ (k d ⟨⟩) Q)
          -∗ wp frame (wpE (defs₀ (F := F)) 𝒱₀ (c : Thread nD τ) none) Set.univ
              (.op (.load (Memref.whole cc0_stg3_0 : Memref sig .tc .vmem S2x256x512 .f32) (outR o₁ inb₁).toLoadRect hl) fun d =>
                .op (.store (Memref.whole cc0_stg3_0 : Memref sig .tc .vmem S2x256x512 .f32) (outR o₂ inb₂) w Finset.univ hx hm) (k d)) Q) := by
  unfold OutS
  iintro H Hk
  iapply (wp_load (defs := defs₀ (F := F)) 𝒱₀ (c : Thread nD τ) none Set.univ (hl := hl) (m := (Memref.whole cc0_stg3_0 : Memref sig .tc .vmem S2x256x512 .f32)) (r := (outR o₁ inb₁).toLoadRect) (f := outOf a0 a1 c) (S := Finset.univ) (Finset.subset_univ _)) $$ H
  iintro H
  iapply (wp_store (defs := defs₀ (F := F)) 𝒱₀ (c : Thread nD τ) none Set.univ (hx := hx) (hm := hm) (f := outOf a0 a1 c) (S := Finset.univ) (Finset.subset_univ _)) $$ H
  rw [out_write c a0 a1 w b hb ho inb₂]
  iintro H
  iapply Hk
  iexact H

theorem out_load (a0 a1 : FVec F S1x256x512 .f32) (b : ℕ) (hb : b < 2) {o₁ : Fin 3 → ℕ} (ho : o₁ = ![b, 0, 0]) {inb₁} {hl}
    {α : Type} {Q : α → sProp 𝕄} {k : Vec F S1x256x512 .f32 → Prog (TpuEff nD τ sig (Elt F) Λ₀ .tc) α} :
    OutS c a0 a1
      ⊢ iprop((OutS c a0 a1 -∗ wp frame (wpE (defs₀ (F := F)) 𝒱₀ (c : Thread nD τ) none) Set.univ (k (pick b a0 a1)) Q)
          -∗ wp frame (wpE (defs₀ (F := F)) 𝒱₀ (c : Thread nD τ) none) Set.univ
              (.op (.load (Memref.whole cc0_stg3_0 : Memref sig .tc .vmem S2x256x512 .f32) (outR o₁ inb₁).toLoadRect hl) k) Q) := by
  have e : (Memref.whole cc0_stg3_0 : Memref sig .tc .vmem S2x256x512 .f32).view.readAt (Elt F) (outR o₁ inb₁).toLoadRect (outOf a0 a1 c) = pick b a0 a1 :=
    out_read c a0 a1 b hb ho inb₁
  unfold OutS
  iintro H Hk
  iapply (wp_load (defs := defs₀ (F := F)) 𝒱₀ (c : Thread nD τ) none Set.univ (hl := hl) (m := (Memref.whole cc0_stg3_0 : Memref sig .tc .vmem S2x256x512 .f32)) (r := (outR o₁ inb₁).toLoadRect) (f := outOf a0 a1 c) (S := Finset.univ) (Finset.subset_univ _)) $$ H
  rw [e]
  iintro H
  iapply Hk
  iexact H

/-! ## One batch entry -/

/-- The context of one batch entry written column block by column block: what the buffer holds in the end. -/
theorem cols4 (q : Fin 4 → FVec F S256x64 .f32) (p0 p1 p2 p3 : FVec F S256x64 .f32) :
    Function.update (Function.update (Function.update (Function.update q 0 p0) 1 p1) 2 p2) 3 p3 = ![p0, p1, p2, p3] := by
  funext g
  match g with
  | 0 => rfl
  | 1 => rfl
  | 2 => rfl
  | 3 => rfl

section Block

variable (a0 a1 : FVec F S1x256x512 .f32) (q : Fin 4 → FVec F S256x64 .f32) (b : ℕ) (hb : b < 2)
  {p0 p1 p2 p3 : FVec F S256x64 .f32}
  {i0 i1 i2 i3 i0' i1' i2' i3'} {l0 l1 l2 l3} {x0 x1 x2 x3 m0 m1 m2 m3} {iw lw}

include hb

/-- One batch entry of a compute that adds to the result: the four column blocks written, the context read back, the
    entry of the result read, and overwritten with a function of both. -/
theorem block_add {P : FVec F S256x256 .f32 → FVec F S1x256x512 .f32 → FVec F S1x256x512 .f32} {oo od os : Fin 3 → ℕ} (ho : oo = ![b, 0, 0]) (hs : os = ![b, 0, 0])
    {io id is lo ld xs ms}
    {α : Type} {Q : α → sProp 𝕄} {k : PUnit → Prog (TpuEff nD τ sig (Elt F) Λ₀ .tc) α} :
    iprop(CtxS c q ∗ OutS c a0 a1)
      ⊢ iprop(((CtxS c ![p0, p1, p2, p3] ∗ OutS c (pick b (P (colsOf ![p0, p1, p2, p3]) (pick b a0 a1)) a0) (pick b a1 (P (colsOf ![p0, p1, p2, p3]) (pick b a0 a1))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch2 : Memref sig .tc .vmem S256x256 .f32) (colR ![0, 0] i0).toLoadRect l0) fun _ =>
                .op (.store (Memref.whole cc0_scratch2 : Memref sig .tc .vmem S256x256 .f32) (colR ![0, 0] i0') p0 Finset.univ x0 m0) fun _ =>
                .op (.load (Memref.whole cc0_scratch2 : Memref sig .tc .vmem S256x256 .f32) (colR ![0, 64] i1).toLoadRect l1) fun _ =>
                .op (.store (Memref.whole cc0_scratch2 : Memref sig .tc .vmem S256x256 .f32) (colR ![0, 64] i1') p1 Finset.univ x1 m1) fun _ =>
                .op (.load (Memref.whole cc0_scratch2 : Memref sig .tc .vmem S256x256 .f32) (colR ![0, 128] i2).toLoadRect l2) fun _ =>
                .op (.store (Memref.whole cc0_scratch2 : Memref sig .tc .vmem S256x256 .f32) (colR ![0, 128] i2') p2 Finset.univ x2 m2) fun _ =>
                .op (.load (Memref.whole cc0_scratch2 : Memref sig .tc .vmem S256x256 .f32) (colR ![0, 192] i3).toLoadRect l3) fun _ =>
                .op (.store (Memref.whole cc0_scratch2 : Memref sig .tc .vmem S256x256 .f32) (colR ![0, 192] i3') p3 Finset.univ x3 m3) fun _ =>
                .op (.load (Memref.whole cc0_scratch2 : Memref sig .tc .vmem S256x256 .f32) (Rect.unit (s := S256x256) ![0, 0] S256x256.size iw).toLoadRect lw) fun (w : FVec F S256x256 .f32) =>
                .op (.load (Memref.whole cc0_stg3_0 : Memref sig .tc .vmem S2x256x512 .f32) (outR oo io).toLoadRect lo) fun (o : FVec F S1x256x512 .f32) =>
                .op (.load (Memref.whole cc0_stg3_0 : Memref sig .tc .vmem S2x256x512 .f32) (outR od id).toLoadRect ld) fun _ =>
                .op (.store (Memref.whole cc0_stg3_0 : Memref sig .tc .vmem S2x256x512 .f32) (outR os is) (P w o) Finset.univ xs ms) k) Q) := by
  iintro ⟨HC, HO⟩ Hk
  iapply (col_store c q 0 (by decide)) $$ HC
  iintro %d0 HC
  iapply (col_store c _ 1 (by decide)) $$ HC
  iintro %d1 HC
  iapply (col_store c _ 2 (by decide)) $$ HC
  iintro %d2 HC
  iapply (col_store c _ 3 (by decide)) $$ HC
  iintro %d3 HC
  rw [cols4]
  iapply (load_ctx c _ (by decide)) $$ HC
  iintro HC
  iapply (out_load c a0 a1 b hb ho) $$ HO
  iintro HO
  iapply (out_store c a0 a1 b hb hs) $$ HO
  iintro %d4 HO
  iapply Hk
  isplitl [HC] <;> iassumption

/-- One batch entry of the first compute: the entry overwritten with a function of the context. -/
theorem block_first {P : FVec F S256x256 .f32 → FVec F S1x256x512 .f32} {od os : Fin 3 → ℕ} (hs : os = ![b, 0, 0])
    {id is ld xs ms}
    {α : Type} {Q : α → sProp 𝕄} {k : PUnit → Prog (TpuEff nD τ sig (Elt F) Λ₀ .tc) α} :
    iprop(CtxS c q ∗ OutS c a0 a1)
      ⊢ iprop(((CtxS c ![p0, p1, p2, p3] ∗ OutS c (pick b (P (colsOf ![p0, p1, p2, p3])) a0) (pick b a1 (P (colsOf ![p0, p1, p2, p3]))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch2 : Memref sig .tc .vmem S256x256 .f32) (colR ![0, 0] i0).toLoadRect l0) fun _ =>
                .op (.store (Memref.whole cc0_scratch2 : Memref sig .tc .vmem S256x256 .f32) (colR ![0, 0] i0') p0 Finset.univ x0 m0) fun _ =>
                .op (.load (Memref.whole cc0_scratch2 : Memref sig .tc .vmem S256x256 .f32) (colR ![0, 64] i1).toLoadRect l1) fun _ =>
                .op (.store (Memref.whole cc0_scratch2 : Memref sig .tc .vmem S256x256 .f32) (colR ![0, 64] i1') p1 Finset.univ x1 m1) fun _ =>
                .op (.load (Memref.whole cc0_scratch2 : Memref sig .tc .vmem S256x256 .f32) (colR ![0, 128] i2).toLoadRect l2) fun _ =>
                .op (.store (Memref.whole cc0_scratch2 : Memref sig .tc .vmem S256x256 .f32) (colR ![0, 128] i2') p2 Finset.univ x2 m2) fun _ =>
                .op (.load (Memref.whole cc0_scratch2 : Memref sig .tc .vmem S256x256 .f32) (colR ![0, 192] i3).toLoadRect l3) fun _ =>
                .op (.store (Memref.whole cc0_scratch2 : Memref sig .tc .vmem S256x256 .f32) (colR ![0, 192] i3') p3 Finset.univ x3 m3) fun _ =>
                .op (.load (Memref.whole cc0_scratch2 : Memref sig .tc .vmem S256x256 .f32) (Rect.unit (s := S256x256) ![0, 0] S256x256.size iw).toLoadRect lw) fun (w : FVec F S256x256 .f32) =>
                .op (.load (Memref.whole cc0_stg3_0 : Memref sig .tc .vmem S2x256x512 .f32) (outR od id).toLoadRect ld) fun _ =>
                .op (.store (Memref.whole cc0_stg3_0 : Memref sig .tc .vmem S2x256x512 .f32) (outR os is) (P w) Finset.univ xs ms) k) Q) := by
  iintro ⟨HC, HO⟩ Hk
  iapply (col_store c q 0 (by decide)) $$ HC
  iintro %d0 HC
  iapply (col_store c _ 1 (by decide)) $$ HC
  iintro %d1 HC
  iapply (col_store c _ 2 (by decide)) $$ HC
  iintro %d2 HC
  iapply (col_store c _ 3 (by decide)) $$ HC
  iintro %d3 HC
  rw [cols4]
  iapply (load_ctx c _ (by decide)) $$ HC
  iintro HC
  iapply (out_store c a0 a1 b hb hs) $$ HO
  iintro %d4 HO
  iapply Hk
  isplitl [HC] <;> iassumption

end Block

end Cert.KIProof

end
-- ==== Proof.KI.Values.lean ====
/- What a compute stores, as functions of what it loads: the head contexts, the projections added up, and the sequence of
   the partial results over the sixteen devices' weights. -/
module

public import proofs.«01_k».proof.Proof.KI.Compute

@[expose] public section

set_option maxRecDepth 10000

noncomputable section

namespace Cert.KIProof

open Cert.KernelIdeal Cert.KernelIdeal.Gen
open Idealize.ShloMosaic Idealize.ShloMosaic.TcCoe

variable {F : FTy → Type} [FloatOps F] [Named F]

/-- The additive mask over a block of queries and keys. -/
def bias : FVec F S256x256 .f32 := k0_pay52 k0_pay50 k0_pay51

/-- The context of one head: the exponentials of the masked scores, their products with the values, each row over its sum. -/
def attn (m : FVec F S256x256 .f32) (qh kh vh : FVec F S256x64 .f32) : FVec F S256x64 .f32 :=
  let e : FVec F S256x256 .f32 := exp (addf (mulf (matmul dot_S256x64_S256x64_S256x256_1_1_0_0_n_n none qh kh (constant S256x256 .f32 0x00000000#32))
    (broadcast S256x256 (Scalar.ofBits .f32 0x3E000000#32))) m)
  let r : FVec F S256x1 .f32 := divf (broadcast S256x1 (Scalar.ofBits .f32 0x3F800000#32))
    (shapeCast S256x1 (multiReduction .add [1] S256 e 0x00000000#32 reduces_S256x256_S256 (.inl rfl) rfl) shapeCasts_S256_S256x1)
  shapeCast S256x64 (mulf (matmul dot_S256x256_S256x64_S256x64_1_0_0_1_n_n none e vh (constant S256x64 .f32 0x00000000#32))
    (broadcastTo S256x64 r broadcasts_S256x1_S256x64)) shapeCasts_S256x64_S256x64

theorem slices_b (b : Fin 2) : S512x256.Slices ![256 * b.val, 0] S256x256 := by revert b; decide
theorem slices_q (g : Fin 4) : S256x256.Slices ![0, 64 * g.val] S256x64 := by revert g; decide
theorem slices_kv (b : Fin 2) (g : Fin 4) : S2x4x256x64.Slices ![b.val, g.val, 0, 0] S1x1x256x64 := by revert b g; decide

/-- The queries of a head group: the activations times its query weights. -/
def queries (x : FVec F S512x512 .f32) (w : FVec F S512x256 .f32) : FVec F S512x256 .f32 :=
  matmul dot_S512x512_S512x256_S512x256_1_0_0_1_n_n none (shapeCast S512x512 x shapeCasts_S512x512_S512x512)
    (shapeCast S512x256 (wSlot w) shapeCasts_S1x1x512x256_S512x256) (constant S512x256 .f32 0x00000000#32)

/-- The context of head `g` of a group in batch entry `b`. -/
def headCtx (x : FVec F S512x512 .f32) (w : FVec F S512x256 .f32) (k v : FVec F S2x4x256x64 .f32) (b : Fin 2) (g : Fin 4) : FVec F S256x64 .f32 :=
  attn bias (extractStridedSlice S256x64 ![0, 64 * g.val] (extractStridedSlice S256x256 ![256 * b.val, 0] (queries x w) (slices_b b)) (slices_q g))
    (shapeCast S256x64 (extractStridedSlice S1x1x256x64 ![b.val, g.val, 0, 0] (shapeCast S2x4x256x64 (kvSlot k) shapeCasts_S1x2x4x256x64_S2x4x256x64) (slices_kv b g)) shapeCasts_S1x1x256x64_S256x64)
    (shapeCast S256x64 (extractStridedSlice S1x1x256x64 ![b.val, g.val, 0, 0] (shapeCast S2x4x256x64 (kvSlot v) shapeCasts_S1x2x4x256x64_S2x4x256x64) (slices_kv b g)) shapeCasts_S1x1x256x64_S256x64)

/-- A group's contexts through its output weights. -/
def project (w : FVec F S512x256 .f32) (ctx : FVec F S256x256 .f32) : FVec F S256x512 .f32 :=
  matmul dot_S256x256_S512x256_S256x512_1_1_0_0_n_n none ctx (shapeCast S512x256 (wSlot w) shapeCasts_S1x1x512x256_S512x256) (constant S256x512 .f32 0x00000000#32)

/-- The first partial result, -/
def putOut (w : FVec F S512x256 .f32) (ctx : FVec F S256x256 .f32) : FVec F S1x256x512 .f32 :=
  shapeCast S1x256x512 (project w ctx) shapeCasts_S256x512_S1x256x512
/-- and one more added. -/
def addOut (w : FVec F S512x256 .f32) (ctx : FVec F S256x256 .f32) (o : FVec F S1x256x512 .f32) : FVec F S1x256x512 .f32 :=
  shapeCast S1x256x512 (addf (shapeCast S256x512 o shapeCasts_S1x256x512_S256x512) (project w ctx)) shapeCasts_S256x512_S1x256x512

variable (I : Inp F)

/-- The contexts that row `h` of chain `X` gives on device `c`, for batch entry `b`. -/
def ctxAt (X : Dir) (c : Dev nD) (h : ℕ) (b : Fin 2) : Fin 4 → FVec F S256x64 .f32 :=
  headCtx (I.x c) (I.w (srcDev X c h) 0) (Kv.heads I .K X c h) (Kv.heads I .V X c h) b

/-- One compute on a batch entry's partial result. -/
def plus (X : Dir) (c : Dev nD) (h : ℕ) (b : Fin 2) (o : FVec F S1x256x512 .f32) : FVec F S1x256x512 .f32 :=
  addOut (I.w (srcDev X c h) 1) (colsOf (ctxAt I X c h b)) o

/-- The partial result after the own group and `k` rows of either chain. -/
def acc (c : Dev nD) (b : Fin 2) : ℕ → FVec F S1x256x512 .f32
  | 0 => putOut (I.w (srcDev .R c 0) 1) (colsOf (ctxAt I .R c 0 b))
  | k + 1 => plus I .L c (k + 1) b (plus I .R c (k + 1) b (acc c b k))

/-- A batch entry of the result. -/
def result (c : Dev nD) (b : Fin 2) : FVec F S1x256x512 .f32 := plus I .R c 8 b (acc I c b 7)

/-! ## The kernel's stores are these -/

section Pays

variable (x : FVec F S512x512 .f32) (w w' : FVec F S512x256 .f32) (k v : FVec F S2x4x256x64 .f32)

theorem cols_R0 :
    ![k0_pay7 bias (k0_pay1 (wSlot w)) (k0_pay3 (kvSlot k)) (kvSlot v) x,
      k0_pay11 (k0_pay9 bias (k0_pay1 (wSlot w)) (k0_pay3 (kvSlot k)) (kvSlot v) x) (k0_pay10 bias (k0_pay1 (wSlot w)) (k0_pay3 (kvSlot k)) x),
      k0_pay12 bias (k0_pay3 (kvSlot k)) (k0_pay4 (kvSlot v)) (k0_pay6 (k0_pay1 (wSlot w)) x),
      k0_pay14 (k0_pay13 bias (k0_pay3 (kvSlot k)) (k0_pay4 (kvSlot v)) (k0_pay6 (k0_pay1 (wSlot w)) x))] = headCtx x w k v 0 := by
  funext g
  match g with
  | 0 => rfl
  | 1 => rfl
  | 2 => rfl
  | 3 => rfl

theorem cols_R1 :
    ![k0_pay17 bias (k0_pay3 (kvSlot k)) (k0_pay4 (kvSlot v)) (k0_pay5 (k0_pay1 (wSlot w)) x),
      k0_pay20 bias (k0_pay18 (k0_pay4 (kvSlot v))) (k0_pay19 (k0_pay3 (kvSlot k)) (k0_pay5 (k0_pay1 (wSlot w)) x)),
      k0_pay21 bias (k0_pay3 (kvSlot k)) (k0_pay4 (kvSlot v)) (k0_pay16 (k0_pay5 (k0_pay1 (wSlot w)) x)),
      k0_pay25 (k0_pay22 (k0_pay4 (kvSlot v))) (k0_pay23 bias (k0_pay3 (kvSlot k)) (k0_pay16 (k0_pay5 (k0_pay1 (wSlot w)) x)))
        (k0_pay24 bias (k0_pay3 (kvSlot k)) (k0_pay16 (k0_pay5 (k0_pay1 (wSlot w)) x)))] = headCtx x w k v 1 := by
  funext g
  match g with
  | 0 => rfl
  | 1 => rfl
  | 2 => rfl
  | 3 => rfl

theorem cols_L0 :
    ![k0_pay33 bias (k0_pay27 (wSlot w)) (k0_pay29 (kvSlot k)) (kvSlot v) x,
      k0_pay35 (k0_pay34 bias (k0_pay27 (wSlot w)) (k0_pay29 (kvSlot k)) (kvSlot v) x),
      k0_pay36 bias (k0_pay29 (kvSlot k)) (k0_pay30 (kvSlot v)) (k0_pay32 (k0_pay27 (wSlot w)) x),
      k0_pay37 bias (k0_pay29 (kvSlot k)) (k0_pay30 (kvSlot v)) (k0_pay32 (k0_pay27 (wSlot w)) x)] = headCtx x w k v 0 := by
  funext g
  match g with
  | 0 => rfl
  | 1 => rfl
  | 2 => rfl
  | 3 => rfl

theorem cols_L1 :
    ![k0_pay40 bias (k0_pay29 (kvSlot k)) (k0_pay30 (kvSlot v)) (k0_pay31 (k0_pay27 (wSlot w)) x),
      k0_pay43 (k0_pay41 (k0_pay30 (kvSlot v))) (k0_pay42 bias (k0_pay29 (kvSlot k)) (k0_pay31 (k0_pay27 (wSlot w)) x)),
      k0_pay44 bias (k0_pay29 (kvSlot k)) (k0_pay30 (kvSlot v)) (k0_pay39 (k0_pay31 (k0_pay27 (wSlot w)) x)),
      k0_pay48 (k0_pay45 (k0_pay30 (kvSlot v))) (k0_pay46 bias (k0_pay29 (kvSlot k)) (k0_pay39 (k0_pay31 (k0_pay27 (wSlot w)) x)))
        (k0_pay47 bias (k0_pay29 (kvSlot k)) (k0_pay39 (k0_pay31 (k0_pay27 (wSlot w)) x))) (Scalar.ofBits .f32 0x3F800000#32)] = headCtx x w k v 1 := by
  funext g
  match g with
  | 0 => rfl
  | 1 => rfl
  | 2 => rfl
  | 3 => rfl

theorem cols_F0 :
    ![k0_pay66 (k0_pay64 bias (wSlot w) (kvSlot k) (kvSlot v) x) (k0_pay65 bias (wSlot w) (kvSlot k) x),
      k0_pay67 bias (k0_pay59 (kvSlot k)) (k0_pay60 (kvSlot v)) (k0_pay62 (wSlot w) x),
      k0_pay69 (k0_pay68 bias (k0_pay59 (kvSlot k)) (k0_pay60 (kvSlot v)) (k0_pay62 (wSlot w) x)),
      k0_pay70 bias (k0_pay59 (kvSlot k)) (k0_pay60 (kvSlot v)) (k0_pay62 (wSlot w) x)] = headCtx x w k v 0 := by
  funext g
  match g with
  | 0 => rfl
  | 1 => rfl
  | 2 => rfl
  | 3 => rfl

theorem cols_F1 :
    ![k0_pay76 (k0_pay73 (k0_pay60 (kvSlot v))) (k0_pay74 bias (k0_pay59 (kvSlot k)) (k0_pay61 (wSlot w) x)) (k0_pay75 bias (k0_pay59 (kvSlot k)) (k0_pay61 (wSlot w) x))
        (Scalar.ofBits .f32 0x3F800000#32),
      k0_pay77 bias (k0_pay59 (kvSlot k)) (k0_pay60 (kvSlot v)) (k0_pay72 (k0_pay61 (wSlot w) x)),
      k0_pay81 (k0_pay79 bias (k0_pay59 (kvSlot k)) (k0_pay72 (k0_pay61 (wSlot w) x))) (k0_pay80 bias (k0_pay59 (kvSlot k)) (k0_pay60 (kvSlot v)) (k0_pay72 (k0_pay61 (wSlot w) x))),
      k0_pay82 bias (k0_pay59 (kvSlot k)) (k0_pay60 (kvSlot v)) (k0_pay72 (k0_pay61 (wSlot w) x))] = headCtx x w k v 1 := by
  funext g
  match g with
  | 0 => rfl
  | 1 => rfl
  | 2 => rfl
  | 3 => rfl

theorem cols_E0 :
    ![k0_pay91 bias (k0_pay86 (kvSlot v)) (k0_pay89 (wSlot w) x) (k0_pay90 (kvSlot k)),
      k0_pay92 bias (k0_pay85 (kvSlot k)) (k0_pay86 (kvSlot v)) (k0_pay88 (wSlot w) x),
      k0_pay95 bias (k0_pay93 (k0_pay86 (kvSlot v))) (k0_pay94 (k0_pay85 (kvSlot k)) (k0_pay88 (wSlot w) x)),
      k0_pay96 bias (k0_pay85 (kvSlot k)) (k0_pay86 (kvSlot v)) (k0_pay88 (wSlot w) x)] = headCtx x w k v 0 := by
  funext g
  match g with
  | 0 => rfl
  | 1 => rfl
  | 2 => rfl
  | 3 => rfl

theorem cols_E1 :
    ![k0_pay100 bias (k0_pay85 (kvSlot k)) (k0_pay86 (kvSlot v)) (k0_pay87 (wSlot w) x),
      k0_pay102 (k0_pay101 bias (k0_pay85 (kvSlot k)) (k0_pay86 (kvSlot v)) (k0_pay87 (wSlot w) x)),
      k0_pay103 bias (k0_pay85 (kvSlot k)) (k0_pay86 (kvSlot v)) (k0_pay99 (k0_pay87 (wSlot w) x)),
      k0_pay104 bias (k0_pay85 (kvSlot k)) (k0_pay86 (kvSlot v)) (k0_pay99 (k0_pay87 (wSlot w) x))] = headCtx x w k v 1 := by
  funext g
  match g with
  | 0 => rfl
  | 1 => rfl
  | 2 => rfl
  | 3 => rfl

theorem out_R0 : k0_pay15 (k0_pay2 (wSlot w)) = addOut w := rfl
theorem out_R1 : k0_pay26 (k0_pay2 (wSlot w)) = addOut w := rfl
theorem out_L0 : k0_pay38 (k0_pay28 (wSlot w)) = addOut w := rfl
theorem out_L1 : k0_pay49 (k0_pay28 (wSlot w)) = addOut w := rfl
theorem out_F0 : k0_pay71 (k0_pay58 (wSlot w)) = putOut w := rfl
theorem out_F1 : k0_pay83 (k0_pay58 (wSlot w)) = putOut w := rfl
theorem out_E0 : (fun ctx o => k0_pay98 (k0_pay97 (k0_pay84 (wSlot w)) ctx o)) = addOut w := rfl
theorem out_E1 : k0_pay105 (k0_pay84 (wSlot w)) = addOut w := rfl

end Pays

/-! ## The two weight blocks as they are stored -/

theorem wSlot_reshape (hn : S512x256.ShapeCasts S1x1x512x256) (w : FVec F S512x256 .f32) : shapeCast S1x1x512x256 w hn = wSlot w := by
  funext y
  show w (Shape.reshapeEquiv hn y) = w _
  congr 1
  obtain ⟨h0, h1, h2, h3⟩ := unsqueeze hn.symm (idx2 (y 2) (y 3))
  have hy : y = Shape.reshapeEquiv hn.symm (idx2 (y 2) (y 3)) := by
    funext a
    match a with
    | ⟨0, _⟩ => exact Fin.ext ((Nat.lt_one_iff.mp (y 0).isLt).trans h0.symm)
    | ⟨1, _⟩ => exact Fin.ext ((Nat.lt_one_iff.mp (y 1).isLt).trans h1.symm)
    | ⟨2, _⟩ => exact Fin.ext h2.symm
    | ⟨3, _⟩ => exact Fin.ext h3.symm
  refine (congrArg (Shape.reshapeEquiv hn) hy).trans ?_
  rw [Shape.reshapeEquiv_reshapeEquiv, Shape.reshapeEquiv_self]

theorem cast_self {s : Shape} {α : Type} (v : s.Idx → α) (h : s.ShapeCasts s) : shapeCast s v h = v :=
  funext fun x => congrArg v (Shape.reshapeEquiv_self h x)

theorem put_q (w : FVec F S512x256 .f32) : k0_pay54 (k0_pay53 w) = wSlot w := by
  unfold k0_pay54 k0_pay53
  simp only [cast_self]
  exact wSlot_reshape _ _
theorem put_q' (w : FVec F S512x256 .f32) : k0_pay56 w = wSlot w := by
  unfold k0_pay56
  simp only [cast_self]
  exact wSlot_reshape _ _
theorem put_t (w : FVec F S512x256 .f32) : k0_pay55 w = wSlot w := by
  unfold k0_pay55
  simp only [cast_self]
  exact wSlot_reshape _ _
theorem put_t' (w : FVec F S512x256 .f32) : k0_pay57 w = wSlot w := by
  unfold k0_pay57
  simp only [cast_self]
  exact wSlot_reshape _ _

end Cert.KIProof

end
-- ==== Proof.KI.Trip.lean ====
/- The first half of a trip of the kernel's loop: row `h = t + 1` of either chain arrives and is sent on, the heads it
   needs arrive and the next ones are fetched. -/
module

public import proofs.«01_k».proof.Proof.KI.Values

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

variable (K : GSem nD τ sig → ℕ) (c : Dev nD)

theorem trips_lt (t : Fin k0_t1_loop.trips) : t.val < 7 := lt_of_lt_of_le t.isLt k0_t1_abs.2.1

/-- A part of the kernel on this call's buffers. -/
abbrev onBufs {β : Type 1}
    (f : (arg0 : Memref sig .tc .vmem S512x512 .f32) → (harg0 : arg0.IsWhole) → (arg1 : Memref sig .tc .vmem S512x256 .f32) → (harg1 : arg1.IsWhole) →
      (arg2 : Memref sig .tc .hbm S2x64x256x64 .f32) → (harg2 : arg2.IsWhole) → (arg3 : Memref sig .tc .hbm S2x64x256x64 .f32) → (harg3 : arg3.IsWhole) →
      (arg4 : Memref sig .tc .vmem S512x256 .f32) → (harg4 : arg4.IsWhole) → (arg5 : Memref sig .tc .vmem S2x256x512 .f32) → (harg5 : arg5.IsWhole) →
      (arg6 : Memref sig .tc .vmem S9x2x512x256 .f32) → (harg6 : arg6.IsWhole) → (arg7 : Memref sig .tc .vmem S8x2x512x256 .f32) → (harg7 : arg7.IsWhole) →
      (arg8 : Memref sig .tc .vmem S256x256 .f32) → (harg8 : arg8.IsWhole) → (arg9 : Memref sig .tc .vmem S4x2x4x256x64 .f32) → (harg9 : arg9.IsWhole) →
      (arg10 : Memref sig .tc .vmem S4x2x4x256x64 .f32) → (harg10 : arg10.IsWhole) →
      (arg11 : DmaSems sig S9x2) → (arg12 : DmaSems sig S9x2) → (arg13 : DmaSems sig S8x2) → (arg14 : DmaSems sig S8x2) → (arg15 : DmaSems sig S4x2) → β) : β :=
  f (Memref.whole cc0_stg0_0) (Memref.isWhole_whole _) (Memref.whole cc0_stg1_0) (Memref.isWhole_whole _) (Memref.whole main_v12) (Memref.isWhole_whole _)
    (Memref.whole main_v18) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 cc0_scratch9

/-- A step taken on a condition, from what holds whichever way it goes. -/
theorem wp_cond {p : Prop} [Decidable p] {α : Type} {A : p → Prog (TpuEff nD τ sig (Elt F) Λ₀ .tc) α} {B : Prog (TpuEff nD τ sig (Elt F) Λ₀ .tc) α}
    {Q : α → sProp 𝕄} {R P : sProp 𝕄}
    (hp : ∀ h, R ⊢ iprop((P -∗ wp frame (wpE (defs₀ (F := F)) 𝒱₀ (c : Thread nD τ) none) Set.univ B Q) -∗ wp frame (wpE (defs₀ (F := F)) 𝒱₀ (c : Thread nD τ) none) Set.univ (A h) Q))
    (hn : ¬ p → R ⊢ P) :
    R ⊢ iprop((P -∗ wp frame (wpE (defs₀ (F := F)) 𝒱₀ (c : Thread nD τ) none) Set.univ B Q)
      -∗ wp frame (wpE (defs₀ (F := F)) 𝒱₀ (c : Thread nD τ) none) Set.univ (dite p A (fun _ => B)) Q) := by
  by_cases h : p
  · rw [dif_pos h]; exact hp h
  · rw [dif_neg h]
    iintro HR Hk
    iapply Hk
    iapply (hn h); iexact HR

section Sems

variable {off : Fin 2 → ℕ} {h s : ℕ} (e : off = ![h, s]) (inb)
include e

theorem sR_of : semAt9 cc0_scratch5 off inb = sSem .R h s := by subst e; exact sem_s9 h s inb
theorem rR_of : semAt9 cc0_scratch6 off inb = rSem .R h s := by subst e; exact sem_r9 h s inb

end Sems

section SemsL

variable {off : Fin 2 → ℕ} {h s : ℕ} (e : off = ![h, s]) (inb)
include e

theorem sL_of : semAt8 cc0_scratch7 off inb = sSem .L h s := by subst e; exact sem_s8 h s inb
theorem rL_of : semAt8 cc0_scratch8 off inb = rSem .L h s := by subst e; exact sem_r8 h s inb

end SemsL

theorem kv_of {off : Fin 2 → ℕ} {j s : ℕ} (e : off = ![j, s]) (inb) : semAt4 cc0_scratch9 off inb = kvSem j s := by subst e; exact sem_kv j s inb

/-- The slot of row `h`, as the printed offsets give it. -/
theorem jx_R1 {off : Fin 2 → ℕ} {h s : ℕ} (e : off = ![2 * (0 : Fin 2).val + h % 2, s]) : off = ![jx .R h, s] := by
  rw [e]; exact congrArg (fun n => ![n, s]) (Nat.zero_add _)
theorem jx_L1 {off : Fin 2 → ℕ} {h s : ℕ} (e : off = ![2 * (1 : Fin 2).val + h % 2, s]) : off = ![jx .L h, s] := by
  rw [e]; exact congrArg (fun n => ![n, s]) (Nat.add_comm _ _)
theorem creditK (off) (inb) : (bslot (Kv.bufM .K) off inb).view.dmaCredit = NK := rfl
theorem creditV (off) (inb) : (bslot (Kv.bufM .V) off inb).view.dmaCredit = NK := rfl

theorem cond_iff (t : Fin k0_t1_loop.trips) : (k0_cond1 t = 1#1 ↔ t.val + 2 < 8) ∧ (k0_cond2 t = 1#1 ↔ t.val + 2 < 8) ∧ (k0_cond3 t = 1#1 ↔ t.val + 2 < 8) := by
  revert t; decide +kernel

/-- What is still owed for chain `X` between the two entries of row `h + 1`. -/
def half (X : Dir) (c : Dev nD) (h : ℕ) : CellTallies nD τ sig Unit :=
  if h + 1 < hops X then owedX X c (h + 1) + tallyAt (rCell X (nxt X c) (h + 1) 1) () N else owedX X c (h + 1)

theorem above_half (X : Dir) (c : Dev nD) (h : ℕ) : Above (h + 1) (half X c h) := by
  unfold half
  by_cases hh : h + 1 < hops X
  · rw [if_pos hh]
    exact ((above_owedX X c (h + 1)).mono (by omega)).add (Above.tally (by rw [lv_r ⟨by omega, hh, by decide⟩]; omega))
  · rw [if_neg hh]; exact (above_owedX X c (h + 1)).mono (by omega)

theorem owed_first (X : Dir) (c : Dev nD) (h : ℕ) (hh : h + 1 < hops X) :
    owedX X c h = half X c h + tallyAt (rCell X (nxt X c) (h + 1) 0) () N := by
  unfold half; rw [if_pos hh]; exact owedX_step X c h hh
theorem owed_second (X : Dir) (c : Dev nD) (h : ℕ) (hh : h + 1 < hops X) :
    half X c h = owedX X c (h + 1) + tallyAt (rCell X (nxt X c) (h + 1) 1) () N := by
  unfold half; rw [if_pos hh]
theorem owed_none (X : Dir) (c : Dev nD) (h : ℕ) (hh : ¬ h + 1 < hops X) : owedX X c h = half X c h ∧ half X c h = owedX X c (h + 1) := by
  unfold half
  rw [if_neg hh, owedX_last X c h (by omega), owedX_last X c (h + 1) (by omega)]
  exact ⟨rfl, rfl⟩

/-- The copies of row `h`, if the chain has such a row; -/
def FutIf (X : Dir) (c : Dev nD) (h s : ℕ) : sProp 𝕄 := if h < hops X then Fut X c h s else iprop(emp)
/-- entry `s` of row `h` after it was sent on, or, at the chain's end, kept. -/
def Mid (X : Dir) (c : Dev nD) (h s : ℕ) : sProp 𝕄 :=
  if h + 1 < hops X then iprop(Rcv X c (h + 1) s ∗ Snd I X c (h + 1) s) else slotQ I X c h s fullShare

variable (t : Fin k0_t1_loop.trips)

section Parts

theorem part1_wp (v5 v7 : BitVec 32) {α : Type} {Q : α → sProp 𝕄} {k : BitVec 32 → Prog (TpuEff nD τ sig (Elt F) Λ₀ .tc) α} (O : CellTallies nD τ sig Unit) (hO : Above (t.val + 2) O) :
    iprop(Ctx I K ∗ Rcv .R c (t.val + 1) 0 ∗ Fut .R c (t.val + 2) 0 ∗ owesA c (owedX .R c (t.val + 1) + O))
      ⊢ iprop((∀ a : BitVec 32, (semVal (rCell .R c (t.val + 1) 0) 0 ∗ Rcv .R c (t.val + 2) 0 ∗ Snd I .R c (t.val + 2) 0 ∗ owesA c (half .R c (t.val + 1) + O))
            -∗ wp frame (wpE (defs₀ (F := F)) 𝒱₀ (c : Thread nD τ) none) Set.univ (k a) Q)
          -∗ wp frame (wpE (defs₀ (F := F)) 𝒱₀ (c : Thread nD τ) none) Set.univ (onBufs (k0_part1 (F := F)) c v5 v7 1#32 1#32 t >>= k) Q) := by
  have ht := trips_lt t
  have u1 : Used .R (t.val + 1) 0 := ⟨by omega, by show _ < 9; omega, by decide⟩
  have u2 : Used .R (t.val + 1 + 1) 0 := ⟨by omega, by show _ < 9; omega, by decide⟩
  unfold onBufs
  rw [k0_part1_eq_skeleton]
  unfold k0_part1_skel
  simp only [Prog.lift, Prog.bind_op, Prog.bind_ret, Prog.pure_eq_ret, Prog.bind_assoc]
  iintro ⟨#HC, Hr, Hf, HO⟩ Hk
  iapply (wait_recv I K c u1 (rR_of (k0_off5_eq t) _) (creditR _ _) (((above_owedX .R c (t.val + 1)).mono (by omega)).add hO)) $$ [Hr HO]
  · isplitr; · iexact HC
    isplitl [Hr] <;> iassumption
  iintro ⟨Hs, Hz, HO⟩
  iapply (send_R I K c u2 (n := ⟨k0_dev7 c, k0_dev7_lt c⟩) (Fin.ext (k0_dev7_eq c)) (sR_of (k0_off8_eq t) _) (rR_of (k0_off8_eq t) _) (k0_off10_eq t) (k0_off9_eq t)
    (O₁ := owedX .R c (t.val + 1) + O) (O := half .R c (t.val + 1) + O) (by rw [owed_first .R c _ u2.2, add_right_comm])) $$ [Hf Hs HO]
  · isplitr; · iexact HC
    isplitl [Hf]; · iexact Hf
    isplitl [Hs] <;> iassumption
  iintro ⟨H1, H2, HO⟩
  iapply Hk
  isplitl [Hz]; · iexact Hz
  isplitl [H1]; · iexact H1
  isplitl [H2] <;> iassumption

theorem part2_wp (v5 v7 a : BitVec 32) {α : Type} {Q : α → sProp 𝕄} {k : PUnit → Prog (TpuEff nD τ sig (Elt F) Λ₀ .tc) α} :
    iprop(Ctx I K ∗ Rcv .L c (t.val + 1) 0 ∗ FutIf .L c (t.val + 2) 0 ∗ Rcv .R c (t.val + 1) 1 ∗ Fut .R c (t.val + 2) 1 ∗ owesA c (half .R c (t.val + 1) + owedX .L c (t.val + 1)))
      ⊢ iprop(((semVal (rCell .L c (t.val + 1) 0) 0 ∗ Mid I .L c (t.val + 1) 0 ∗ semVal (rCell .R c (t.val + 1) 1) 0 ∗ Rcv .R c (t.val + 2) 1 ∗ Snd I .R c (t.val + 2) 1
              ∗ owesA c (owedX .R c (t.val + 2) + half .L c (t.val + 1)))
            -∗ wp frame (wpE (defs₀ (F := F)) 𝒱₀ (c : Thread nD τ) none) Set.univ (k ⟨⟩) Q)
          -∗ wp frame (wpE (defs₀ (F := F)) 𝒱₀ (c : Thread nD τ) none) Set.univ (onBufs (k0_part2 (F := F)) c v5 v7 t a >>= k) Q) := by
  have ht := trips_lt t
  have uL : Used .L (t.val + 1) 0 := ⟨by omega, by show _ < 8; omega, by decide⟩
  have u1 : Used .R (t.val + 1) 1 := ⟨by omega, by show _ < 9; omega, by decide⟩
  have u2 : Used .R (t.val + 1 + 1) 1 := ⟨by omega, by show _ < 9; omega, by decide⟩
  unfold onBufs
  rw [k0_part2_eq_skeleton, wp_bind]
  unfold k0_part2_skel
  simp only [Prog.lift, Prog.bind_op, Prog.bind_ret, Prog.pure_eq_ret, Prog.bind_assoc]
  iintro ⟨#HC, HrL, HfL, Hr, Hf, HO⟩ Hk
  iapply (wait_recv I K c uL (rL_of (k0_off11_eq t) _) (creditL _ _) ((above_half .R c (t.val + 1)).add (above_owedX .L c (t.val + 1)))) $$ [HrL HO]
  · isplitr; · iexact HC
    isplitl [HrL] <;> iassumption
  iintro ⟨HsL, HzL, HO⟩
  iapply (wp_cond c (R := iprop(Ctx I K ∗ FutIf .L c (t.val + 2) 0 ∗ slotQ I .L c (t.val + 1) 0 fullShare ∗ owesA c (half .R c (t.val + 1) + owedX .L c (t.val + 1))))
    (P := iprop(Mid I .L c (t.val + 1) 0 ∗ owesA c (half .R c (t.val + 1) + half .L c (t.val + 1)))) ?_ ?_) $$ [HfL HsL HO]
  rotate_left 2
  · isplitr; · iexact HC
    isplitl [HfL]; · iexact HfL
    isplitl [HsL] <;> iassumption
  rotate_left 1
  · intro h
    have h8 : t.val + 1 + 1 < hops .L := (cond_iff t).1.1 h
    have uL2 : Used .L (t.val + 1 + 1) 0 := ⟨by omega, h8, by decide⟩
    unfold FutIf Mid
    rw [if_pos h8, if_pos h8]
    iintro ⟨#HC, HfL, HsL, HO⟩ Hk
    iapply (send_L I K c uL2 (n := ⟨k0_dev8 c, k0_dev8_lt c t h⟩) (Fin.ext (k0_dev8_eq c)) (sL_of (k0_off14_eq t) _) (rL_of (k0_off14_eq t) _) (k0_off16_eq t) (k0_off15_eq t)
      (O₁ := half .R c (t.val + 1) + owedX .L c (t.val + 1)) (O := half .R c (t.val + 1) + half .L c (t.val + 1)) (by rw [owed_first .L c _ h8, ← add_assoc])) $$ [HfL HsL HO]
    · isplitr; · iexact HC
      isplitl [HfL]; · iexact HfL
      isplitl [HsL] <;> iassumption
    iintro ⟨H1, H2, HO⟩
    iapply Hk
    isplitr [HO]; · isplitl [H1] <;> iassumption
    iexact HO
  · intro h
    have h8 : ¬ t.val + 1 + 1 < hops .L := fun h' => h ((cond_iff t).1.2 h')
    unfold Mid
    rw [if_neg h8, (owed_none .L c _ h8).1]
    iintro ⟨-, -, HsL, HO⟩
    isplitl [HsL] <;> iassumption
  iintro ⟨HM, HO⟩
  iapply (wait_recv I K c u1 (rR_of (k0_off17_eq t) _) (creditR _ _) ((above_half .R c (t.val + 1)).add (above_half .L c (t.val + 1)))) $$ [Hr HO]
  · isplitr; · iexact HC
    isplitl [Hr] <;> iassumption
  iintro ⟨Hs, Hz, HO⟩
  iapply (send_R I K c u2 (n := ⟨k0_dev9 c, k0_dev9_lt c⟩) (Fin.ext (k0_dev9_eq c)) (sR_of (k0_off20_eq t) _) (rR_of (k0_off20_eq t) _) (k0_off22_eq t) (k0_off21_eq t)
    (O₁ := half .R c (t.val + 1) + half .L c (t.val + 1)) (O := owedX .R c (t.val + 1 + 1) + half .L c (t.val + 1)) (by rw [owed_second .R c _ u2.2, add_right_comm])) $$ [Hf Hs HO]
  · isplitr; · iexact HC
    isplitl [Hf]; · iexact Hf
    isplitl [Hs] <;> iassumption
  iintro ⟨H1, H2, HO⟩
  rw [wp_ret]
  imodintro
  iapply Hk
  isplitl [HzL]; · iexact HzL
  isplitl [HM]; · iexact HM
  isplitl [Hz]; · iexact Hz
  isplitl [H1]; · iexact H1
  isplitl [H2] <;> iassumption

theorem part3_wp (v2 v5 a : BitVec 32) {α : Type} {Q : α → sProp 𝕄} {k : PUnit → Prog (TpuEff nD τ sig (Elt F) Λ₀ .tc) α} :
    iprop(Ctx I K ∗ Rcv .L c (t.val + 1) 1 ∗ FutIf .L c (t.val + 2) 1 ∗ KvFly I .K .R c (t.val + 1) ∗ owesA c (owedX .R c (t.val + 2) + half .L c (t.val + 1)))
      ⊢ iprop(((semVal (rCell .L c (t.val + 1) 1) 0 ∗ Mid I .L c (t.val + 1) 1 ∗ KvHeld I .K .R c (t.val + 1) ∗ Arr I .K .R c
              ∗ owesA c (owedX .R c (t.val + 2) + owedX .L c (t.val + 2)))
            -∗ wp frame (wpE (defs₀ (F := F)) 𝒱₀ (c : Thread nD τ) none) Set.univ (k ⟨⟩) Q)
          -∗ wp frame (wpE (defs₀ (F := F)) 𝒱₀ (c : Thread nD τ) none) Set.univ (onBufs (k0_part3 (F := F)) c v2 v5 t a >>= k) Q) := by
  have ht := trips_lt t
  have uL : Used .L (t.val + 1) 1 := ⟨by omega, by show _ < 8; omega, by decide⟩
  unfold onBufs
  rw [k0_part3_eq_skeleton, wp_bind]
  unfold k0_part3_skel
  simp only [Prog.lift, Prog.bind_op, Prog.bind_ret, Prog.pure_eq_ret, Prog.bind_assoc]
  iintro ⟨#HC, HrL, HfL, HK, HO⟩ Hk
  iapply (wait_recv I K c uL (rL_of (k0_off23_eq t) _) (creditL _ _) (((above_owedX .R c (t.val + 2)).mono (by omega)).add (above_half .L c (t.val + 1)))) $$ [HrL HO]
  · isplitr; · iexact HC
    isplitl [HrL] <;> iassumption
  iintro ⟨HsL, HzL, HO⟩
  iapply (wp_cond c (R := iprop(Ctx I K ∗ FutIf .L c (t.val + 2) 1 ∗ slotQ I .L c (t.val + 1) 1 fullShare ∗ owesA c (owedX .R c (t.val + 2) + half .L c (t.val + 1))))
    (P := iprop(Mid I .L c (t.val + 1) 1 ∗ owesA c (owedX .R c (t.val + 2) + owedX .L c (t.val + 2)))) ?_ ?_) $$ [HfL HsL HO]
  rotate_left 2
  · isplitr; · iexact HC
    isplitl [HfL]; · iexact HfL
    isplitl [HsL] <;> iassumption
  rotate_left 1
  · intro h
    have h8 : t.val + 1 + 1 < hops .L := (cond_iff t).2.1.1 h
    have uL2 : Used .L (t.val + 1 + 1) 1 := ⟨by omega, h8, by decide⟩
    unfold FutIf Mid
    rw [if_pos h8, if_pos h8]
    iintro ⟨#HC, HfL, HsL, HO⟩ Hk
    iapply (send_L I K c uL2 (n := ⟨k0_dev10 c, k0_dev10_lt c t h⟩) (Fin.ext (k0_dev10_eq c)) (sL_of (k0_off26_eq t) _) (rL_of (k0_off26_eq t) _) (k0_off28_eq t) (k0_off27_eq t)
      (O₁ := owedX .R c (t.val + 2) + half .L c (t.val + 1)) (O := owedX .R c (t.val + 2) + owedX .L c (t.val + 2)) (by rw [owed_second .L c _ h8, ← add_assoc])) $$ [HfL HsL HO]
    · isplitr; · iexact HC
      isplitl [HfL]; · iexact HfL
      isplitl [HsL] <;> iassumption
    iintro ⟨H1, H2, HO⟩
    iapply Hk
    isplitr [HO]; · isplitl [H1] <;> iassumption
    iexact HO
  · intro h
    have h8 : ¬ t.val + 1 + 1 < hops .L := fun h' => h ((cond_iff t).2.1.2 h')
    unfold Mid
    rw [if_neg h8, (owed_none .L c _ h8).2]
    iintro ⟨-, -, HsL, HO⟩
    isplitl [HsL] <;> iassumption
  iintro ⟨HM, HO⟩
  iapply (fetch_wait I K c .K .R (t.val + 1) (kv_of (jx_R1 (k0_off29_eq t 0)) _) (creditK _ _)
    (((above_owedX .R c (t.val + 2)).mono (by omega)).add ((above_owedX .L c (t.val + 2)).mono (by omega)))) $$ [HK HO]
  · isplitr; · iexact HC
    isplitl [HK] <;> iassumption
  iintro ⟨HK, HA, HO⟩
  rw [wp_ret]
  imodintro
  iapply Hk
  isplitl [HzL]; · iexact HzL
  isplitl [HM]; · iexact HM
  isplitl [HK]; · iexact HK
  isplitl [HA] <;> iassumption

theorem part4_wp (v2 a : BitVec 32) {α : Type} {Q : α → sProp 𝕄} {k : BitVec 32 → Prog (TpuEff nD τ sig (Elt F) Λ₀ .tc) α} :
    iprop(Ctx I K ∗ KvFly I .V .R c (t.val + 1) ∗ KvFly I .K .L c (t.val + 1) ∗ KvFly I .V .L c (t.val + 1) ∗ owesA c (owedX .R c (t.val + 2) + owedX .L c (t.val + 2)))
      ⊢ iprop((∀ a : BitVec 32, (KvHeld I .V .R c (t.val + 1) ∗ Arr I .V .R c ∗ KvHeld I .K .L c (t.val + 1) ∗ Arr I .K .L c ∗ KvHeld I .V .L c (t.val + 1) ∗ Arr I .V .L c
              ∗ owesA c (owedX .R c (t.val + 2) + owedX .L c (t.val + 2)))
            -∗ wp frame (wpE (defs₀ (F := F)) 𝒱₀ (c : Thread nD τ) none) Set.univ (k a) Q)
          -∗ wp frame (wpE (defs₀ (F := F)) 𝒱₀ (c : Thread nD τ) none) Set.univ (onBufs (k0_part4 (F := F)) c v2 t a >>= k) Q) := by
  have hA : Above 0 (owedX .R c (t.val + 2) + owedX .L c (t.val + 2)) := ((above_owedX .R c (t.val + 2)).mono (by omega)).add ((above_owedX .L c (t.val + 2)).mono (by omega))
  unfold onBufs
  rw [k0_part4_eq_skeleton]
  unfold k0_part4_skel
  simp only [Prog.lift, Prog.bind_op, Prog.bind_ret, Prog.pure_eq_ret, Prog.bind_assoc]
  iintro ⟨#HC, H1, H2, H3, HO⟩ Hk
  iapply (fetch_wait I K c .V .R (t.val + 1) (kv_of (jx_R1 (k0_off32_eq t 0)) _) (creditV _ _) hA) $$ [H1 HO]
  · isplitr; · iexact HC
    isplitl [H1] <;> iassumption
  iintro ⟨H1, A1, HO⟩
  iapply (fetch_wait I K c .K .L (t.val + 1) (kv_of (jx_L1 (k0_off29_eq t 1)) _) (creditK _ _) hA) $$ [H2 HO]
  · isplitr; · iexact HC
    isplitl [H2] <;> iassumption
  iintro ⟨H2, A2, HO⟩
  iapply (fetch_wait I K c .V .L (t.val + 1) (kv_of (jx_L1 (k0_off32_eq t 1)) _) (creditV _ _) hA) $$ [H3 HO]
  · isplitr; · iexact HC
    isplitl [H3] <;> iassumption
  iintro ⟨H3, A3, HO⟩
  iapply Hk
  isplitl [H1]; · iexact H1
  isplitl [A1]; · iexact A1
  isplitl [H2]; · iexact H2
  isplitl [A2]; · iexact A2
  isplitl [H3]; · iexact H3
  isplitl [A3] <;> iassumption

/-- The device whose rows are fetched for row `t + 2`, as the printed offsets give it. -/
theorem src_R2 {n : ℕ} (hn : n = ((c.val + 14) - t.val) % 16) : n = (srcDev .R c (t.val + 2)).val := by
  have ht := trips_lt t
  show n = (c.val + 15 * (t.val + 2)) % 16
  omega
theorem src_L2 {n : ℕ} (hn : n = (c.val + t.val + 18) % 16) : n = (srcDev .L c (t.val + 2)).val := by
  show n = (c.val + (t.val + 2)) % 16
  omega
theorem at_src {o : Fin 4 → ℕ} {n m : ℕ} (e : o = ![0, 4 * n, 0, 0]) (h : n = m) : o = ![0, 4 * m, 0, 0] := h ▸ e

/-- The heads of row `h + 1` in flight, or, at the chain's end, the slot and the array at rest. -/
def KvNext (a : Kv) (X : Dir) (c : Dev nD) (h : ℕ) : sProp 𝕄 :=
  if h + 1 < hops X then KvFly I a X c (h + 1) else iprop(KvFree a c (jx X (h + 1)) ∗ Arr I a X c)

theorem part5_wp (v2 a b : BitVec 32) {α : Type} {Q : α → sProp 𝕄} {k : (Σ' (_ : FVec F S512x256 .f32) (_ : FVec F S512x256 .f32), FVec F S2x4x256x64 .f32) → Prog (TpuEff nD τ sig (Elt F) Λ₀ .tc) α} :
    iprop((KvFree .K c (jx .R (t.val + 2)) ∗ Arr I .K .R c) ∗ (KvFree .V c (jx .R (t.val + 2)) ∗ Arr I .V .R c) ∗ ((KvFree .K c (jx .L (t.val + 2)) ∗ Arr I .K .L c) ∗ (KvFree .V c (jx .L (t.val + 2)) ∗ Arr I .V .L c))
        ∗ slotQ I .R c (t.val + 1) 0 fullShare.right ∗ slotQ I .R c (t.val + 1) 1 fullShare.right ∗ BufQ I .K .R c (t.val + 1))
      ⊢ iprop(((KvNext I .K .R c (t.val + 1) ∗ KvNext I .V .R c (t.val + 1) ∗ (KvNext I .K .L c (t.val + 1) ∗ KvNext I .V .L c (t.val + 1))
              ∗ slotQ I .R c (t.val + 1) 0 fullShare.right ∗ slotQ I .R c (t.val + 1) 1 fullShare.right ∗ BufQ I .K .R c (t.val + 1))
            -∗ wp frame (wpE (defs₀ (F := F)) 𝒱₀ (c : Thread nD τ) none) Set.univ
                (k ⟨k0_pay1 (wSlot (I.w (srcDev .R c (t.val + 1)) 0)), ⟨k0_pay2 (wSlot (I.w (srcDev .R c (t.val + 1)) 1)), k0_pay3 (kvSlot (Kv.heads I .K .R c (t.val + 1)))⟩⟩) Q)
          -∗ wp frame (wpE (defs₀ (F := F)) 𝒱₀ (c : Thread nD τ) none) Set.univ (onBufs (k0_part5 (F := F)) c v2 t a b >>= k) Q) := by
  have ht := trips_lt t
  unfold onBufs
  rw [k0_part5_eq_skeleton, wp_bind]
  unfold k0_part5_skel
  simp only [Prog.lift, Prog.bind_op, Prog.bind_ret, Prog.pure_eq_ret, Prog.bind_assoc]
  iintro ⟨H1, H2, HL, Hw, Hw', HB⟩ Hk
  iapply (fetch_start I c .K .R (kv_of (k0_off34_eq t) _) (at_src (k0_off36_eq c t) (src_R2 c t rfl)) (k0_off35_eq t)) $$ H1
  iintro H1
  iapply (fetch_start I c .V .R (kv_of (k0_off37_eq t) _) (at_src (k0_off36_eq c t) (src_R2 c t rfl)) (k0_off35_eq t)) $$ H2
  iintro H2
  iapply (wp_cond c (R := iprop((KvFree .K c (jx .L (t.val + 2)) ∗ Arr I .K .L c) ∗ (KvFree .V c (jx .L (t.val + 2)) ∗ Arr I .V .L c)))
    (P := iprop(KvNext I .K .L c (t.val + 1) ∗ KvNext I .V .L c (t.val + 1))) ?_ ?_) $$ HL
  · intro h
    have h8 : t.val + 1 + 1 < hops .L := (cond_iff t).2.2.1 h
    unfold KvNext
    rw [if_pos h8, if_pos h8]
    iintro ⟨H1, H2⟩ Hk
    iapply (fetch_start I c .K .L (kv_of (k0_off38_eq t) _) (at_src (k0_off40_eq c t) (src_L2 c t rfl)) (k0_off39_eq t)) $$ H1
    iintro H1
    iapply (fetch_start I c .V .L (kv_of (k0_off41_eq t) _) (at_src (k0_off40_eq c t) (src_L2 c t rfl)) (k0_off39_eq t)) $$ H2
    iintro H2
    iapply Hk
    isplitl [H1] <;> iassumption
  · intro h
    have h8 : ¬ t.val + 1 + 1 < hops .L := fun h' => h ((cond_iff t).2.2.2 h')
    unfold KvNext
    rw [if_neg h8, if_neg h8]
  iintro HL
  iapply (load_gR I c (k0_off42_eq t)) $$ Hw
  iintro Hw
  iapply (load_gR I c (k0_off43_eq t)) $$ Hw'
  iintro Hw'
  iapply (load_buf I c .K .R (k0_off44_eq t)) $$ HB
  iintro HB
  rw [wp_ret]
  imodintro
  iapply Hk
  unfold KvNext
  rw [if_pos (show t.val + 1 + 1 < hops .R by show _ < 9; omega), if_pos (show t.val + 1 + 1 < hops .R by show _ < 9; omega)]
  isplitl [H1]; · iexact H1
  isplitl [H2]; · iexact H2
  isplitl [HL]; · iexact HL
  isplitl [Hw]; · iexact Hw
  isplitl [Hw'] <;> iassumption

end Parts

end Cert.KIProof

end
-- ==== Proof.KI.Loop.lean ====
/- The kernel's loop: the invariant, and one trip of it. -/
module

public import proofs.«01_k».proof.Proof.KI.Trip
public import Idealize.SL.BI.BigOpNat

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

variable (K : GSem nD τ sig → ℕ) (c : Dev nD)

/-- An entry kept or lent for sending can be read either way. -/
theorem Mid_open (X : Dir) (h s : ℕ) : Mid I X c h s ⊢ iprop(∃ q, slotQ I X c h s q ∗ (slotQ I X c h s q -∗ Mid I X c h s)) := by
  unfold Mid
  by_cases hh : h + 1 < hops X
  · rw [if_pos hh]
    unfold Snd
    iintro ⟨H1, H2, H3⟩
    iexists fullShare.right
    isplitl [H3]; · iexact H3
    iintro H3
    isplitl [H1]; · iexact H1
    isplitl [H2]; · iexact H2
    iexact H3
  · rw [if_neg hh]
    iintro H
    iexists fullShare
    isplitl [H]; · iexact H
    iintro H; iexact H

/-- The copies of the next row taken out of those to come. -/
theorem Fut_take (X : Dir) (h : ℕ) :
    bigSep (Finset.Ico h (hops X)) (fun h => two (Fut X c h)) ⊢ (iprop(two (FutIf X c h) ∗ bigSep (Finset.Ico (h + 1) (hops X)) (fun h => two (Fut X c h))) : sProp 𝕄) := by
  unfold two FutIf
  by_cases hh : h < hops X
  · rw [if_pos hh, if_pos hh, bigSep_Ico_succ_bot hh]
  · rw [if_neg hh, if_neg hh, Finset.Ico_eq_empty_of_le (show hops X ≤ h by omega), Finset.Ico_eq_empty_of_le (show hops X ≤ h + 1 by omega)]
    iintro H
    isplitl []
    · isplitl [] <;> iempintro
    iexact H

theorem Done_put (X : Dir) (h : ℕ) (hh : 1 ≤ h) :
    (iprop(two (Done I X c h) ∗ bigSep (Finset.Ico 1 h) (fun h => two (Done I X c h))) : sProp 𝕄) ⊢ bigSep (Finset.Ico 1 (h + 1)) (fun h => two (Done I X c h)) := by
  rw [bigSep_Ico_succ_top hh]

/-- Before trip `k`: rows up to `k` done with, row `k + 1` of either chain on its way and the heads for it too, the later
    rows untouched, the partial result of the own group and `k` rows of either chain in the result buffer. -/
def Inv (k : ℕ) (_ : Unit) : sProp 𝕄 :=
  iprop(Ctx I K
    ∗ (bigSep (Finset.Ico 1 (k + 1)) (fun h => two (Done I .R c h)) ∗ bigSep (Finset.Ico 1 (k + 1)) (fun h => two (Done I .L c h)))
    ∗ (two (Mid I .R c k) ∗ two (Mid I .L c k))
    ∗ (bigSep (Finset.Ico (k + 2) (hops .R)) (fun h => two (Fut .R c h)) ∗ bigSep (Finset.Ico (k + 2) (hops .L)) (fun h => two (Fut .L c h)))
    ∗ (KvNext I .K .R c k ∗ KvNext I .V .R c k ∗ KvNext I .K .L c k ∗ KvNext I .V .L c k)
    ∗ (KvFree .K c (jx .R (k + 2)) ∗ KvFree .V c (jx .R (k + 2)) ∗ KvFree .K c (jx .L (k + 2)) ∗ KvFree .V c (jx .L (k + 2)))
    ∗ (∃ q, CtxS c q) ∗ OutS c (acc I c 0 k) (acc I c 1 k)
    ∗ (((c : Thread nD τ).loc cc0_stg0_0) ↦{fullShare} I.x c)
    ∗ owesA c (owedX .R c (k + 1) + owedX .L c (k + 1)))

theorem pick_zero {α : Type} (a b : α) : pick 0 a b = a := rfl
theorem pick_one {α : Type} (a b : α) : pick 1 a b = b := rfl

theorem plus_eq (X : Dir) (h : ℕ) (b : Fin 2) (o : FVec F S1x256x512 .f32) :
    addOut (I.w (srcDev X c h) 1) (colsOf (headCtx (I.x c) (I.w (srcDev X c h) 0) (Kv.heads I .K X c h) (Kv.heads I .V X c h) b)) o = plus I X c h b o := rfl

theorem Held_open (a : Kv) (X : Dir) (h : ℕ) :
    KvHeld I a X c h ⊢ iprop(BufQ I a X c h ∗ (BufQ I a X c h -∗ KvFree a c (jx X (h + 2)))) := by
  rw [jx_add_two]
  iintro H
  unfold KvHeld
  icases H with ⟨H, Hz⟩
  isplitl [H]; · iexact H
  iintro H
  iapply (KvHeld_free I a X c h)
  unfold KvHeld
  isplitl [H] <;> iassumption

variable (t : Fin k0_t1_loop.trips)

set_option maxHeartbeats 2000000 in
theorem trip (v2 v5 v7 : BitVec 32) (v203 : FVec F S512x256 .f32) (v205 v207 : FVec F S2x4x256x64 .f32) (v297 : FVec F S256x256 .f32) (v351 : FVec F S256x1 .f32) (v352 : FVec F S256x64 .f32) (u : Unit) :
    Inv I K c t.val u ⊢ wp frame (wpE (defs₀ (F := F)) 𝒱₀ (c : Thread nD τ) none) Set.univ
      (onBufs (k0_t1_body (F := F)) c v2 v5 v7 bias v203 v205 v207 v297 v351 v352 t u) (Inv I K c (t.val + 1)) := by
  have ht := trips_lt t
  have kR : t.val + 1 < hops .R := by show _ < 9; omega
  have kL : t.val + 1 < hops .L := by show _ < 8; omega
  have kR' : t.val + 1 + 1 < hops .R := by show _ < 9; omega
  have uR0 : Used .R (t.val + 1) 0 := ⟨by omega, kR, by decide⟩
  have uR1 : Used .R (t.val + 1) 1 := ⟨by omega, kR, by decide⟩
  have uL0 : Used .L (t.val + 1) 0 := ⟨by omega, kL, by decide⟩
  have uL1 : Used .L (t.val + 1) 1 := ⟨by omega, kL, by decide⟩
  have hA : Above 0 (owedX .R c (t.val + 2) + owedX .L c (t.val + 2)) := ((above_owedX .R c (t.val + 2)).mono (by omega)).add ((above_owedX .L c (t.val + 2)).mono (by omega))
  unfold Inv onBufs k0_t1_body
  have m0 : two (Mid I .R c t.val) = iprop((Rcv .R c (t.val + 1) 0 ∗ Snd I .R c (t.val + 1) 0) ∗ (Rcv .R c (t.val + 1) 1 ∗ Snd I .R c (t.val + 1) 1)) := by unfold two Mid; rw [if_pos kR, if_pos kR]
  have m1 : two (Mid I .L c t.val) = iprop((Rcv .L c (t.val + 1) 0 ∗ Snd I .L c (t.val + 1) 0) ∗ (Rcv .L c (t.val + 1) 1 ∗ Snd I .L c (t.val + 1) 1)) := by unfold two Mid; rw [if_pos kL, if_pos kL]
  have n0 : ∀ a, KvNext I a .R c t.val = KvFly I a .R c (t.val + 1) := fun a => by unfold KvNext; rw [if_pos kR]
  have n1 : ∀ a, KvNext I a .L c t.val = KvFly I a .L c (t.val + 1) := fun a => by unfold KvNext; rw [if_pos kL]
  rw [m0, m1, n0, n0, n1, n1, bigSep_Ico_succ_bot (show t.val + 2 < hops .R from kR')]
  iintro ⟨#HC, ⟨HDR, HDL⟩, ⟨⟨⟨rR0, sR0⟩, ⟨rR1, sR1⟩⟩, ⟨⟨rL0, sL0⟩, ⟨rL1, sL1⟩⟩⟩, ⟨⟨⟨fR0, fR1⟩, HFR⟩, HFL⟩, ⟨kKR, kVR, kKL, kVL⟩, ⟨gKR, gVR, gKL, gVL⟩, ⟨%q, HX⟩, HOut, Hx, HO⟩
  ihave HFL := (Fut_take c .L (t.val + 2)) $$ HFL
  icases HFL with ⟨⟨fL0, fL1⟩, HFL⟩
  iapply (part1_wp I K c t v5 v7 (owedX .L c (t.val + 1)) (above_owedX .L c (t.val + 1))) $$ [rR0 fR0 HO]
  · isplitr; · iexact HC
    isplitl [rR0]; · iexact rR0
    isplitl [fR0] <;> iassumption
  iintro %a ⟨zR0, nR0, tR0, HO⟩
  iapply (part2_wp I K c t v5 v7 a) $$ [rL0 fL0 rR1 fR1 HO]
  · isplitr; · iexact HC
    isplitl [rL0]; · iexact rL0
    isplitl [fL0]; · iexact fL0
    isplitl [rR1]; · iexact rR1
    isplitl [fR1] <;> iassumption
  iintro ⟨zL0, mL0, zR1, nR1, tR1, HO⟩
  iapply (part3_wp I K c t v2 v5 a) $$ [rL1 fL1 kKR HO]
  · isplitr; · iexact HC
    isplitl [rL1]; · iexact rL1
    isplitl [fL1]; · iexact fL1
    isplitl [kKR] <;> iassumption
  iintro ⟨zL1, mL1, kKR, aKR, HO⟩
  iapply (part4_wp I K c t v2 a) $$ [kVR kKL kVL HO]
  · isplitr; · iexact HC
    isplitl [kVR]; · iexact kVR
    isplitl [kKL]; · iexact kKL
    isplitl [kVL] <;> iassumption
  iintro %b ⟨kVR, aVR, kKL, aKL, kVL, aVL, HO⟩
  ihave kKR := (Held_open I c .K .R (t.val + 1)) $$ kKR
  icases kKR with ⟨kKR, bKR⟩
  ihave kVR := (Held_open I c .V .R (t.val + 1)) $$ kVR
  icases kVR with ⟨kVR, bVR⟩
  ihave kKL := (Held_open I c .K .L (t.val + 1)) $$ kKL
  icases kKL with ⟨kKL, bKL⟩
  ihave kVL := (Held_open I c .V .L (t.val + 1)) $$ kVL
  icases kVL with ⟨kVL, bVL⟩
  unfold Snd
  icases tR0 with ⟨tR0, hR0⟩
  icases tR1 with ⟨tR1, hR1⟩
  iapply (part5_wp I c t v2 a b) $$ [gKR aKR gVR aVR gKL aKL gVL aVL hR0 hR1 kKR]
  · isplitl [gKR aKR]; · isplitl [gKR] <;> iassumption
    isplitl [gVR aVR]; · isplitl [gVR] <;> iassumption
    isplitl [gKL aKL gVL aVL]
    · isplitl [gKL aKL]; · isplitl [gKL] <;> iassumption
      isplitl [gVL] <;> iassumption
    isplitl [hR0]; · iexact hR0
    isplitl [hR1]; · iexact hR1
    iexact kKR
  iintro ⟨wKR, wVR, ⟨wKL, wVL⟩, hR0, hR1, kKR⟩
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part6_skel k0_part7_skel k0_part8_skel k0_part9_skel k0_part10_skel k0_part11_skel k0_part12_skel k0_part13_skel k0_part14_skel k0_part15_skel
  simp only [Prog.lift, Prog.bind_op, Prog.bind_ret, Prog.pure_eq_ret, Prog.bind_assoc]
  iapply (load_buf I c .V .R (k0_off44_eq t)) $$ kVR
  iintro kVR
  iapply (load_x c (by decide)) $$ Hx
  iintro Hx
  iapply (block_add c (acc I c 0 t.val) (acc I c 1 t.val) q 0 (by decide) rfl rfl) $$ [HX HOut]
  · isplitl [HX] <;> iassumption
  rw [cols_R0, out_R0, pick_zero, pick_zero, pick_zero, plus_eq]
  iintro ⟨HX, HOut⟩
  iapply (block_add c _ _ _ 1 (by decide) rfl rfl) $$ [HX HOut]
  · isplitl [HX] <;> iassumption
  rw [cols_R1, out_R1, pick_one, pick_one, pick_one, plus_eq]
  iintro ⟨HX, HOut⟩
  ihave mL0 := (Mid_open I c .L (t.val + 1) 0) $$ mL0
  icases mL0 with ⟨%q0, mL0, eL0⟩
  ihave mL1 := (Mid_open I c .L (t.val + 1) 1) $$ mL1
  icases mL1 with ⟨%q1, mL1, eL1⟩
  iapply (load_gL I c (k0_off45_eq t)) $$ mL0
  iintro mL0
  iapply (load_gL I c (k0_off46_eq t)) $$ mL1
  iintro mL1
  iapply (load_buf I c .K .L (k0_off47_eq t)) $$ kKL
  iintro kKL
  iapply (load_buf I c .V .L (k0_off47_eq t)) $$ kVL
  iintro kVL
  iapply (load_x c (by decide)) $$ Hx
  iintro Hx
  iapply (block_add c _ _ _ 0 (by decide) rfl rfl) $$ [HX HOut]
  · isplitl [HX] <;> iassumption
  rw [cols_L0, out_L0, pick_zero, pick_zero, pick_zero, plus_eq]
  iintro ⟨HX, HOut⟩
  iapply (block_add c _ _ _ 1 (by decide) rfl rfl) $$ [HX HOut]
  · isplitl [HX] <;> iassumption
  rw [cols_L1, out_L1, pick_one, pick_one, pick_one, plus_eq]
  iintro ⟨HX, HOut⟩
  iapply (wait_send I K c uR0 (sR_of (k0_off5_eq t) _) (creditR _ _) hA) $$ [sR0 zR0 HO]
  · unfold Snd
    isplitr; · iexact HC
    isplitl [sR0]; · iexact sR0
    isplitl [zR0] <;> iassumption
  iintro ⟨dR0, HO⟩
  iapply (wait_send I K c uL0 (sL_of (k0_off11_eq t) _) (creditL _ _) hA) $$ [sL0 zL0 HO]
  · unfold Snd
    isplitr; · iexact HC
    isplitl [sL0]; · iexact sL0
    isplitl [zL0] <;> iassumption
  iintro ⟨dL0, HO⟩
  iapply (wait_send I K c uR1 (sR_of (k0_off17_eq t) _) (creditR _ _) hA) $$ [sR1 zR1 HO]
  · unfold Snd
    isplitr; · iexact HC
    isplitl [sR1]; · iexact sR1
    isplitl [zR1] <;> iassumption
  iintro ⟨dR1, HO⟩
  iapply (wait_send I K c uL1 (sL_of (k0_off23_eq t) _) (creditL _ _) hA) $$ [sL1 zL1 HO]
  · unfold Snd
    isplitr; · iexact HC
    isplitl [sL1]; · iexact sL1
    isplitl [zL1] <;> iassumption
  iintro ⟨dL1, HO⟩
  rw [wp_ret]
  imodintro
  have m2 : two (Mid I .R c (t.val + 1)) = iprop((Rcv .R c (t.val + 2) 0 ∗ Snd I .R c (t.val + 2) 0) ∗ (Rcv .R c (t.val + 2) 1 ∗ Snd I .R c (t.val + 2) 1)) := by unfold two Mid; rw [if_pos kR', if_pos kR']
  rw [m2]
  unfold Snd
  isplitr; · iexact HC
  isplitl [HDR HDL dR0 dR1 dL0 dL1]
  · isplitl [HDR dR0 dR1]
    · iapply (Done_put I c .R (t.val + 1) (by omega))
      isplitl [dR0 dR1]; · isplitl [dR0] <;> iassumption
      iexact HDR
    · iapply (Done_put I c .L (t.val + 1) (by omega))
      isplitl [dL0 dL1]; · isplitl [dL0] <;> iassumption
      iexact HDL
  isplitl [nR0 tR0 hR0 nR1 tR1 hR1 mL0 eL0 mL1 eL1]
  · isplitl [nR0 tR0 hR0 nR1 tR1 hR1]
    · isplitl [nR0 tR0 hR0]
      · isplitl [nR0]; · iexact nR0
        isplitl [tR0]; · iexact tR0
        iexact hR0
      isplitl [nR1]; · iexact nR1
      isplitl [tR1]; · iexact tR1
      iexact hR1
    isplitl [mL0 eL0]
    · iapply eL0; iexact mL0
    iapply eL1; iexact mL1
  isplitl [HFR HFL]; · isplitl [HFR] <;> iassumption
  isplitl [wKR wVR wKL wVL]
  · isplitl [wKR]; · iexact wKR
    isplitl [wVR]; · iexact wVR
    isplitl [wKL] <;> iassumption
  isplitl [bKR kKR bVR kVR bKL kKL bVL kVL]
  · isplitl [bKR kKR]; · iapply bKR; iexact kKR
    isplitl [bVR kVR]; · iapply bVR; iexact kVR
    isplitl [bKL kKL]; · iapply bKL; iexact kKL
    iapply bVL; iexact kVL
  isplitl [HX]; · iexists _; iexact HX
  isplitl [HOut]; · iexact HOut
  isplitl [Hx] <;> iassumption

end Cert.KIProof

end
-- ==== Proof.KI.Begin.lean ====
/- The handshake with both neighbours at the kernel's start: a device hands them its landing slots and takes theirs. -/
module

public import proofs.«01_k».proof.Proof.KI.Loop

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

variable (K : GSem nD τ sig → ℕ) (c : Dev nD)

/-- What a device holds of row `h`, entry `s`, before the handshake: everything but its neighbour's slot; -/
def Pre (X : Dir) (c : Dev nD) (h s : ℕ) : sProp 𝕄 :=
  iprop((dutyTok ER (sCell X c h s) 0 .R ∗ dutyTok ER (rCell X (nxt X c) h s) 0 .R)
    ∗ (atPos ER (sCell X c h s) 0 ∅ 0 ∗ reached ER (sCell X c h s) 0)
    ∗ (atPos ER (rCell X c h s) 0 ∅ 0 ∗ cred (tallyAt (rCell X c h s) () N)))
/-- and a slot that the neighbour will write, its counter open. -/
def Own (X : Dir) (c : Dev nD) (h s : ℕ) : sProp 𝕄 := iprop(slotAny X c h s ∗ reached ER (rCell X c h s) 0)

theorem Fut_make (X : Dir) :
    (iprop(bigSep (Finset.Ico 1 (hops X)) (fun h => two (Pre X c h)) ∗ bigSep (Finset.Ico 1 (hops X)) (fun h => two (Own X (nxt X c) h))) : sProp 𝕄)
      ⊢ bigSep (Finset.Ico 1 (hops X)) (fun h => two (Fut X c h)) := by
  have e := bigSep_sep (Finset.Ico 1 (hops X)) (fun h => (two (Pre X c h) : sProp 𝕄)) (fun h => two (Own X (nxt X c) h))
  refine (Entails.of_eq e.symm).trans (bigSep_mono fun h _ => ?_)
  show iprop(two (Pre X c h) ∗ two (Own X (nxt X c) h)) ⊢ _
  unfold two Pre Own Fut
  iintro ⟨⟨⟨A0, B0, C0⟩, ⟨A1, B1, C1⟩⟩, ⟨D0, D1⟩⟩
  isplitl [A0 B0 C0 D0]
  · isplitl [A0]; · iexact A0
    isplitl [B0]; · iexact B0
    isplitl [C0] <;> iassumption
  isplitl [A1]; · iexact A1
  isplitl [B1]; · iexact B1
  isplitl [C1] <;> iassumption

theorem barPay_eq (X : Dir) (d : Dev nD) (hd : nxt X d = c) : (barPay d X : sProp 𝕄) = bigSep (Finset.Ico 1 (hops X)) (fun h => two (Own X c h)) := by
  subst hd; rfl

/-- The tokens and the counter of the handshake. -/
def Shake (c : Dev nD) : sProp 𝕄 :=
  iprop((dutyTok ER (barCell (nxt .L c)) 0 .R ∗ reached ER (barCell (nxt .L c)) 0) ∗ (dutyTok ER (barCell (nxt .R c)) 0 .L ∗ reached ER (barCell (nxt .R c)) 0)
    ∗ atPos ER (barCell c) 0 ∅ 0 ∗ cred (tallyAt (barCell c) () 2))

theorem nxt_LR : nxt .R (nxt .L c) = c := by revert c; decide
theorem nxt_RL : nxt .L (nxt .R c) = c := by revert c; decide

theorem rest_bar' (g : SemLoc sig) (hg : g = (barCell c).2) :
    (bigSep ((rd I).duties ((c : Thread nD τ), g) 0 \ ∅) (fun d => (rd I).payload ((c : Thread nD τ), g) 0 d) : sProp 𝕄) ⊢ iprop(barPay c .R ∗ barPay c .L) := by
  subst hg; exact Entails.of_eq (rest_bar I c)

theorem part16_wp {α : Type} {Q : α → sProp 𝕄} {k : (Σ' (_ : Dev nD) (_ : BitVec 32) (_ : BitVec 32) (_ : BitVec 32) (_ : IVec S256x256 32), IVec S256x256 1) → Prog (TpuEff nD τ sig (Elt F) Λ₀ .tc) α} :
    iprop(Ctx I K ∗ Shake c ∗ bigSep (Finset.Ico 1 (hops .R)) (fun h => two (Own .R c h)) ∗ bigSep (Finset.Ico 1 (hops .L)) (fun h => two (Own .L c h)) ∗ owesA c (O₀ c))
      ⊢ iprop((∀ v2 : BitVec 32, ∀ v5 : BitVec 32, ∀ v7 : BitVec 32, (bigSep (Finset.Ico 1 (hops .R)) (fun h => two (Own .R (nxt .R c) h)) ∗ bigSep (Finset.Ico 1 (hops .L)) (fun h => two (Own .L (nxt .L c) h))
                ∗ semVal (barCell c) 0 ∗ owesA c (owedX .R c 0 + owedX .L c 0))
            -∗ wp frame (wpE (defs₀ (F := F)) 𝒱₀ (c : Thread nD τ) none) Set.univ (k ⟨c, ⟨v2, ⟨v5, ⟨v7, ⟨k0_pay50, k0_pay51⟩⟩⟩⟩⟩) Q)
          -∗ wp frame (wpE (defs₀ (F := F)) 𝒱₀ (c : Thread nD τ) none) Set.univ (onBufs (k0_part16 (F := F)) >>= k) Q) := by
  have e1 : (⟨k0_dev1 c, k0_dev1_lt c⟩ : Dev nD) = nxt .L c := Fin.ext (k0_dev1_eq c)
  have e2 : (⟨k0_dev2 c, k0_dev2_lt c⟩ : Dev nD) = nxt .R c := Fin.ext (k0_dev2_eq c)
  have dR : (Dir.R) ∈ (rd I).duties (barCell (nxt .L c)) 0 := by rw [duties_bar]; exact Finset.mem_univ _
  have dL : (Dir.L) ∈ (rd I).duties (barCell (nxt .R c)) 0 := by rw [duties_bar]; exact Finset.mem_univ _
  unfold onBufs
  rw [k0_part16_eq_skeleton]
  unfold k0_part16_skel
  simp only [semSignalWord, semWaitWord, Prog.lift, Prog.bind_op, Prog.bind_ret, Prog.pure_eq_ret, Prog.bind_assoc, wp_deviceId]
  rw [e1, e2]
  unfold Shake owesA O₀
  iintro ⟨#HC, ⟨⟨tR, cR⟩, ⟨tL, cL⟩, Hat, Hcr⟩, HR, HL, ⟨%W, HO⟩⟩ Hk
  ihave #IL := (Ctx_inv I K (bar_mem (nxt .L c))) $$ HC
  ihave #IR := (Ctx_inv I K (bar_mem (nxt .R c))) $$ HC
  ihave #IC := (Ctx_inv I K (bar_mem c)) $$ HC
  iapply (Rounds.wp_signal 𝒱₀ ER (rd I) (c : Thread nD τ) none (dst := (nxt .L c : Thread nD τ)) (κ := K (barCell (nxt .L c))) (d := .R) (r := 0) dR
      rfl () ((owedX .R c 0 + owedX .L c 0) + tallyAt (barCell (nxt .R c)) () 1) rfl (W := W)) $$ [HO tR cR HR]
  · isplitr; · iexact IL
    isplitl [HO]; · iexact HO
    isplitl [tR]; · iexact tR
    isplitl [HR]
    · rw [payload_bar, barPay_eq c .R (nxt .L c) (nxt_LR c)]; iexact HR
    iexact cR
  iintro HO
  iapply (Rounds.wp_signal 𝒱₀ ER (rd I) (c : Thread nD τ) none (dst := (nxt .R c : Thread nD τ)) (κ := K (barCell (nxt .R c))) (d := .L) (r := 0) dL
      rfl () (owedX .R c 0 + owedX .L c 0) rfl (W := W)) $$ [HO tL cL HL]
  · isplitr; · iexact IR
    isplitl [HO]; · iexact HO
    isplitl [tL]; · iexact tL
    isplitl [HL]
    · rw [payload_bar, barPay_eq c .L (nxt .R c) (nxt_RL c)]; iexact HL
    iexact cL
  iintro HO
  iapply (Rounds.wp_wait_rest_token 𝒱₀ ER (rd I) (c : Thread nD τ) none (κ := K (barCell c))
      (wpE_semWait_eq 𝒱₀ (c : Thread nD τ) none Set.univ) (Set.mem_univ _) () (O := owedX .R c 0 + owedX .L c 0) (W := W) (R := 0) (m := 0) (T := ∅)
      ((expect_bar I c).symm)) $$ [Hcr HO Hat]
  · isplitr; · iexact IC
    isplitl [Hcr]; · iexact Hcr
    isplitl [HO]; · iexact HO
    isplitr; · iapply ((Ctx_lev I K).trans (mayWait_above c _ 1 (le_of_eq rfl) ((above_owedX .R c 0).add (above_owedX .L c 0)))); iexact HC
    iexact Hat
  iintro ⟨HO, Hat, -, Hp⟩
  ihave Hp := (rest_bar' I c (SemLoc.reg (SemArray.scalar (sig.barrier 0 rfl)).sem) rfl) $$ Hp
  icases Hp with ⟨HR, HL⟩
  imod (Rounds.cell_close ER (rd I) (Set.mem_univ (K (barCell c))) (fun h => h) (R := 0 + 1) (duties_later I (barCell c))) $$ [Hat] with Hz
  · isplitr; · iexact IC
    iexact Hat
  ihave HR := (Entails.of_eq (barPay_eq (nxt .R c) .R c rfl)) $$ HR
  ihave HL := (Entails.of_eq (barPay_eq (nxt .L c) .L c rfl)) $$ HL
  iapply Hk
  isplitl [HR]; · iexact HR
  isplitl [HL]; · iexact HL
  isplitl [Hz]; · iexact Hz
  iexists _; iexact HO

end Cert.KIProof

end
-- ==== Proof.KI.Cells.lean ====
/- The semaphores of the kernel, sorted into the rows of the two chains, the ones no copy uses, and those of the fetches. -/
module

public import proofs.«01_k».proof.Proof.KI.Begin

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

variable (K : GSem nD τ sig → ℕ) (c : Dev nD)

/-! ## One statement per semaphore, row by row -/

/-- Either of two statements gives the other: they are one. -/
theorem eq_of {P Q : sProp 𝕄} (h₁ : P ⊢ Q) (h₂ : Q ⊢ P) : P = Q := Idealize.SL.BI.Entails.antisymm h₁ h₂

/-- Two disjoint sets. -/
theorem bigSep_disj {A : Type} [DecidableEq A] {s t : Finset A} (h : Disjoint s t) (Φ : A → sProp 𝕄) :
    bigSep (s ∪ t) Φ = iprop(bigSep s Φ ∗ bigSep t Φ) := BI.bigSep_union h

/-- Over pairs, by the first component. -/
theorem bigSep_pairs {A B : Type} [DecidableEq A] [DecidableEq B] (s : Finset A) (t : Finset B) (Φ : A × B → sProp 𝕄) :
    bigSep (s ×ˢ t) Φ = bigSep s (fun a => bigSep t (fun b => Φ (a, b))) := by
  induction s using Finset.induction_on with
  | empty => rw [Finset.empty_product, bigSep_empty, bigSep_empty]
  | insert a s ha ih =>
    have hd : Disjoint (({a} : Finset A) ×ˢ t) (s ×ˢ t) := Finset.disjoint_left.mpr fun x h₁ h₂ =>
      ha (Finset.mem_singleton.mp (Finset.mem_product.mp h₁).1 ▸ (Finset.mem_product.mp h₂).1)
    rw [Finset.insert_eq, Finset.union_product, bigSep_disj hd, ih, Finset.singleton_product, bigSep_map, ← Finset.insert_eq, bigSep_insert ha]
    rfl

theorem bigSep_rows {f : ℕ → ℕ → DmaSem sig} {X : Dir} (inj : ∀ h h' s s', 1 ≤ h → h < hops X → 1 ≤ h' → h' < hops X → s < 2 → s' < 2 → f h s = f h' s' → h = h' ∧ s = s')
    (Ψ : DmaSem sig → sProp 𝕄) :
    bigSep ((Finset.Ico 1 (hops X) ×ˢ Finset.range 2).image fun y => f y.1 y.2) Ψ = bigSep (Finset.Ico 1 (hops X)) (fun h => two (fun s => Ψ (f h s))) := by
  rw [bigSep_image_of_injOn (fun a ha b hb e => by
    obtain ⟨a1, a2⟩ := Finset.mem_product.mp (Finset.mem_coe.mp ha)
    obtain ⟨b1, b2⟩ := Finset.mem_product.mp (Finset.mem_coe.mp hb)
    rw [Finset.mem_Ico] at a1 b1; rw [Finset.mem_range] at a2 b2
    obtain ⟨e1, e2⟩ := inj _ _ _ _ a1.1 a1.2 b1.1 b1.2 a2 b2 e
    exact Prod.ext e1 e2), bigSep_pairs]
  exact bigSep_congr fun h _ => by
    rw [show Finset.range 2 = {0, 1} from by decide, bigSep_insert (by decide), bigSep_singleton]; rfl

theorem sSem_inj (X : Dir) : ∀ h h' s s', 1 ≤ h → h < hops X → 1 ≤ h' → h' < hops X → s < 2 → s' < 2 → sSem X h s = sSem X h' s' → h = h' ∧ s = s' := by
  intro h h' s s' _ h1 _ h2 _ _ e
  have e' := congrArg Fin.val e
  cases X <;> simp only [sSem, hops] at e' h1 h2 <;> omega
theorem rSem_inj (X : Dir) : ∀ h h' s s', 1 ≤ h → h < hops X → 1 ≤ h' → h' < hops X → s < 2 → s' < 2 → rSem X h s = rSem X h' s' → h = h' ∧ s = s' := by
  intro h h' s s' _ h1 _ h2 _ _ e
  have e' := congrArg Fin.val e
  cases X <;> simp only [rSem, hops] at e' h1 h2 <;> omega

/-- The send semaphores of a chain, and its receive semaphores. -/
def sSet (X : Dir) : Finset (DmaSem sig) := (Finset.Ico 1 (hops X) ×ˢ Finset.range 2).image fun y => sSem X y.1 y.2
def rSet (X : Dir) : Finset (DmaSem sig) := (Finset.Ico 1 (hops X) ×ˢ Finset.range 2).image fun y => rSem X y.1 y.2

theorem usedSems_eq : usedSems = (sSet .R ∪ rSet .R) ∪ (sSet .L ∪ rSet .L) := by decide +kernel
theorem disjR : Disjoint (sSet .R) (rSet .R) := by decide +kernel
theorem disjL : Disjoint (sSet .L) (rSet .L) := by decide +kernel
theorem disjRL : Disjoint (sSet .R ∪ rSet .R) (sSet .L ∪ rSet .L) := by decide +kernel

/-- One statement per row and entry of both chains. -/
abbrev rows (A : Dir → ℕ → ℕ → sProp 𝕄) : sProp 𝕄 :=
  iprop(bigSep (Finset.Ico 1 (hops .R)) (fun h => two (A .R h)) ∗ bigSep (Finset.Ico 1 (hops .L)) (fun h => two (A .L h)))

theorem bigSep_used (Ψ : DmaSem sig → sProp 𝕄) :
    bigSep usedSems Ψ = iprop((bigSep (Finset.Ico 1 (hops .R)) (fun h => two (fun s => Ψ (sSem .R h s))) ∗ bigSep (Finset.Ico 1 (hops .R)) (fun h => two (fun s => Ψ (rSem .R h s))))
      ∗ (bigSep (Finset.Ico 1 (hops .L)) (fun h => two (fun s => Ψ (sSem .L h s))) ∗ bigSep (Finset.Ico 1 (hops .L)) (fun h => two (fun s => Ψ (rSem .L h s))))) := by
  rw [usedSems_eq, bigSep_disj disjRL, bigSep_disj disjR, bigSep_disj disjL]
  unfold sSet rSet
  rw [bigSep_rows (sSem_inj .R), bigSep_rows (rSem_inj .R), bigSep_rows (sSem_inj .L), bigSep_rows (rSem_inj .L)]

/-- Rows of pairs are pairs of rows. -/
theorem bigSep_two (s : Finset ℕ) (A B : ℕ → ℕ → sProp 𝕄) :
    bigSep s (fun h => two (fun x => iprop(A h x ∗ B h x))) = iprop(bigSep s (fun h => two (A h)) ∗ bigSep s (fun h => two (B h))) := by
  refine Eq.trans (bigSep_congr fun h _ => ?_) (bigSep_sep' s (fun h => two (A h)) (fun h => two (B h)))
  show iprop((A h 0 ∗ B h 0) ∗ (A h 1 ∗ B h 1)) = iprop((A h 0 ∗ A h 1) ∗ (B h 0 ∗ B h 1))
  exact eq_of sep_sep_sep_comm.1 sep_sep_sep_comm.2

theorem bigSep_sc (Φ : GSem nD τ sig → sProp 𝕄) :
    bigSep scCells Φ = bigSep Finset.univ (fun c : Dev nD => bigSep usedSems (fun q => Φ ((c : Thread nD τ), .dma q))) := by
  unfold scCells; rw [bigSep_map, bigSep_pairs]; rfl
theorem bigSep_bar (Φ : GSem nD τ sig → sProp 𝕄) : bigSep barCells Φ = bigSep Finset.univ (fun c : Dev nD => Φ (barCell c)) := by
  unfold barCells; rw [bigSep_map]; rfl

theorem disjoint_cells : Disjoint barCells scCells := by
  rw [Finset.disjoint_left]
  intro g h₁ h₂
  unfold barCells at h₁; unfold scCells at h₂
  obtain ⟨d, -, rfl⟩ := Finset.mem_map.mp h₁
  obtain ⟨y, -, h⟩ := Finset.mem_map.mp h₂
  have h2 : SemLoc.dma y.2 = SemLoc.reg (sig.barrier 0 rfl) := congrArg (fun g : GSem nD τ sig => g.2) h
  cases h2

/-! ## The counters of the kernel's own semaphores -/

/-- The kernel's own semaphores: all but the four of the staged windows. -/
def ownQ (k : Fin 76) : DmaSem sig := ⟨4 + k.val, by have := k.isLt; show 4 + k.val < 80; omega⟩
def osem (k : Fin 76) : SemLoc sig := .dma (ownQ k)

/-- The semaphores of row 0, which no copy uses. -/
def idleSems : Finset (DmaSem sig) := {sSem .R 0 0, sSem .R 0 1, rSem .R 0 0, rSem .R 0 1, sSem .L 0 0, sSem .L 0 1, rSem .L 0 0, rSem .L 0 1}
def kvSems : Finset (DmaSem sig) := {kvSem 0 0, kvSem 0 1, kvSem 1 0, kvSem 1 1, kvSem 2 0, kvSem 2 1, kvSem 3 0, kvSem 3 1}
theorem ownQ_inj : Function.Injective ownQ := fun a b h => Fin.ext (by have := congrArg Fin.val h; simp only [ownQ] at this; omega)
theorem ownQ_image : Finset.univ.image ownQ = usedSems ∪ (idleSems ∪ kvSems) := by decide +kernel
theorem disj_own : Disjoint usedSems (idleSems ∪ kvSems) := by decide +kernel
theorem disj_idle : Disjoint idleSems kvSems := by decide +kernel

/-- A counter at zero. -/
abbrev zeroAt (c : Dev nD) (q : DmaSem sig) : sProp 𝕄 := semVal ((c : Thread nD τ), .dma q) 0
def Idle (c : Dev nD) : sProp 𝕄 := bigSep idleSems (zeroAt c)

theorem sep_pair (A B C : sProp 𝕄) : iprop(A ∗ B ∗ C) = iprop((A ∗ B) ∗ C) := eq_of Laws.sep_assoc.2 Laws.sep_assoc.1

theorem ownSems_eq : (Pipeline.ownSems0 (Ix := Unit) (Name := ℕ) (U := UU) (Lvl := ℕ) (Val := Elt F) (τ := τ) osem c : sProp 𝕄)
    = iprop(bigSep usedSems (zeroAt c) ∗ Idle c
      ∗ (zeroAt c (kvSem 0 0) ∗ zeroAt c (kvSem 0 1)) ∗ (zeroAt c (kvSem 1 0) ∗ zeroAt c (kvSem 1 1)) ∗ (zeroAt c (kvSem 2 0) ∗ zeroAt c (kvSem 2 1)) ∗ (zeroAt c (kvSem 3 0) ∗ zeroAt c (kvSem 3 1))) := by
  have e : (Pipeline.ownSems0 (Ix := Unit) (Name := ℕ) (U := UU) (Lvl := ℕ) (Val := Elt F) (τ := τ) osem c : sProp 𝕄)
      = bigSep (Finset.univ.image ownQ) (zeroAt c) := (bigSep_image_of_injOn (ownQ_inj.injOn) (zeroAt (F := F) c)).symm
  rw [e, ownQ_image, bigSep_disj disj_own, bigSep_disj disj_idle]
  have e2 : (bigSep kvSems (zeroAt c) : sProp 𝕄) = iprop((zeroAt c (kvSem 0 0) ∗ zeroAt c (kvSem 0 1)) ∗ (zeroAt c (kvSem 1 0) ∗ zeroAt c (kvSem 1 1)) ∗ (zeroAt c (kvSem 2 0) ∗ zeroAt c (kvSem 2 1)) ∗ (zeroAt c (kvSem 3 0) ∗ zeroAt c (kvSem 3 1))) := by
    rw [bigSep_eq_bigSepL_of_eq [kvSem 0 0, kvSem 0 1, kvSem 1 0, kvSem 1 1, kvSem 2 0, kvSem 2 1, kvSem 3 0, kvSem 3 1] (by decide) (by decide)]
    show iprop(zeroAt c (kvSem 0 0) ∗ zeroAt c (kvSem 0 1) ∗ zeroAt c (kvSem 1 0) ∗ zeroAt c (kvSem 1 1) ∗ zeroAt c (kvSem 2 0) ∗ zeroAt c (kvSem 2 1) ∗ zeroAt c (kvSem 3 0) ∗ zeroAt c (kvSem 3 1)) = _
    rw [sep_pair (zeroAt c (kvSem 0 0)), sep_pair (zeroAt c (kvSem 1 0)), sep_pair (zeroAt c (kvSem 2 0))]
  rw [e2]; rfl

end Cert.KIProof

end
-- ==== Proof.KI.Body.lean ====
/- The whole kernel on one device: from the launch's hand-out to the finished result. -/
module

public import proofs.«01_k».proof.Proof.KI.Begin

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

variable (K : GSem nD τ sig → ℕ) (c : Dev nD)

theorem bias_eq : k0_pay52 (k0_pay50) (k0_pay51) = (bias : FVec F S256x256 .f32) := rfl
theorem out_E0' (w : FVec F S512x256 .f32) (x : FVec F S256x256 .f32) (o : FVec F S1x256x512 .f32) : k0_pay98 (k0_pay97 (k0_pay84 (wSlot w)) x o) = addOut w x o := rfl
theorem Mid_lt (X : Dir) (h s : ℕ) (hh : h + 1 < hops X) : Mid I X c h s = iprop(Rcv X c (h + 1) s ∗ Snd I X c (h + 1) s) := if_pos hh
theorem Mid_last (X : Dir) (h s : ℕ) (hh : ¬ h + 1 < hops X) : Mid I X c h s = slotQ I X c h s fullShare := if_neg hh
theorem KvNext_lt (a : Kv) (X : Dir) (h : ℕ) (hh : h + 1 < hops X) : KvNext I a X c h = KvFly I a X c (h + 1) := if_pos hh
theorem KvNext_last (a : Kv) (X : Dir) (h : ℕ) (hh : ¬ h + 1 < hops X) : KvNext I a X c h = iprop(KvFree a c (jx X (h + 1)) ∗ Arr I a X c) := if_neg hh
theorem trips_eq : k0_t1_loop.trips = 7 := by decide

theorem off1_00 : k0_off1 0#32 0#32 = ![0, 0] := by decide
theorem off1_01 : k0_off1 0#32 1#32 = ![1, 0] := by decide
theorem off1_21 : k0_off1 2#32 1#32 = ![3, 0] := by decide
theorem off1_08 : k0_off1 0#32 8#32 = ![0, 0] := by decide
theorem off4_00 : k0_off4 0#32 0#32 = ![0, 1] := by decide
theorem off4_01 : k0_off4 0#32 1#32 = ![1, 1] := by decide
theorem off4_21 : k0_off4 2#32 1#32 = ![3, 1] := by decide
theorem off4_08 : k0_off4 0#32 8#32 = ![0, 1] := by decide
theorem off2_00 : k0_off2 0#32 0#32 = ![0, 0, 0, 0, 0] := by decide
theorem off2_01 : k0_off2 0#32 1#32 = ![1, 0, 0, 0, 0] := by decide
theorem off2_21 : k0_off2 2#32 1#32 = ![3, 0, 0, 0, 0] := by decide
theorem off3_R0 : k0_off3 c 0#32 = ![0, 4 * (srcDev .R c 0).val, 0, 0] := by revert c; decide +kernel
theorem off3_R1 : k0_off3 c 4294967295#32 = ![0, 4 * (srcDev .R c 1).val, 0, 0] := by revert c; decide +kernel
theorem off3_L1 : k0_off3 c 1#32 = ![0, 4 * (srcDev .L c 1).val, 0, 0] := by revert c; decide +kernel

theorem outOf_surj (f : FVec F S2x256x512 .f32) : ∃ a0 a1, f = outOf a0 a1 c := by
  let at' (n : Fin 2) (i : S1x256x512.Idx) : S2x256x512.Idx := fun | 0 => n | 1 => i 1 | 2 => i 2
  refine ⟨fun i => f (at' 0 i), fun i => f (at' 1 i), ?_⟩
  funext i
  show f i = if (i 0).val = 0 then f _ else f _
  have h0 : (i 0).val < 2 := (i 0).isLt
  split <;>
  · congr 1
    funext a
    match a with
    | ⟨0, _⟩ => exact Fin.ext (by show (i 0).val = _; first | assumption | (show _ = 1; omega))
    | ⟨1, _⟩ => rfl
    | ⟨2, _⟩ => rfl

/-- What one device starts from. -/
def Start : sProp 𝕄 :=
  iprop((bigSep (Finset.Ico 1 (hops .R)) (fun h => two (Pre .R c h)) ∗ bigSep (Finset.Ico 1 (hops .L)) (fun h => two (Pre .L c h)))
    ∗ (bigSep (Finset.Ico 1 (hops .R)) (fun h => two (Own .R c h)) ∗ bigSep (Finset.Ico 1 (hops .L)) (fun h => two (Own .L c h)))
    ∗ (two (slotAny .R c 0) ∗ two (slotAny .L c 0)) ∗ Shake c
    ∗ ((KvFree .K c 0 ∗ KvFree .V c 0) ∗ (KvFree .K c 1 ∗ KvFree .V c 1) ∗ (KvFree .K c 2 ∗ KvFree .V c 2) ∗ (KvFree .K c 3 ∗ KvFree .V c 3))
    ∗ (Arr I .K .R c ∗ Arr I .V .R c ∗ Arr I .K .L c ∗ Arr I .V .L c)
    ∗ (∃ q, CtxS c q) ∗ (∃ a0, ∃ a1, OutS c a0 a1)
    ∗ (((c : Thread nD τ).loc cc0_stg0_0) ↦{fullShare} I.x c) ∗ (((c : Thread nD τ).loc cc0_stg1_0) ↦{fullShare} I.wq c) ∗ (((c : Thread nD τ).loc cc0_stg2_0) ↦{fullShare} I.wt c)
    ∗ owesA c (O₀ c))

/-- What it ends with: everything back, every counter at zero, the result in its buffer. -/
def Finish : sProp 𝕄 :=
  iprop((bigSep (Finset.Ico 1 (hops .R)) (fun h => two (Done I .R c h)) ∗ bigSep (Finset.Ico 1 (hops .L)) (fun h => two (Done I .L c h)))
    ∗ (two (fun s => slotQ I .R c 8 s fullShare) ∗ two (fun s => slotQ I .L c 7 s fullShare)) ∗ semVal (barCell c) 0
    ∗ ((KvFree .K c 0 ∗ KvFree .V c 0) ∗ (KvFree .K c 1 ∗ KvFree .V c 1) ∗ (KvFree .K c 2 ∗ KvFree .V c 2) ∗ (KvFree .K c 3 ∗ KvFree .V c 3))
    ∗ (Arr I .K .R c ∗ Arr I .V .R c ∗ Arr I .K .L c ∗ Arr I .V .L c)
    ∗ (∃ q, CtxS c q) ∗ OutS c (result I c 0) (result I c 1)
    ∗ (((c : Thread nD τ).loc cc0_stg0_0) ↦{fullShare} I.x c) ∗ (((c : Thread nD τ).loc cc0_stg1_0) ↦{fullShare} I.wq c) ∗ (((c : Thread nD τ).loc cc0_stg2_0) ↦{fullShare} I.wt c)
    ∗ owesA c 0)

theorem body_wp : iprop(Ctx I K ∗ Start I c)
    ⊢ wp frame (wpE (defs₀ (F := F)) 𝒱₀ (c : Thread nD τ) none) Set.univ (onBufs (cc0_body (F := F))) (fun _ => Finish I c) := by
  have uR0 : Used .R (0 + 1) 0 := ⟨by omega, by decide, by decide⟩
  have uR1 : Used .R (0 + 1) 1 := ⟨by omega, by decide, by decide⟩
  have uL0 : Used .L (0 + 1) 0 := ⟨by omega, by decide, by decide⟩
  have uL1 : Used .L (0 + 1) 1 := ⟨by omega, by decide, by decide⟩
  have wR0 : Used .R 8 0 := ⟨by omega, by decide, by decide⟩
  have wR1 : Used .R 8 1 := ⟨by omega, by decide, by decide⟩
  have hA : Above 0 (owedX .R c 1 + owedX .L c 1) := ((above_owedX .R c 1).mono (by omega)).add ((above_owedX .L c 1).mono (by omega))
  have hZ : owedX .R c 8 + owedX .L c 8 = 0 := by rw [owedX_last .R c 8 (by decide), owedX_last .L c 8 (by decide)]; exact add_zero _
  unfold onBufs
  rw [cc0_body_eq_skeleton]
  unfold cc0_body_skel
  rw [k0_part34_eq_skeleton]
  unfold k0_part34_skel
  simp only [Prog.bind_assoc]
  unfold Start
  iintro ⟨#HC, ⟨HpR, HpL⟩, ⟨HoR, HoL⟩, ⟨⟨aR0, aR1⟩, ⟨aL0, aL1⟩⟩, Hsh, ⟨⟨K0, V0⟩, ⟨K1, V1⟩, ⟨K2, V2⟩, ⟨K3, V3⟩⟩, ⟨AKR, AVR, AKL, AVL⟩, ⟨%q, HX⟩, ⟨%a0, %a1, HOut⟩, Hx, Hq, Ht, HO⟩
  iapply (part16_wp I K c) $$ [Hsh HoR HoL HO]
  · isplitr; · iexact HC
    isplitl [Hsh]; · iexact Hsh
    isplitl [HoR]; · iexact HoR
    isplitl [HoL] <;> iassumption
  iintro %v2 %v5 %v7 ⟨HoR, HoL, Hbar, HO⟩
  ihave HFR := (Fut_make c .R) $$ [HpR HoR]
  · isplitl [HpR] <;> iassumption
  ihave HFL := (Fut_make c .L) $$ [HpL HoL]
  · isplitl [HpL] <;> iassumption
  ihave HFR := (Entails.of_eq (bigSep_Ico_succ_bot (show 1 < hops .R by decide) (fun h => two (Fut .R c h)))) $$ HFR
  icases HFR with ⟨⟨fR0, fR1⟩, HFR⟩
  ihave HFL := (Entails.of_eq (bigSep_Ico_succ_bot (show 1 < hops .L by decide) (fun h => two (Fut .L c h)))) $$ HFL
  icases HFL with ⟨⟨fL0, fL1⟩, HFL⟩
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [Prog.lift, Prog.bind_op, Prog.bind_ret, Prog.pure_eq_ret, Prog.bind_assoc, bias_eq]
  iapply (load_wq c (by decide)) $$ Hq
  iintro Hq
  iapply (put_gR I c (s := 0) rfl rfl (put_q _)) $$ aR0
  iintro %d0 hR0
  iapply (load_wt c (by decide)) $$ Ht
  iintro Ht
  iapply (put_gR I c (s := 1) rfl rfl (put_t _)) $$ aR1
  iintro %d1 hR1
  iapply (load_wq c (by decide)) $$ Hq
  iintro Hq
  iapply (put_gL I c (s := 0) rfl rfl (put_q' _)) $$ aL0
  iintro %d2 hL0
  iapply (load_wt c (by decide)) $$ Ht
  iintro Ht
  iapply (put_gL I c (s := 1) rfl rfl (put_t' _)) $$ aL1
  iintro %d3 hL1
  iapply (send_R I K c uR0 (n := ⟨k0_dev3 c, k0_dev3_lt c⟩) (Fin.ext (k0_dev3_eq c)) (sR_of rfl _) (rR_of rfl _) rfl rfl
    (O₁ := owedX .R c 0 + owedX .L c 0) (O := half .R c 0 + owedX .L c 0) (by rw [owed_first .R c 0 (by decide), add_right_comm])) $$ [fR0 hR0 HO]
  · isplitr; · iexact HC
    isplitl [fR0]; · iexact fR0
    isplitl [hR0] <;> iassumption
  iintro ⟨rR0, sR0, HO⟩
  iapply (send_L I K c uL0 (n := ⟨k0_dev4 c, k0_dev4_lt c⟩) (Fin.ext (k0_dev4_eq c)) (sL_of rfl _) (rL_of rfl _) rfl rfl
    (O₁ := half .R c 0 + owedX .L c 0) (O := half .R c 0 + half .L c 0) (by rw [owed_first .L c 0 (by decide), add_assoc])) $$ [fL0 hL0 HO]
  · isplitr; · iexact HC
    isplitl [fL0]; · iexact fL0
    isplitl [hL0] <;> iassumption
  iintro ⟨rL0, sL0, HO⟩
  iapply (send_R I K c uR1 (n := ⟨k0_dev5 c, k0_dev5_lt c⟩) (Fin.ext (k0_dev5_eq c)) (sR_of rfl _) (rR_of rfl _) rfl rfl
    (O₁ := half .R c 0 + half .L c 0) (O := owedX .R c 1 + half .L c 0) (by rw [owed_second .R c 0 (by decide), add_right_comm])) $$ [fR1 hR1 HO]
  · isplitr; · iexact HC
    isplitl [fR1]; · iexact fR1
    isplitl [hR1] <;> iassumption
  iintro ⟨rR1, sR1, HO⟩
  iapply (send_L I K c uL1 (n := ⟨k0_dev6 c, k0_dev6_lt c⟩) (Fin.ext (k0_dev6_eq c)) (sL_of rfl _) (rL_of rfl _) rfl rfl
    (O₁ := owedX .R c 1 + half .L c 0) (O := owedX .R c 1 + owedX .L c 1) (by rw [owed_second .L c 0 (by decide), add_assoc])) $$ [fL1 hL1 HO]
  · isplitr; · iexact HC
    isplitl [fL1]; · iexact fL1
    isplitl [hL1] <;> iassumption
  iintro ⟨rL1, sL1, HO⟩
  iapply (fetch_start I c .K .R (h := 0) (kv_of off1_00 _) (off3_R0 c) off2_00) $$ [K0 AKR]
  · isplitl [K0]; · iexact K0
    iexact AKR
  iintro K0
  iapply (fetch_start I c .V .R (h := 0) (kv_of off4_00 _) (off3_R0 c) off2_00) $$ [V0 AVR]
  · isplitl [V0]; · iexact V0
    iexact AVR
  iintro V0
  iapply (fetch_wait I K c .K .R 0 (kv_of off1_00 _) (creditK _ _) hA) $$ [K0 HO]
  · isplitr; · iexact HC
    isplitl [K0] <;> iassumption
  iintro ⟨K0, AKR, HO⟩
  iapply (fetch_wait I K c .V .R 0 (kv_of off4_00 _) (creditV _ _) hA) $$ [V0 HO]
  · isplitr; · iexact HC
    isplitl [V0] <;> iassumption
  iintro ⟨V0, AVR, HO⟩
  iapply (fetch_start I c .K .R (h := 1) (kv_of off1_01 _) (off3_R1 c) off2_01) $$ [K1 AKR]
  · isplitl [K1]; · iexact K1
    iexact AKR
  iintro K1
  iapply (fetch_start I c .V .R (h := 1) (kv_of off4_01 _) (off3_R1 c) off2_01) $$ [V1 AVR]
  · isplitl [V1]; · iexact V1
    iexact AVR
  iintro V1
  iapply (fetch_start I c .K .L (h := 1) (kv_of off1_21 _) (off3_L1 c) off2_21) $$ [K3 AKL]
  · isplitl [K3]; · iexact K3
    iexact AKL
  iintro K3
  iapply (fetch_start I c .V .L (h := 1) (kv_of off4_21 _) (off3_L1 c) off2_21) $$ [V3 AVL]
  · isplitl [V3]; · iexact V3
    iexact AVL
  iintro V3
  unfold Snd
  icases sR0 with ⟨sR0, hR0⟩
  icases sR1 with ⟨sR1, hR1⟩
  iapply (load_gR I c rfl) $$ hR0
  iintro hR0
  iapply (load_gR I c rfl) $$ hR1
  iintro hR1
  ihave K0 := (Held_open I c .K .R 0) $$ K0
  icases K0 with ⟨K0, bKR⟩
  ihave V0 := (Held_open I c .V .R 0) $$ V0
  icases V0 with ⟨V0, bVR⟩
  iapply (load_buf I c .K .R rfl) $$ K0
  iintro K0
  iapply (load_buf I c .V .R rfl) $$ V0
  iintro V0
  iapply (load_x c (by decide)) $$ Hx
  iintro Hx
  iapply (block_first c a0 a1 q 0 (by decide) rfl) $$ [HX HOut]
  · isplitl [HX] <;> iassumption
  rw [cols_F0, out_F0, pick_zero, pick_zero]
  iintro ⟨HX, HOut⟩
  iapply (block_first c _ _ _ 1 (by decide) rfl) $$ [HX HOut]
  · isplitl [HX] <;> iassumption
  rw [cols_F1, out_F1, pick_one, pick_one]
  iintro ⟨HX, HOut⟩
  ispecialize bKR $$ K0
  ispecialize bVR $$ V0
  iapply (Scf.wp_for_bind frame (wpE (defs₀ (F := F)) 𝒱₀ (c : Thread nD τ) none) Set.univ k0_t1_loop.lb k0_t1_loop.ub k0_t1_loop.st k0_t1_ok _ _ (Inv I K c)
    (fun t u => trip I K c t v2 v5 v7 _ _ _ _ _ _ u)) $$ [rR0 sR0 hR0 rR1 sR1 hR1 rL0 sL0 rL1 sL1 HFR HFL K1 V1 K3 V3 bKR bVR K2 V2 HX HOut Hx HO]
  · unfold Inv
    isplitr; · iexact HC
    isplitr
    · rw [Finset.Ico_self]; isplitr <;> iempintro
    isplitl [rR0 sR0 hR0 rR1 sR1 hR1 rL0 sL0 rL1 sL1]
    · unfold two
      rw [Mid_lt I c .R 0 0 (by decide), Mid_lt I c .R 0 1 (by decide), Mid_lt I c .L 0 0 (by decide), Mid_lt I c .L 0 1 (by decide)]
      unfold Snd
      isplitl [rR0 sR0 hR0 rR1 sR1 hR1]
      · isplitl [rR0 sR0 hR0]
        · isplitl [rR0]; · iexact rR0
          isplitl [sR0] <;> iassumption
        · isplitl [rR1]; · iexact rR1
          isplitl [sR1] <;> iassumption
      · isplitl [rL0 sL0]
        · isplitl [rL0] <;> iassumption
        · isplitl [rL1] <;> iassumption
    isplitl [HFR HFL]; · isplitl [HFR] <;> iassumption
    isplitl [K1 V1 K3 V3]
    · rw [KvNext_lt I c .K .R 0 (by decide), KvNext_lt I c .V .R 0 (by decide), KvNext_lt I c .K .L 0 (by decide), KvNext_lt I c .V .L 0 (by decide)]
      isplitl [K1]; · iexact K1
      isplitl [V1]; · iexact V1
      isplitl [K3] <;> iassumption
    isplitl [bKR bVR K2 V2]
    · isplitl [bKR]; · iexact bKR
      isplitl [bVR]; · iexact bVR
      isplitl [K2]; · iexact K2
      iexact V2
    isplitl [HX]; · iexists _; iexact HX
    isplitl [HOut]; · iexact HOut
    isplitl [Hx]; · iexact Hx
    iexact HO
  iintro %u HI
  rw [show Scf.trips k0_t1_loop.lb k0_t1_loop.ub k0_t1_loop.st = 7 from trips_eq]
  unfold Inv two
  rw [Mid_lt I c .R 7 0 (by decide), Mid_lt I c .R 7 1 (by decide), Mid_last I c .L 7 0 (by decide), Mid_last I c .L 7 1 (by decide),
    KvNext_lt I c .K .R 7 (by decide), KvNext_lt I c .V .R 7 (by decide), KvNext_last I c .K .L 7 (by decide), KvNext_last I c .V .L 7 (by decide)]
  icases HI with ⟨-, ⟨HDR, HDL⟩, ⟨⟨⟨rR0, sR0⟩, ⟨rR1, sR1⟩⟩, ⟨hL0, hL1⟩⟩, -, ⟨K0, V0, ⟨K2, AKL⟩, ⟨V2, AVL⟩⟩, ⟨K1, V1, K3, V3⟩, ⟨%q', HX⟩, HOut, Hx, HO⟩
  have hB : Above 9 (owedX .R c 8 + owedX .L c 8) := by rw [hZ]; exact Above.zero _
  have hB0 : Above 0 (owedX .R c 8 + owedX .L c 8) := by rw [hZ]; exact Above.zero _
  iapply (wait_recv I K c wR0 (rR_of rfl _) (creditR _ _) hB) $$ [rR0 HO]
  · isplitr; · iexact HC
    isplitl [rR0] <;> iassumption
  iintro ⟨hR0, zR0, HO⟩
  iapply (wait_recv I K c wR1 (rR_of rfl _) (creditR _ _) hB) $$ [rR1 HO]
  · isplitr; · iexact HC
    isplitl [rR1] <;> iassumption
  iintro ⟨hR1, zR1, HO⟩
  iapply (fetch_wait I K c .K .R 8 (kv_of off1_08 _) (creditK _ _) hB0) $$ [K0 HO]
  · isplitr; · iexact HC
    isplitl [K0] <;> iassumption
  iintro ⟨K0, AKR, HO⟩
  iapply (fetch_wait I K c .V .R 8 (kv_of off4_08 _) (creditV _ _) hB0) $$ [V0 HO]
  · isplitr; · iexact HC
    isplitl [V0] <;> iassumption
  iintro ⟨V0, AVR, HO⟩
  iapply (load_gR I c rfl) $$ hR0
  iintro hR0
  iapply (load_gR I c rfl) $$ hR1
  iintro hR1
  ihave K0 := (Held_open I c .K .R 8) $$ K0
  icases K0 with ⟨K0, bKR⟩
  ihave V0 := (Held_open I c .V .R 8) $$ V0
  icases V0 with ⟨V0, bVR⟩
  iapply (load_buf I c .K .R k0_off48_eq) $$ K0
  iintro K0
  iapply (load_buf I c .V .R k0_off48_eq) $$ V0
  iintro V0
  iapply (load_x c (by decide)) $$ Hx
  iintro Hx
  iapply (block_add c _ _ q' 0 (by decide) rfl rfl) $$ [HX HOut]
  · isplitl [HX] <;> iassumption
  rw [cols_E0, out_E0', pick_zero, pick_zero, pick_zero]
  iintro ⟨HX, HOut⟩
  iapply (block_add c _ _ _ 1 (by decide) rfl rfl) $$ [HX HOut]
  · isplitl [HX] <;> iassumption
  rw [cols_E1, out_E1, pick_one, pick_one, pick_one]
  iintro ⟨HX, HOut⟩
  ispecialize bKR $$ K0
  ispecialize bVR $$ V0
  iapply (wait_send I K c wR0 (sR_of rfl _) (creditR _ _) hB0) $$ [sR0 zR0 HO]
  · isplitr; · iexact HC
    isplitl [sR0]; · iexact sR0
    isplitl [zR0] <;> iassumption
  iintro ⟨dR0, HO⟩
  iapply (wait_send I K c wR1 (sR_of rfl _) (creditR _ _) hB0) $$ [sR1 zR1 HO]
  · isplitr; · iexact HC
    isplitl [sR1]; · iexact sR1
    isplitl [zR1] <;> iassumption
  iintro ⟨dR1, HO⟩
  rw [wp_ret, hZ]
  imodintro
  unfold Finish
  isplitl [HDR HDL dR0 dR1]
  · isplitl [HDR dR0 dR1]
    · iapply (Done_put I c .R 8 (by decide))
      unfold two
      isplitl [dR0 dR1]
      · isplitl [dR0] <;> iassumption
      iexact HDR
    iexact HDL
  isplitl [hR0 hR1 hL0 hL1]
  · unfold two
    isplitl [hR0 hR1]
    · isplitl [hR0] <;> iassumption
    isplitl [hL0] <;> iassumption
  isplitl [Hbar]; · iexact Hbar
  isplitl [bKR bVR K1 V1 K2 V2 K3 V3]
  · isplitl [bKR bVR]
    · isplitl [bKR]; · iexact bKR
      iexact bVR
    isplitl [K1 V1]
    · isplitl [K1]; · iexact K1
      iexact V1
    isplitl [K2 V2]
    · isplitl [K2]; · iexact K2
      iexact V2
    isplitl [K3]; · iexact K3
    iexact V3
  isplitl [AKR AVR AKL AVL]
  · isplitl [AKR]; · iexact AKR
    isplitl [AVR]; · iexact AVR
    isplitl [AKL] <;> iassumption
  isplitl [HX]; · iexists _; iexact HX
  isplitl [HOut]; · iexact HOut
  isplitl [Hx]; · iexact Hx
  isplitl [Hq]; · iexact Hq
  isplitl [Ht]; · iexact Ht
  iexact HO

end Cert.KIProof

end
-- ==== Proof.KI.Buffers.lean ====
/- The kernel's scratch buffers taken apart into the pieces the kernel works on, and put together again. -/
module

public import proofs.«01_k».proof.Proof.KI.Cells
public import proofs.«01_k».proof.Proof.KI.Body

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Inp F)

local notation "𝕄" => MT nD τ sig Unit (Elt F) ℕ UU ℕ

variable (K : GSem nD τ sig → ℕ) (c : Dev nD)

/-! ## A buffer in pieces -/

/-- A whole buffer at any contents is its pieces at any contents. -/
theorem pieces {ℓ : Loc nD τ sig} {T : Type} [DecidableEq T] (S : Finset T) (P : T → Finset (Idx ℓ)) (hd : ∀ t ∈ S, ∀ t' ∈ S, t ≠ t' → Disjoint (P t) (P t'))
    (hu : S.biUnion P = Finset.univ) [∀ e, Nonempty (Elt F e)] :
    (iprop(∃ f : Buf (Elt F) ℓ, ℓ ↦{fullShare} f) : sProp 𝕄) = bigSep S (fun t => iprop(∃ f : Buf (Elt F) ℓ, ℓ ↦[P t]{fullShare} f)) := by
  refine eq_of ?_ ?_
  · iintro ⟨%f, H⟩
    ihave H' := (show (ℓ ↦{fullShare} f : sProp 𝕄) ⊢ bigSep S (fun t => ℓ ↦[P t]{fullShare} f) from by rw [← hu, pointsTo_biUnion S P hd]) $$ H
    have hm : (bigSep S (fun t => (ℓ ↦[P t]{fullShare} f : sProp 𝕄))) ⊢ bigSep S (fun t => iprop(∃ f : Buf (Elt F) ℓ, ℓ ↦[P t]{fullShare} f)) :=
      bigSep_mono fun t _ => show (ℓ ↦[P t]{fullShare} f : sProp 𝕄) ⊢ iprop(∃ f : Buf (Elt F) ℓ, ℓ ↦[P t]{fullShare} f) from by iintro H; iexists f; iexact H
    iapply hm $$ H'
  · iintro H
    ihave H' := (bigSep_exists_pi S (fun t (f : Buf (Elt F) ℓ) => (ℓ ↦[P t]{fullShare} f : sProp 𝕄))) $$ H
    icases H' with ⟨%fs, H'⟩
    ihave H2 := (pointsTo_biUnion_join S P fs (Classical.arbitrary _) hd) $$ H'
    icases H2 with ⟨%g, -, H2⟩
    iexists g
    rw [hu]
    iexact H2

variable [∀ e, Nonempty (Elt F e)]

theorem slot_disj (X : Dir) (c : Dev nD) : ∀ t ∈ (Finset.range (hops X) ×ˢ Finset.range 2), ∀ t' ∈ (Finset.range (hops X) ×ˢ Finset.range 2), t ≠ t' →
    Disjoint (slotSet X c t.1 t.2) (slotSet X c t'.1 t'.2) := by
  intro t _ t' _ h
  cases X <;> exact Finset.disjoint_left.mpr fun i h₁ h₂ => h (Prod.ext ((Finset.mem_filter.mp h₁).2.1.symm.trans (Finset.mem_filter.mp h₂).2.1)
    ((Finset.mem_filter.mp h₁).2.2.symm.trans (Finset.mem_filter.mp h₂).2.2))
theorem slot_all (X : Dir) (c : Dev nD) : (Finset.range (hops X) ×ˢ Finset.range 2).biUnion (fun t => slotSet X c t.1 t.2) = Finset.univ := by
  refine Finset.eq_univ_iff_forall.mpr fun i => Finset.mem_biUnion.mpr ?_
  cases X
  · exact ⟨((i 0).val, (i 1).val), Finset.mem_product.mpr ⟨Finset.mem_range.mpr (i 0).isLt, Finset.mem_range.mpr (i 1).isLt⟩, Finset.mem_filter.mpr ⟨Finset.mem_univ _, rfl, rfl⟩⟩
  · exact ⟨((i 0).val, (i 1).val), Finset.mem_product.mpr ⟨Finset.mem_range.mpr (i 0).isLt, Finset.mem_range.mpr (i 1).isLt⟩, Finset.mem_filter.mpr ⟨Finset.mem_univ _, rfl, rfl⟩⟩

/-- A landing buffer is its rows. -/
theorem land_rows (X : Dir) (c : Dev nD) :
    (iprop(∃ f : Buf (Elt F) ((c : Thread nD τ).loc (gRef X)), ((c : Thread nD τ).loc (gRef X)) ↦{fullShare} f) : sProp 𝕄)
      = iprop(two (slotAny X c 0) ∗ bigSep (Finset.Ico 1 (hops X)) (fun h => two (slotAny X c h))) := by
  have e : (iprop(two (slotAny (F := F) X c 0) ∗ bigSep (Finset.Ico 1 (hops X)) (fun h => two (slotAny X c h))) : sProp 𝕄)
      = bigSep (Finset.range (hops X)) (fun h => two (slotAny X c h)) := by
    rw [Finset.range_eq_Ico]
    exact (bigSep_Ico_succ_bot (show 0 < hops X by cases X <;> decide) (fun h => (two (slotAny X c h) : sProp 𝕄))).symm
  rw [e, pieces _ (fun t : ℕ × ℕ => slotSet X c t.1 t.2) (slot_disj X c) (slot_all X c), bigSep_pairs]
  exact bigSep_congr fun h _ => by rw [show Finset.range 2 = {0, 1} from by decide, bigSep_insert (by decide), bigSep_singleton]; rfl

/-- The rows a device ends with: every row but the last was passed on, and the last stays. -/
theorem rows_end (X : Dir) (c : Dev nD) (n : ℕ) (hn : hops X = n + 1) :
    iprop(bigSep (Finset.Ico 1 (hops X)) (fun h => two (fun s => slotQ I X c (h - 1) s fullShare)) ∗ two (fun s => slotQ I X c n s fullShare))
      ⊢ (iprop(∃ f : Buf (Elt F) ((c : Thread nD τ).loc (gRef X)), ((c : Thread nD τ).loc (gRef X)) ↦{fullShare} f) : sProp 𝕄) := by
  rw [land_rows]
  have hA : ∀ h, (two (fun s => slotQ I X c h s fullShare) : sProp 𝕄) ⊢ two (slotAny X c h) := fun h => by
    show iprop(slotQ I X c h 0 fullShare ∗ slotQ I X c h 1 fullShare) ⊢ iprop(slotAny X c h 0 ∗ slotAny X c h 1)
    unfold slotQ slotAny
    iintro ⟨a, b⟩
    isplitl [a]
    · iexists _; iexact a
    iexists _; iexact b
  have e1 : (bigSep (Finset.Ico 1 (hops X)) (fun h => two (fun s => slotQ I X c (h - 1) s fullShare)) : sProp 𝕄)
      = bigSep (Finset.range n) (fun h => two (fun s => slotQ I X c h s fullShare)) := by
    rw [hn, show Finset.Ico 1 (n + 1) = (Finset.range n).image (fun h => h + 1) from by
      ext h; simp only [Finset.mem_Ico, Finset.mem_image, Finset.mem_range]
      exact ⟨fun ⟨a, b⟩ => ⟨h - 1, by omega, by omega⟩, fun ⟨a, b, e⟩ => by omega⟩,
      bigSep_image_of_injOn (fun a _ b _ e => Nat.succ.inj e)]
    exact bigSep_congr fun h _ => rfl
  have e2 : (iprop(two (slotAny (F := F) X c 0) ∗ bigSep (Finset.Ico 1 (hops X)) (fun h => two (slotAny X c h))) : sProp 𝕄)
      = iprop(two (slotAny X c n) ∗ bigSep (Finset.range n) (fun h => two (slotAny X c h))) := by
    rw [← bigSep_range_succ n (fun h => (two (slotAny X c h) : sProp 𝕄)), ← hn, Finset.range_eq_Ico]
    exact (bigSep_Ico_succ_bot (show 0 < hops X by cases X <;> decide) (fun h => (two (slotAny X c h) : sProp 𝕄))).symm
  rw [e1, e2]
  iintro ⟨a, b⟩
  isplitl [b]
  · iapply (hA n) $$ b
  have hm : (bigSep (Finset.range n) (fun h => (two (fun s => slotQ I X c h s fullShare) : sProp 𝕄))) ⊢ bigSep (Finset.range n) (fun h => two (slotAny X c h)) :=
    bigSep_mono fun h _ => hA h
  iapply hm $$ a

/-! ## The fetch buffers -/

theorem kv_slots (a : Kv) (c : Dev nD) :
    (iprop(∃ f : Buf (Elt F) ((c : Thread nD τ).loc a.buf), ((c : Thread nD τ).loc a.buf) ↦{fullShare} f) : sProp 𝕄)
      = bigSep (Finset.range 4) (fun j => iprop(∃ f : Buf (Elt F) ((c : Thread nD τ).loc a.buf), ((c : Thread nD τ).loc a.buf) ↦[a.bset c j]{fullShare} f)) := by
  refine pieces (Finset.range 4) (fun j => a.bset c j) ?_ ?_
  · intro t _ t' _ h
    cases a <;> exact Finset.disjoint_left.mpr fun i h₁ h₂ => h ((Finset.mem_filter.mp h₁).2.symm.trans (Finset.mem_filter.mp h₂).2)
  · refine Finset.eq_univ_iff_forall.mpr fun i => Finset.mem_biUnion.mpr ?_
    cases a <;> exact ⟨(i 0).val, Finset.mem_range.mpr (i 0).isLt, Finset.mem_filter.mpr ⟨Finset.mem_univ _, rfl⟩⟩

/-- The fetch buffers and their counters, slot by slot. -/
def KvAll (c : Dev nD) : sProp 𝕄 :=
  iprop((KvFree .K c 0 ∗ KvFree .V c 0) ∗ (KvFree .K c 1 ∗ KvFree .V c 1) ∗ (KvFree .K c 2 ∗ KvFree .V c 2) ∗ (KvFree .K c 3 ∗ KvFree .V c 3))
def KvZero (c : Dev nD) : sProp 𝕄 :=
  iprop((zeroAt c (kvSem 0 0) ∗ zeroAt c (kvSem 0 1)) ∗ (zeroAt c (kvSem 1 0) ∗ zeroAt c (kvSem 1 1)) ∗ (zeroAt c (kvSem 2 0) ∗ zeroAt c (kvSem 2 1)) ∗ (zeroAt c (kvSem 3 0) ∗ zeroAt c (kvSem 3 1)))
theorem range4 (A : ℕ → sProp 𝕄) : bigSep (Finset.range 4) A = iprop(A 0 ∗ A 1 ∗ A 2 ∗ A 3) :=
  bigSep_eq_bigSepL_of_eq [0, 1, 2, 3] (by decide) (by decide) A

theorem kv_all (c : Dev nD) :
    (KvAll c : sProp 𝕄) = iprop((∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f) ∗ KvZero c) := by
  have eK := kv_slots (F := F) .K c
  have eV := kv_slots (F := F) .V c
  rw [range4] at eK eV
  refine eq_of ?_ ?_
  · refine BIBase.Entails.trans ?_ (Laws.sep_mono (Entails.of_eq eK.symm) (Laws.sep_mono (Entails.of_eq eV.symm) .rfl))
    unfold KvAll KvZero KvFree
    iintro ⟨⟨⟨a0, z0⟩, ⟨b0, y0⟩⟩, ⟨⟨a1, z1⟩, ⟨b1, y1⟩⟩, ⟨⟨a2, z2⟩, ⟨b2, y2⟩⟩, ⟨⟨a3, z3⟩, ⟨b3, y3⟩⟩⟩
    isplitl [a0 a1 a2 a3]
    · isplitl [a0]; · iexact a0
      isplitl [a1]; · iexact a1
      isplitl [a2]; · iexact a2
      iexact a3
    isplitl [b0 b1 b2 b3]
    · isplitl [b0]; · iexact b0
      isplitl [b1]; · iexact b1
      isplitl [b2]; · iexact b2
      iexact b3
    isplitl [z0 y0]; · isplitl [z0]; · iexact z0
                       iexact y0
    isplitl [z1 y1]; · isplitl [z1]; · iexact z1
                       iexact y1
    isplitl [z2 y2]; · isplitl [z2]; · iexact z2
                       iexact y2
    isplitl [z3]; · iexact z3
    iexact y3
  · refine BIBase.Entails.trans (Laws.sep_mono (Entails.of_eq eK) (Laws.sep_mono (Entails.of_eq eV) .rfl)) ?_
    unfold KvAll KvZero KvFree
    iintro ⟨⟨a0, a1, a2, a3⟩, ⟨b0, b1, b2, b3⟩, ⟨z0, y0⟩, ⟨z1, y1⟩, ⟨z2, y2⟩, ⟨z3, y3⟩⟩
    isplitl [a0 z0 b0 y0]
    · isplitl [a0 z0]; · isplitl [a0]; · iexact a0
                         iexact z0
      isplitl [b0]; · iexact b0
      iexact y0
    isplitl [a1 z1 b1 y1]
    · isplitl [a1 z1]; · isplitl [a1]; · iexact a1
                         iexact z1
      isplitl [b1]; · iexact b1
      iexact y1
    isplitl [a2 z2 b2 y2]
    · isplitl [a2 z2]; · isplitl [a2]; · iexact a2
                         iexact z2
      isplitl [b2]; · iexact b2
      iexact y2
    isplitl [a3 z3]; · isplitl [a3]; · iexact a3
                       iexact z3
    isplitl [b3]; · iexact b3
    iexact y3

/-! ## The arrays, the scratch matrix and the result -/

theorem arr_halves (c : Dev nD) :
    (iprop(Arr I .K .R c ∗ Arr I .V .R c ∗ Arr I .K .L c ∗ Arr I .V .L c) : sProp 𝕄)
      = iprop((((c : Thread nD τ).loc main_v12) ↦{fullShare} I.k c) ∗ (((c : Thread nD τ).loc main_v18) ↦{fullShare} I.v c)) := by
  have hk := pointsTo_share (I := Finset.univ) (ℓ := (c : Thread nD τ).loc main_v12) (f := (I.k c : Buf (Elt F) ((c : Thread nD τ).loc main_v12))) (PosShare.mem_left_op_right fullShare) (Val := Elt F) (Ix := Unit) (Name := ℕ) (U := UU) (Lvl := ℕ)
  have hv := pointsTo_share (I := Finset.univ) (ℓ := (c : Thread nD τ).loc main_v18) (f := (I.v c : Buf (Elt F) ((c : Thread nD τ).loc main_v18))) (PosShare.mem_left_op_right fullShare) (Val := Elt F) (Ix := Unit) (Name := ℕ) (U := UU) (Lvl := ℕ)
  refine eq_of ?_ ?_
  · refine BIBase.Entails.trans ?_ (Laws.sep_mono hk.2 hv.2)
    unfold Arr
    iintro ⟨a, b, d, e⟩
    isplitl [a d]
    · isplitl [a]; · iexact a
      iexact d
    isplitl [b]; · iexact b
    iexact e
  · refine BIBase.Entails.trans (Laws.sep_mono hk.1 hv.1) ?_
    unfold Arr
    iintro ⟨⟨a, d⟩, ⟨b, e⟩⟩
    isplitl [a]; · iexact a
    isplitl [b]; · iexact b
    isplitl [d]; · iexact d
    iexact e

theorem ctx_any (c : Dev nD) :
    (iprop(∃ f : Buf (Elt F) ((c : Thread nD τ).loc cc0_scratch2), ((c : Thread nD τ).loc cc0_scratch2) ↦{fullShare} f) : sProp 𝕄) = iprop(∃ q, CtxS c q) := by
  refine eq_of ?_ ?_
  · iintro ⟨%f, H⟩
    obtain ⟨q, e⟩ := colsOf_surj (F := F) f
    subst e
    iexists q
    unfold CtxS
    iexact H
  · unfold CtxS
    iintro ⟨%q, H⟩
    iexists _
    iexact H

theorem out_any (c : Dev nD) (f : Buf (Elt F) ((c : Thread nD τ).loc cc0_stg3_0)) :
    (((c : Thread nD τ).loc cc0_stg3_0) ↦{fullShare} f : sProp 𝕄) ⊢ iprop(∃ a0, ∃ a1, OutS c a0 a1) := by
  obtain ⟨a0, a1, e⟩ := outOf_surj c f
  subst e
  iintro H
  iexists a0
  iexists a1
  unfold OutS
  iexact H

end Cert.KIProof

end
-- ==== Proof.KI.Region.lean ====
/- The kernel's launch region: its data, the body's obligation, and how the region is entered and left. -/
module

public import proofs.«01_k».proof.Proof.KI.Buffers
public import proofs.«01_k».proof.Proof.Gen.KernelIdeal.Regions
public import proofs.«01_k».proof.Proof.Gen.KernelIdeal.Points
public import Idealize.ShloMosaic.Lib.Pipeline.ValueKit.Geometry
public import Idealize.ShloMosaic.Lib.Pipeline.RegionTalk

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable [∀ e, Nonempty (Elt F e)] (m : (ℓ : Loc nD τ sig) → Buf (Elt F) ℓ) (c : Dev nD)

open Idealize.ShloMosaic.Pipeline (Dat BodyObligation)

/-! ## The kernel's arrays, out of the host's -/

/-- What the devices hold when the kernel starts. -/
def inp : Inp F where
  x c := V1 m c (Proc.devRef .tc main_v6)
  wq c := V1 m c (Proc.devRef .tc main_arg1)
  wt c := V1 m c (Proc.devRef .tc main_v5)
  k c := V1 m c (Proc.devRef .tc main_v12)
  v c := V1 m c (Proc.devRef .tc main_v18)

/-- The kernel's result on a device. -/
def outV : FVec F S2x256x512 .f32 := outOf (result (inp m) c 0) (result (inp m) c 1) c

/-- The host's buffers after the kernel. -/
def Vend : Valuation τ sig (Elt F) := Function.update (V1 m c) (Proc.devRef .tc main_v19) (outV m c)

/-! ## The invariant before and after the body -/

def PhiA : sProp 𝕄 :=
  iprop(∃ K, Ctx (inp m) K
    ∗ (bigSep (Finset.Ico 1 (hops .R)) (fun h => two (Pre .R c h)) ∗ bigSep (Finset.Ico 1 (hops .L)) (fun h => two (Pre .L c h)))
    ∗ (bigSep (Finset.Ico 1 (hops .R)) (fun h => two (Own .R c h)) ∗ bigSep (Finset.Ico 1 (hops .L)) (fun h => two (Own .L c h)))
    ∗ (two (slotAny .R c 0) ∗ two (slotAny .L c 0)) ∗ Shake c ∗ KvAll c
    ∗ (Arr (inp m) .K .R c ∗ Arr (inp m) .V .R c ∗ Arr (inp m) .K .L c ∗ Arr (inp m) .V .L c) ∗ (∃ q, CtxS c q) ∗ Idle c ∗ ∃ r, prngReg c r)

def PhiZ : sProp 𝕄 :=
  iprop((bigSep (Finset.Ico 1 (hops .R)) (fun h => two (Done (inp m) .R c h)) ∗ bigSep (Finset.Ico 1 (hops .L)) (fun h => two (Done (inp m) .L c h)))
    ∗ (two (fun s => slotQ (inp m) .R c 8 s fullShare) ∗ two (fun s => slotQ (inp m) .L c 7 s fullShare)) ∗ semVal (barCell c) 0 ∗ KvAll c
    ∗ (Arr (inp m) .K .R c ∗ Arr (inp m) .V .R c ∗ Arr (inp m) .K .L c ∗ Arr (inp m) .V .L c) ∗ (∃ q, CtxS c q) ∗ Idle c ∗ ∃ r, prngReg c r)

/-- The launch's data: the arrays the kernel is entered with, and what it leaves in its windows. -/
def dats (p : Fin 1) (c : Dev nD) : Dat τ (Elt F) Unit ℕ UU ℕ (cfgs p) c where
  A w := V1 m c (Proc.devRef .tc (Pipeline.arrRef spec0 w))
  after w _ := match w with
    | ⟨0, _⟩ => (inp m).x c
    | ⟨1, _⟩ => (inp m).wq c
    | ⟨2, _⟩ => (inp m).wt c
    | ⟨3, _⟩ => outV m c
  Φ t := if t.val = 0 then PhiA m c else PhiZ m c
  q _ := fullShare
  owed t := if t.val = 0 then O₀ c else 0

theorem fetch_eq (w : Fin 4) (hw : w ≠ 3) (t : Fin cfg0.N) : (cfg0.win w).fetch t = true := by
  fin_cases w
  · exact fetch0_0 t
  · exact fetch0_1 t
  · exact fetch0_2 t
  · exact absurd rfl hw

theorem before_0 (d) : (dats m 0 c).before (0 : Fin 4) t0_0 d = (inp m).x c := by
  unfold Dat.before; rw [if_pos (fetch0_0 t0_0)]
  funext y
  show V1 m c (Proc.devRef .tc main_v6) _ = V1 m c (Proc.devRef .tc main_v6) y
  congr 1
  funext a; fin_cases a <;> exact Fin.ext (by simp [Pipeline.Window.blk, Memref.view, Pipeline.Window.whole]; rfl)
theorem before_1 (d) : (dats m 0 c).before (1 : Fin 4) t0_0 d = (inp m).wq c := by
  unfold Dat.before; rw [if_pos (fetch0_1 t0_0)]
  funext y
  show V1 m c (Proc.devRef .tc main_arg1) _ = V1 m c (Proc.devRef .tc main_arg1) y
  congr 1
  funext a; fin_cases a <;> exact Fin.ext (by simp [Pipeline.Window.blk, Memref.view, Pipeline.Window.whole]; rfl)
theorem before_2 (d) : (dats m 0 c).before (2 : Fin 4) t0_0 d = (inp m).wt c := by
  unfold Dat.before; rw [if_pos (fetch0_2 t0_0)]
  funext y
  show V1 m c (Proc.devRef .tc main_v5) _ = V1 m c (Proc.devRef .tc main_v5) y
  congr 1
  funext a; fin_cases a <;> exact Fin.ext (by simp [Pipeline.Window.blk, Memref.view, Pipeline.Window.whole]; rfl)

theorem arr_out : (dats m 0 c).arrAt (3 : Fin 4) cfg0.N = outV m c :=
  (dats m 0 c).arrAt_eq_of_after_last (3 : Fin 4) t0_0 (by decide +kernel) _ fun j => rfl

theorem owes_in : (dats m 0 c).owesAt () t0_0.castSucc ⊢ owesA c (O₀ c) := by
  unfold Dat.owesAt Pipeline.owesWithin owesA
  rw [show (dats m 0 c).owed t0_0.castSucc = O₀ c from rfl]
  iintro ⟨%W, %hW, HO⟩
  iexists W
  iexact HO
theorem owes_out : owesA c 0 ⊢ (dats m 0 c).owesAt () t0_0.succ := by
  unfold Dat.owesAt Pipeline.owesWithin owesA
  rw [show (dats m 0 c).owed t0_0.succ = 0 from rfl]
  iintro ⟨%W, HO⟩
  iexists W
  isplitr
  · ipureintro; exact fun _ _ => Or.inl trivial
  iexact HO

/-- The body with what follows it. -/
theorem body_then (K : GSem nD τ sig → ℕ) (Q : sProp 𝕄) : iprop(Ctx (inp m) K ∗ Start (inp m) c ∗ (Finish (inp m) c -∗ Q))
    ⊢ wp frame (wpE (defs₀ (F := F)) 𝒱₀ (c : Thread nD τ) none) Set.univ (onBufs (cc0_body (F := F))) (fun _ => Q) := by
  refine BIBase.Entails.trans ?_ (wp_wand_r frame (wpE (defs₀ (F := F)) 𝒱₀ (c : Thread nD τ) none) Set.univ (Q := fun _ => Finish (inp m) c))
  iintro ⟨#HC, HS, HQ⟩
  isplitl [HS]
  · iapply (body_wp (inp m) K c)
    isplitr
    · iexact HC
    iexact HS
  · iintro %_ H
    iapply HQ; iexact H

/-- The body takes the windows and the invariant at its start to those at its end. -/
theorem body : BodyObligation (dats m 0 c) (defs₀ (F := F)) 𝒱₀ () Set.univ := fun t => by
  rw [fin_N0 t, bigSep_W0, bigSep_W0]
  simp only [owns_whole_eq]
  show iprop(PhiA m c ∗ (dats m 0 c).owesAt () t0_0.castSucc ∗ _ ∗ _ ∗ _ ∗ _)
    ⊢ wp frame (wpE (defs₀ (F := F)) 𝒱₀ (c : Thread nD τ) none) Set.univ (onBufs (cc0_body (F := F))) (fun _ =>
        iprop(PhiZ m c ∗ (dats m 0 c).owesAt () t0_0.succ ∗ _ ∗ _ ∗ _ ∗ _))
  iintro ⟨HP, HO, ⟨%d0, %f0, %e0, H0⟩, ⟨%d1, %f1, %e1, H1⟩, ⟨%d2, %f2, %e2, H2⟩, ⟨%d3, %f3, %e3, H3⟩⟩
  have e0' := e0.trans (before_0 m c d0)
  have e1' := e1.trans (before_1 m c d1)
  have e2' := e2.trans (before_2 m c d2)
  subst e0'
  subst e1'
  subst e2'
  unfold PhiA
  icases HP with ⟨%K, #HC, A1, A2, A3, A4, A5, A6, A7, Hidle, Hp⟩
  iapply (body_then m c K)
  isplitr
  · iexact HC
  isplitl [A1 A2 A3 A4 A5 A6 A7 H0 H1 H2 H3 HO]
  · unfold Start
    isplitl [A1]; · iexact A1
    isplitl [A2]; · iexact A2
    isplitl [A3]; · iexact A3
    isplitl [A4]; · iexact A4
    isplitl [A5]; · unfold KvAll; iexact A5
    isplitl [A6]; · iexact A6
    isplitl [A7]; · iexact A7
    isplitl [H3]; · iapply (out_any c f3); iexact H3
    isplitl [H0]; · iexact H0
    isplitl [H1]; · iexact H1
    isplitl [H2]; · iexact H2
    iapply (owes_in m c); iexact HO
  unfold Finish
  iintro ⟨B1, B2, B3, B4, B5, B6, B7, H0, H1, H2, HO⟩
  isplitl [B1 B2 B3 B4 B5 B6 Hidle Hp]
  · unfold PhiZ
    isplitl [B1]; · iexact B1
    isplitl [B2]; · iexact B2
    isplitl [B3]; · iexact B3
    isplitl [B4]; · unfold KvAll; iexact B4
    isplitl [B5]; · iexact B5
    isplitl [B6]; · iexact B6
    isplitl [Hidle]; · iexact Hidle
    iexact Hp
  isplitl [HO]; · iapply (owes_out m c); iexact HO
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  iexists _; isplitr; · ipureintro; exact rfl
  unfold OutS; iexact B7

end Cert.KIProof

end
-- ==== Proof.KI.Enter.lean ====
/- How the kernel's region is entered and left, and the region itself. -/
module

public import proofs.«01_k».proof.Proof.KI.Region

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable [∀ e, Nonempty (Elt F e)] (m : (ℓ : Loc nD τ sig) → Buf (Elt F) ℓ) (c : Dev nD)

open Idealize.ShloMosaic.Pipeline (Dat BodyObligation)

/-! ## Opening the counters of the copies -/

/-- What a device is given for one copy: the right to pay both ends, and the credit to wait for its own arrival. -/
def Give (X : Dir) (h s : ℕ) : sProp 𝕄 :=
  iprop((dutyTok ER (sCell X c h s) 0 .R ∗ dutyTok ER (rCell X (nxt X c) h s) 0 .R) ∗ cred (tallyAt (rCell X c h s) () N))

/-- A counter opened: its position, and the fact that its first round is reached. -/
def Opened (q : DmaSem sig) : sProp 𝕄 := iprop(atPos ER ((c : Thread nD τ), .dma q) 0 ∅ 0 ∗ reached ER ((c : Thread nD τ), .dma q) 0)

def Reach (X : Dir) (h s : ℕ) : sProp 𝕄 := reached ER (rCell X c h s) 0

theorem open_all (K : GSem nD τ sig → ℕ) :
    iprop(Ctx (inp m) K ∗ bigSep usedSems (fun q => iprop(openTok ER ((c : Thread nD τ), .dma q) ∗ zeroAt c q)))
      ⊢ (|={Set.univ}=> bigSep usedSems (Opened c) : sProp 𝕄) := by
  refine BIBase.Entails.trans (bigSep_with_persistent (Ψ := fun q => iprop(|={Set.univ}=> Opened (F := F) c q)) fun q hq => ?_) (bigSep_fupd _ _)
  have h := Rounds.cell_open ER (rd (inp m)) (g := ((c : Thread nD τ), SemLoc.dma q)) (Set.mem_univ (K ((c : Thread nD τ), .dma q)))
  have hc := Ctx_inv (inp m) K (g := ((c : Thread nD τ), SemLoc.dma q)) (dma_mem hq c)
  unfold zeroAt
  iintro ⟨HC, HT, HZ⟩
  iapply h
  isplitl [HC]; · iapply hc; iexact HC
  isplitl [HT]; · iexact HT
  iexact HZ

theorem pre_make (X : Dir) :
    iprop((bigSep (Finset.Ico 1 (hops X)) (fun h => two (fun s => Opened c (sSem X h s))) ∗ bigSep (Finset.Ico 1 (hops X)) (fun h => two (fun s => Opened c (rSem X h s))))
      ∗ bigSep (Finset.Ico 1 (hops X)) (fun h => two (Give c X h)))
    ⊢ (iprop(bigSep (Finset.Ico 1 (hops X)) (fun h => two (Pre X c h)) ∗ bigSep (Finset.Ico 1 (hops X)) (fun h => two (Reach c X h))) : sProp 𝕄) := by
  have e1 := bigSep_two (F := F) (Finset.Ico 1 (hops X)) (fun h s => Opened c (sSem X h s)) (fun h s => Opened c (rSem X h s))
  have e2 := bigSep_two (F := F) (Finset.Ico 1 (hops X)) (fun h s => iprop(Opened c (sSem X h s) ∗ Opened c (rSem X h s))) (fun h s => Give c X h s)
  have e3 := bigSep_two (F := F) (Finset.Ico 1 (hops X)) (fun h s => Pre X c h s) (fun h s => Reach c X h s)
  have hp : ∀ h s, iprop((Opened c (sSem X h s) ∗ Opened c (rSem X h s)) ∗ Give c X h s) ⊢ (iprop(Pre X c h s ∗ Reach c X h s) : sProp 𝕄) := fun h s => by
    unfold Opened Give Pre Reach
    iintro ⟨⟨⟨P, R⟩, ⟨P', #R'⟩⟩, ⟨⟨T, T'⟩, C⟩⟩
    isplitl [P R P' T T' C]
    · isplitl [T T']
      · isplitl [T]
        · iexact T
        iexact T'
      isplitl [P R]
      · isplitl [P]
        · iexact P
        iexact R
      isplitl [P']
      · iexact P'
      iexact C
    iexact R'
  refine (Entails.of_eq (congrArg (fun Z => iprop(Z ∗ bigSep (Finset.Ico 1 (hops X)) (fun h => two (Give c X h)))) e1.symm)).trans ?_
  refine (Entails.of_eq e2.symm).trans (BIBase.Entails.trans (bigSep_mono fun h _ => ?_) (Entails.of_eq e3))
  exact Laws.sep_mono (hp h 0) (hp h 1)

theorem own_make (X : Dir) :
    iprop(bigSep (Finset.Ico 1 (hops X)) (fun h => two (slotAny X c h)) ∗ bigSep (Finset.Ico 1 (hops X)) (fun h => two (Reach c X h)))
    ⊢ (bigSep (Finset.Ico 1 (hops X)) (fun h => two (Own X c h)) : sProp 𝕄) :=
  Entails.of_eq (bigSep_two (F := F) (Finset.Ico 1 (hops X)) (fun h s => slotAny X c h s) (fun h s => Reach c X h s)).symm

/-! ## What a device brings to the kernel, and what it has once the counters are open -/

def Tk : sProp 𝕄 :=
  iprop(∃ K, Ctx (inp m) K ∗ bigSep usedSems (fun q => openTok ER ((c : Thread nD τ), .dma q)) ∗ rows (Give c) ∗ Shake c)

def Xk : sProp 𝕄 := iprop(∃ K, Ctx (inp m) K ∗ rows (fun X => Pre X c) ∗ rows (Reach c) ∗ Shake c ∗ Idle c ∗ KvZero c)

def Yk : sProp 𝕄 := semVal (barCell c) 0

theorem hopen : iprop(Tk m c ∗ Pipeline.ownSems0 osem c ∗ levAts L lv) ⊢ (|={Set.univ}=> Xk m c : sProp 𝕄) := by
  rw [ownSems_eq]
  have e := bigSep_sep' usedSems (fun q => (openTok ER ((c : Thread nD τ), .dma q) : sProp 𝕄)) (zeroAt c)
  have eU := bigSep_used (F := F) (Opened c)
  unfold Tk Xk
  iintro ⟨⟨%K, #HC, HT, ⟨HGR, HGL⟩, HS⟩, ⟨HZ, HI, HK⟩, -⟩
  imod (open_all m c K) $$ [HT HZ] with HO
  · isplitr
    · iexact HC
    iapply (Entails.of_eq e.symm)
    isplitl [HT]
    · iexact HT
    iexact HZ
  ihave HO := (Entails.of_eq eU) $$ HO
  icases HO with ⟨HOR, HOL⟩
  ihave HR := (pre_make c .R) $$ [HOR HGR]
  · isplitl [HOR]
    · iexact HOR
    iexact HGR
  ihave HL := (pre_make c .L) $$ [HOL HGL]
  · isplitl [HOL]
    · iexact HOL
    iexact HGL
  icases HR with ⟨PR, RR⟩
  icases HL with ⟨PL, RL⟩
  imodintro
  iexists K
  isplitr; · iexact HC
  isplitl [PR PL]
  · isplitl [PR]
    · iexact PR
    iexact PL
  isplitl [RR RL]
  · isplitl [RR]
    · iexact RR
    iexact RL
  isplitl [HS]; · iexact HS
  isplitl [HI]; · iexact HI
  unfold KvZero; iexact HK

/-! ## The buffers the body addresses itself -/

def hostRefs : Finset (DevRef τ sig) := {Proc.devRef .tc main_v12, Proc.devRef .tc main_v18}
/-- The host's buffers that no window of the kernel stages. -/
def restRefs : Finset (DevRef τ sig) := Pipeline.ucRefs τ sig \ Pipeline.arrRefs spec0

theorem hostRefs_sub : hostRefs ⊆ restRefs := by decide +kernel

theorem held_host (W : Valuation τ sig (Elt F)) (hk : W (Proc.devRef .tc main_v12) = (inp m).k c) (hv : W (Proc.devRef .tc main_v18) = (inp m).v c) :
    (StableHlo.held (c.tc : Thread nD τ) hostRefs W : sProp 𝕄)
      = iprop(Arr (inp m) .K .R c ∗ Arr (inp m) .V .R c ∗ Arr (inp m) .K .L c ∗ Arr (inp m) .V .L c) := by
  rw [arr_halves, ← hk, ← hv]
  unfold StableHlo.held
  rw [bigSep_eq_bigSepL_of_eq [Proc.devRef .tc main_v12, Proc.devRef .tc main_v18] (by decide) (by decide)]
  rfl

theorem Vend_k : Vend m c (Proc.devRef .tc main_v12) = (inp m).k c := Function.update_of_ne (by decide) _ _
theorem Vend_v : Vend m c (Proc.devRef .tc main_v18) = (inp m).v c := Function.update_of_ne (by decide) _ _

theorem hin : iprop(Pipeline.scopedRest (Pipeline.pin (pcfgs (F := F)) adm 0).spec c ∗ (∃ r, prngReg c r) ∗ StableHlo.held (c.tc : Thread nD τ) hostRefs (V1 m c) ∗ Xk m c)
    ⊢ (dats m 0 c).Φ 0 := by
  rw [show (dats m 0 c).Φ 0 = PhiA m c from rfl, held_host m c (V1 m c) rfl rfl]
  have e := scopedRest0_eq (Ix := Unit) (Val := Elt F) (Name := ℕ) (U := UU) (Lvl := ℕ) c
  refine BIBase.Entails.trans (Laws.sep_mono (Entails.of_eq e) BIBase.Entails.rfl) ?_
  have eR := land_rows (F := F) .R c
  have eL := land_rows (F := F) .L c
  have eC := ctx_any (F := F) c
  have eK := kv_all (F := F) c
  unfold Xk PhiA
  rw [eK, ← eC]
  iintro ⟨⟨HgR, HgL, Hctx, Hk, Hv⟩, Hp, HA, ⟨%K, #HC, HPre, ⟨RR, RL⟩, HS, HI, HZ⟩⟩
  ihave HgR := (Entails.of_eq eR) $$ HgR
  ihave HgL := (Entails.of_eq eL) $$ HgL
  icases HgR with ⟨R0, HgR⟩
  icases HgL with ⟨L0, HgL⟩
  iexists K
  isplitr; · iexact HC
  isplitl [HPre]; · iexact HPre
  isplitl [HgR RR HgL RL]
  · isplitl [HgR RR]
    · iapply (own_make c .R)
      isplitl [HgR]
      · iexact HgR
      iexact RR
    iapply (own_make c .L)
    isplitl [HgL]
    · iexact HgL
    iexact RL
  isplitl [R0 L0]
  · isplitl [R0]
    · iexact R0
    iexact L0
  isplitl [HS]; · iexact HS
  isplitl [Hk Hv HZ]
  · isplitl [Hk]; · iexact Hk
    isplitl [Hv]; · iexact Hv
    iexact HZ
  isplitl [HA]; · iexact HA
  isplitl [Hctx]; · iexact Hctx
  isplitl [HI]; · iexact HI
  iexact Hp

theorem done_split (X : Dir) :
    bigSep (Finset.Ico 1 (hops X)) (fun h => two (Done (inp m) X c h))
    ⊢ (iprop(bigSep (Finset.Ico 1 (hops X)) (fun h => two (fun s => slotQ (inp m) X c (h - 1) s fullShare))
      ∗ (bigSep (Finset.Ico 1 (hops X)) (fun h => two (fun s => zeroAt c (sSem X h s))) ∗ bigSep (Finset.Ico 1 (hops X)) (fun h => two (fun s => zeroAt c (rSem X h s))))) : sProp 𝕄) := by
  have e1 := bigSep_two (F := F) (Finset.Ico 1 (hops X)) (fun h s => zeroAt c (sSem X h s)) (fun h s => zeroAt c (rSem X h s))
  have e2 := bigSep_two (F := F) (Finset.Ico 1 (hops X)) (fun h s => slotQ (inp m) X c (h - 1) s fullShare) (fun h s => iprop(zeroAt c (sSem X h s) ∗ zeroAt c (rSem X h s)))
  rw [← e1]
  refine BIBase.Entails.trans (bigSep_mono fun h _ => ?_) (Entails.of_eq e2)
  have hd : ∀ s, Done (inp m) X c h s ⊢ (iprop(slotQ (inp m) X c (h - 1) s fullShare ∗ zeroAt c (sSem X h s) ∗ zeroAt c (rSem X h s)) : sProp 𝕄) := fun s => by
    unfold Done zeroAt
    iintro ⟨A, B, C⟩
    isplitl [A]; · iexact A
    isplitl [C]; · iexact C
    iexact B
  exact Laws.sep_mono (hd 0) (hd 1)

theorem hout : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) hostRefs (Vend m c)
        ∗ Pipeline.ownSems0 osem c ∗ Yk c) := by
  rw [show (dats m 0 c).Φ (Fin.last (Pipeline.pin (pcfgs (F := F)) adm 0).N) = PhiZ m c from rfl, held_host m c (Vend m c) (Vend_k m c) (Vend_v m c)]
  have e := scopedRest0_eq (Ix := Unit) (Val := Elt F) (Name := ℕ) (U := UU) (Lvl := ℕ) c
  refine BIBase.Entails.trans ?_ (Laws.sep_mono (Entails.of_eq e.symm) BIBase.Entails.rfl)
  have eC := ctx_any (F := F) c
  have eK := kv_all (F := F) c
  rw [ownSems_eq, bigSep_used]
  unfold PhiZ Yk
  rw [eK, ← eC]
  iintro ⟨⟨DR, DL⟩, ⟨R8, L7⟩, Hb, ⟨Hk, Hv, HZ⟩, HA, Hctx, HI, Hp⟩
  ihave DR := (done_split m c .R) $$ DR
  ihave DL := (done_split m c .L) $$ DL
  icases DR with ⟨GR, ZR⟩
  icases DL with ⟨GM, ZL⟩
  isplitl [GR R8 GM L7 Hctx Hk Hv]
  · isplitl [GR R8]
    · iapply (rows_end (inp m) .R c 8 rfl)
      isplitl [GR]
      · iexact GR
      iexact R8
    isplitl [GM L7]
    · iapply (rows_end (inp m) .L c 7 rfl)
      isplitl [GM]
      · iexact GM
      iexact L7
    isplitl [Hctx]; · iexact Hctx
    isplitl [Hk]; · iexact Hk
    iexact Hv
  isplitl [Hp]; · iexact Hp
  isplitl [HA]; · iexact HA
  isplitl [ZR ZL HI HZ]
  · isplitl [ZR ZL]
    · isplitl [ZR]
      · iexact ZR
      iexact ZL
    isplitl [HI]; · iexact HI
    unfold KvZero; iexact HZ
  iexact Hb

/-! ## The region -/

theorem stg_level : ∀ (w : Fin 4) (s : Fin (spec0 w).nbuf), lvOf (.dma ((spec0 w).sem s)) ≤ 0 := by decide

theorem above_O₀ : Above 0 (O₀ c) :=
  ((((above_owedX .R c 0).mono (Nat.zero_le _)).add ((above_owedX .L c 0).mono (Nat.zero_le _))).add
    (.tally (c := nxt .R c) (sm := .reg (sig.barrier 0 rfl)) (show 0 < 1 from Nat.one_pos))).add
    (.tally (c := nxt .L c) (sm := .reg (sig.barrier 0 rfl)) (show 0 < 1 from Nat.one_pos))

theorem cutD (t : Fin ((Pipeline.pin (pcfgs (F := F)) adm 0).N + 1)) (g : GSem nD τ sig) (i : Unit) (h : 0 < (dats m 0 c).owed t g i) :
    i ∈ L g ∧ (0 : ℕ) < lv g i := by
  have e : (dats m 0 c).owed t = if t.val = 0 then O₀ c else 0 := rfl
  rw [e] at h
  split at h
  · exact above_O₀ c g i h
  · exact absurd h (Nat.lt_irrefl 0)

theorem Vend_arr (w : Fin 4) : (dats m 0 c).arrAt w cfg0.N = Vend m c (Proc.devRef .tc (Pipeline.arrRef spec0 w)) := by
  have h : ∀ w : Fin 4, w ≠ 3 → (cfg0.win w).isOut = false ∧ (Proc.devRef .tc (Pipeline.arrRef spec0 w) : DevRef τ sig) ≠ Proc.devRef .tc main_v19 := by decide
  by_cases e : w = 3
  · subst e
    rw [arr_out]
    exact (Function.update_self (Proc.devRef .tc main_v19) (outV m c) (V1 m c)).symm
  · rw [(dats m 0 c).arrAt_in w (h w e).1 _]
    exact (Function.update_of_ne (h w e).2 (outV m c) (V1 m c)).symm

theorem Vend_rest : ∀ b ∈ restRefs \ hostRefs, Vend m c b = V1 m c b := fun b hb =>
  Function.update_of_ne (fun e => absurd (e ▸ (Finset.mem_sdiff.mp hb).1) (by decide +kernel : (Proc.devRef .tc main_v19 : DevRef τ sig) ∉ restRefs)) _ _

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    hostRefs restRefs hostRefs_sub launch0.toP rfl (fun c => (body m c).loose)
    (fun _ => 0) O₀ (fun c => (zero_add (O₀ c)).symm) (fun _ => rfl) (fun _ => rfl)
    (fun c w => by unfold Dat.share; split <;> rfl)
    (V1 m) (Vend m) (Vend_rest m)
    (Tk m) Yk (Xk m) Yk (hopen m) (hin m) (hout m)
    (fun c => by iintro H; imodintro; iexact H)
    (fun _ => 0)
    ⟨fun c w s => Finset.mem_singleton_self (), fun c w s => stg_level w s, fun c t g i h => cutD m c t g i h⟩
    (fun _ => iprop(emp))
    (fun c w => rfl) (Vend_arr m)

end Cert.KIProof

end
-- ==== Proof.KI.Launch.lean ====
/- The start of all devices at once: the counters' shared invariants, the rights and credits dealt out. -/
module

public import proofs.«01_k».proof.Proof.KI.Enter

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable [∀ e, Nonempty (Elt F e)] (m : (ℓ : Loc nD τ sig) → Buf (Elt F) ℓ) (c : Dev nD)

/-! ## What every device owes every cell -/

theorem nxt_iff (X : Dir) : ∀ d c : Dev nD, nxt X d = c ↔ d = prv X c := by cases X <;> decide

theorem rSem_eq {X Y : Dir} {h j s t : ℕ} (h1 : h < hops X) (h2 : j < hops Y) (hs : s < 2) (ht : t < 2) (e : rSem Y j t = rSem X h s) : Y = X ∧ j = h ∧ t = s := by
  have e' := congrArg Fin.val e
  cases X <;> cases Y <;> simp only [rSem, hops] at e' h1 h2 <;> first | (refine ⟨rfl, ?_, ?_⟩ <;> omega) | omega

theorem tally_at (Y : Dir) (e c : Dev nD) (X : Dir) {h j s t : ℕ} (h1 : h < hops X) (h2 : j < hops Y) (hs : s < 2) (ht : t < 2) :
    tallyAt (rCell Y e j t) () N (rCell X c h s) () = if Y = X ∧ e = c ∧ j = h ∧ t = s then N else 0 := by
  rw [tallyAt_apply]
  by_cases hh : Y = X ∧ e = c ∧ j = h ∧ t = s
  · rw [if_pos hh]
    obtain ⟨rfl, rfl, rfl, rfl⟩ := hh
    rw [if_pos ⟨rfl, rfl⟩]
  · rw [if_neg hh, if_neg]
    rintro ⟨hg, -⟩
    obtain ⟨a, b, d⟩ := rSem_eq h1 h2 hs ht (SemLoc.dma.inj (congrArg Prod.snd hg)).symm
    exact hh ⟨a, (Fin.ext (congrArg (fun g : GSem nD τ sig => g.1.1.val) hg)).symm, b, d⟩

theorem owedX_at (Y X : Dir) (d c : Dev nD) {h s : ℕ} (h0 : 1 ≤ h) (h1 : h < hops X) (hs : s < 2) :
    owedX Y d 0 (rCell X c h s) () = if Y = X ∧ nxt Y d = c then N else 0 := by
  unfold owedX
  rw [Finset.sum_apply, Finsupp.finset_sum_apply]
  have e : ∀ j ∈ Finset.Ico (0 + 1) (hops Y), (tallyAt (rCell Y (nxt Y d) j 1) () N + tallyAt (rCell Y (nxt Y d) j 0) () N : CellTallies nD τ sig Unit) (rCell X c h s) ()
      = if j = h then (if Y = X ∧ nxt Y d = c then N else 0) else 0 := fun j hj => by
    have hj' := (Finset.mem_Ico.mp hj).2
    rw [Pi.add_apply, Finsupp.add_apply, tally_at _ _ _ _ h1 hj' hs (by decide), tally_at _ _ _ _ h1 hj' hs (by decide)]
    rcases (by omega : s = 0 ∨ s = 1) with rfl | rfl <;> by_cases a : j = h <;> by_cases b : Y = X <;> by_cases g : nxt Y d = c <;> simp [a, b, g]
  rw [Finset.sum_congr rfl e, Finset.sum_ite_eq']
  by_cases a : Y = X
  · subst a
    rw [if_pos (Finset.mem_Ico.mpr ⟨h0, h1⟩)]
  · rw [if_neg (show ¬ (Y = X ∧ nxt Y d = c) from fun hh => a hh.1), ite_self]

theorem owedX_bar (Y : Dir) (d c : Dev nD) : owedX Y d 0 (barCell c) () = 0 := by
  unfold owedX
  rw [Finset.sum_apply, Finsupp.finset_sum_apply]
  refine Finset.sum_eq_zero fun j _ => ?_
  have e (t : ℕ) : tallyAt (rCell Y (nxt Y d) j t) () N (barCell c) () = 0 := by
    rw [tallyAt_apply, if_neg]
    rintro ⟨hg, -⟩
    exact absurd (congrArg (fun g : GSem nD τ sig => g.2) hg) (fun h => nomatch h)
  rw [Pi.add_apply, Finsupp.add_apply, e, e]; rfl

theorem bar_at (e c : Dev nD) : tallyAt (barCell e) () 1 (barCell c) () = if e = c then 1 else 0 := by
  rw [tallyAt_apply]
  by_cases h : e = c
  · subst h; rw [if_pos ⟨rfl, rfl⟩, if_pos rfl]
  · rw [if_neg h, if_neg]
    rintro ⟨hg, -⟩
    exact h (Fin.ext (congrArg (fun g : GSem nD τ sig => g.1.1.val) hg)).symm

theorem bar_r (X : Dir) (e c : Dev nD) (h s : ℕ) : tallyAt (barCell e) () 1 (rCell X c h s) () = 0 := by
  rw [tallyAt_apply, if_neg]
  rintro ⟨hg, -⟩
  exact absurd (congrArg (fun g : GSem nD τ sig => g.2) hg) (fun h => nomatch h)

theorem sum_nxt (X : Dir) (c : Dev nD) (n : ℕ) : (∑ d : Dev nD, if nxt X d = c then n else 0) = n := by
  simp only [nxt_iff]
  rw [Finset.sum_ite_eq', if_pos (Finset.mem_univ _)]

theorem launch_bar : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same]
  have e : ∀ d : Dev nD, O₀ d (barCell c) () = (if nxt .R d = c then 1 else 0) + (if nxt .L d = c then 1 else 0) := fun d => by
    unfold O₀
    rw [Pi.add_apply, Finsupp.add_apply, Pi.add_apply, Finsupp.add_apply, Pi.add_apply, Finsupp.add_apply, owedX_bar, owedX_bar, bar_at, bar_at]
    omega
  rw [Finset.sum_congr rfl fun d _ => e d, Finset.sum_add_distrib, sum_nxt, sum_nxt]

theorem launch_r (X : Dir) {h s : ℕ} (h0 : 1 ≤ h) (h1 : h < hops X) (hs : s < 2) :
    tallyOn (rCell X c h s) (launchCredit (Pipeline.owing O₀) 0 (rCell X c h s)) = (tallyAt (rCell X c h s) () N : CellTallies nD τ sig Unit) := by
  unfold tallyAt; refine congrArg _ (Finsupp.ext fun u => ?_); cases u
  rw [Pipeline.launchCredit_owing, Finsupp.single_eq_same]
  have e : ∀ d : Dev nD, O₀ d (rCell X c h s) () = if nxt X d = c then N else 0 := fun d => by
    unfold O₀
    rw [Pi.add_apply, Finsupp.add_apply, Pi.add_apply, Finsupp.add_apply, Pi.add_apply, Finsupp.add_apply, owedX_at _ _ _ _ h0 h1 hs, owedX_at _ _ _ _ h0 h1 hs, bar_r, bar_r]
    cases X <;> simp
  rw [Finset.sum_congr rfl fun d _ => e d, sum_nxt]

/-! ## The credits -/

def CredR (X : Dir) (h s : ℕ) : sProp 𝕄 := cred (tallyAt (rCell X c h s) () N)

theorem creds : (Pipeline.launchCred O₀ c : sProp 𝕄) ⊢ iprop(cred (tallyAt (barCell c) () 2) ∗ rows (CredR c)) := by
  unfold Pipeline.launchCred
  rw [bigSep_univ_at _ (SemLoc.reg (sig.barrier 0 rfl))]
  refine Laws.sep_mono (Entails.of_eq (congrArg cred (launch_bar c))) ?_
  have hs : usedSems.image (fun q => (SemLoc.dma q : SemLoc sig)) ⊆ Finset.univ.erase (SemLoc.reg (sig.barrier 0 rfl)) := fun x hx => by
    obtain ⟨q, -, rfl⟩ := Finset.mem_image.mp hx
    exact Finset.mem_erase.mpr ⟨fun h => (nomatch h), Finset.mem_univ _⟩
  refine BIBase.Entails.trans (bigSep_subset hs) ?_
  rw [bigSep_image_of_injOn (fun a _ b _ h => SemLoc.dma.inj h), bigSep_used]
  have hr (X : Dir) : bigSep (Finset.Ico 1 (hops X)) (fun h => two (fun s => (cred (tallyOn (rCell X c h s) (launchCredit (Pipeline.owing O₀) 0 (rCell X c h s))) : sProp 𝕄)))
      ⊢ bigSep (Finset.Ico 1 (hops X)) (fun h => two (CredR c X h)) := bigSep_mono fun h hh => by
    obtain ⟨a, b⟩ := Finset.mem_Ico.mp hh
    exact Laws.sep_mono (Entails.of_eq (congrArg cred (launch_r c X a b (by decide)))) (Entails.of_eq (congrArg cred (launch_r c X a b (by decide))))
  iintro ⟨⟨-, HR⟩, ⟨-, HL⟩⟩
  isplitl [HR]
  · iapply (hr .R); iexact HR
  iapply (hr .L); iexact HL

/-! ## The rights to pay -/

def SendTok (X : Dir) (h s : ℕ) : sProp 𝕄 := dutyTok ER (sCell X c h s) 0 .R
def RecvTok (X : Dir) (h s : ℕ) : sProp 𝕄 := dutyTok ER (rCell X c h s) 0 .R
def TokS (X : Dir) : sProp 𝕄 := bigSep (Finset.Ico 1 (hops X)) (fun h => two (SendTok c X h))
def TokR (X : Dir) : sProp 𝕄 := bigSep (Finset.Ico 1 (hops X)) (fun h => two (RecvTok c X h))

def toks : Finset (GSem nD τ sig × ℕ × Dir) := (barCells ∪ scCells) ×ˢ {(0, .R), (0, .L)}

def ring (X : Dir) : Dev nD ≃ Dev nD where
  toFun := nxt X
  invFun := prv X
  left_inv d := ((nxt_iff X d _).mp rfl).symm
  right_inv c := (nxt_iff X _ c).mpr rfl

theorem toks_eq : bigSep toks (fun x => (dutyTok ER x.1 x.2.1 x.2.2 : sProp 𝕄))
    ⊢ bigSep Finset.univ fun c : Dev nD => iprop((dutyTok ER (barCell (nxt .L c)) 0 .R ∗ dutyTok ER (barCell (nxt .R c)) 0 .L)
      ∗ ((TokS c .R ∗ TokR (nxt .R c) .R) ∗ (TokS c .L ∗ TokR (nxt .L c) .L))) := by
  have e2 : ∀ g : GSem nD τ sig, bigSep ({(0, .R), (0, .L)} : Finset (ℕ × Dir)) (fun x => (dutyTok ER g x.1 x.2 : sProp 𝕄)) = iprop(dutyTok ER g 0 .R ∗ dutyTok ER g 0 .L) := fun g => by
    rw [bigSep_insert (by decide), bigSep_singleton]
    rfl
  unfold toks
  rw [bigSep_pairs, bigSep_disj disjoint_cells, bigSep_bar, bigSep_sc]
  simp only [e2]
  have eS : ∀ c : Dev nD, bigSep usedSems (fun q => (iprop(dutyTok ER ((c : Thread nD τ), .dma q) 0 .R ∗ dutyTok ER ((c : Thread nD τ), .dma q) 0 .L) : sProp 𝕄))
      ⊢ iprop((TokS c .R ∗ TokR c .R) ∗ (TokS c .L ∗ TokR c .L)) := fun c => by
    have hm : bigSep usedSems (fun q => (iprop(dutyTok ER ((c : Thread nD τ), .dma q) 0 .R ∗ dutyTok ER ((c : Thread nD τ), .dma q) 0 .L) : sProp 𝕄))
        ⊢ bigSep usedSems (fun q => (dutyTok ER ((c : Thread nD τ), .dma q) 0 .R : sProp 𝕄)) := bigSep_mono fun q _ => BI.sep_and.trans BI.and_elimL
    refine BIBase.Entails.trans hm ?_
    rw [bigSep_used]
    exact BIBase.Entails.rfl
  have hm := bigSep_mono (s := Finset.univ) (fun c (_ : c ∈ (Finset.univ : Finset (Dev nD))) => eS c)
  refine BIBase.Entails.trans (Laws.sep_mono BIBase.Entails.rfl hm) ?_
  rw [bigSep_sep', bigSep_sep', bigSep_sep', bigSep_sep', bigSep_sep', bigSep_sep', bigSep_sep', bigSep_sep', bigSep_sep',
    bigSep_univ_equiv (ring .R) (fun c : Dev nD => (TokR c .R : sProp 𝕄)), bigSep_univ_equiv (ring .L) (fun c : Dev nD => (TokR c .L : sProp 𝕄)),
    bigSep_univ_equiv (ring .L) (fun c : Dev nD => (dutyTok ER (barCell c) 0 .R : sProp 𝕄)),
    bigSep_univ_equiv (ring .R) (fun c : Dev nD => (dutyTok ER (barCell c) 0 .L : sProp 𝕄))]
  exact BI.Entails.refl _

/-! ## What a device starts with -/

def records (κ : GSem nD τ sig → ℕ) : sProp 𝕄 := iprop(Ctx (inp m) κ ∗ bigSep barCells (fun g => reached ER g 0))
instance records_persistent (κ : GSem nD τ sig → ℕ) : BI.Persistent (records m κ) := by unfold records; infer_instance

theorem reached_bar (d : Dev nD) : bigSep barCells (fun g => (reached ER g 0 : sProp 𝕄)) ⊢ reached ER (barCell d) 0 :=
  bigSep_elim (by unfold barCells; exact Finset.mem_map_of_mem barEmb (Finset.mem_univ d))

def Linear : sProp 𝕄 :=
  iprop(atPos ER (barCell c) 0 ∅ 0 ∗ bigSep usedSems (fun q => openTok ER ((c : Thread nD τ), .dma q))
    ∗ ((dutyTok ER (barCell (nxt .L c)) 0 .R ∗ dutyTok ER (barCell (nxt .R c)) 0 .L)
      ∗ ((TokS c .R ∗ TokR (nxt .R c) .R) ∗ (TokS c .L ∗ TokR (nxt .L c) .L))))

theorem give_make (X : Dir) :
    iprop((TokS c X ∗ TokR (nxt X c) X) ∗ bigSep (Finset.Ico 1 (hops X)) (fun h => two (CredR c X h))) ⊢ (bigSep (Finset.Ico 1 (hops X)) (fun h => two (Give c X h)) : sProp 𝕄) := by
  have e1 := bigSep_two (F := F) (Finset.Ico 1 (hops X)) (fun h s => SendTok c X h s) (fun h s => RecvTok (nxt X c) X h s)
  have e2 := bigSep_two (F := F) (Finset.Ico 1 (hops X)) (fun h s => iprop(SendTok c X h s ∗ RecvTok (nxt X c) X h s)) (fun h s => CredR c X h s)
  unfold TokS TokR
  refine (Entails.of_eq (congrArg (fun Z => iprop(Z ∗ bigSep (Finset.Ico 1 (hops X)) (fun h => two (CredR c X h)))) e1.symm)).trans ?_
  exact Entails.of_eq e2.symm

theorem tk_intro (κ : GSem nD τ sig → ℕ) :
    iprop(records m κ ∗ Linear c ∗ cred (tallyAt (barCell c) () 2) ∗ rows (CredR c)) ⊢ (Tk m c : sProp 𝕄) := by
  unfold records Linear Tk Shake
  iintro ⟨⟨#HC, #HR⟩, ⟨Hat, Hop, ⟨TL, TR⟩, ⟨SR, SL'⟩⟩, Hc, ⟨CR, CL⟩⟩
  iexists κ
  isplitr; · iexact HC
  isplitl [Hop]; · iexact Hop
  isplitl [SR SL' CR CL]
  · isplitl [SR CR]
    · iapply (give_make c .R)
      isplitl [SR]
      · iexact SR
      iexact CR
    iapply (give_make c .L)
    isplitl [SL']
    · iexact SL'
    iexact CL
  isplitl [TL]
  · isplitl [TL]
    · iexact TL
    iapply (reached_bar (F := F) (nxt .L c)); iexact HR
  isplitl [TR]
  · isplitl [TR]
    · iexact TR
    iapply (reached_bar (F := F) (nxt .R c)); iexact HR
  isplitl [Hat]; · iexact Hat
  iexact Hc

/-- Beside its buffers. -/
def Es : sProp 𝕄 := iprop(Tk m c ∗ (∃ W, owes (c : Thread nD τ) (O₀ c) W) ∗ ∃ r, prngReg c r)

/-- Held by one device only. -/
def onDev (c₀ : Dev nD) (X : sProp 𝕄) (c : Dev nD) : sProp 𝕄 := if c = c₀ then X else BI.emp
theorem bigSep_onDev (c₀ : Dev nD) (X : sProp 𝕄) : bigSep Finset.univ (onDev c₀ X) = X := by
  refine eq_of ?_ ?_
  · refine BIBase.Entails.trans (bigSep_elim (Finset.mem_univ c₀)) (Entails.of_eq ?_)
    unfold onDev; rw [if_pos rfl]
  · rw [bigSep_univ_at _ c₀]
    have e : bigSep (Finset.univ.erase c₀) (onDev c₀ X) = BI.emp := by
      rw [← BI.bigSep_emp_const (Finset.univ.erase c₀)]
      exact bigSep_congr fun c hc => if_neg (Finset.ne_of_mem_erase hc)
    rw [e]
    unfold onDev; rw [if_pos rfl]
    iintro H
    isplitl [H]; · iexact H
    iempintro

def G : Dev nD → sProp 𝕄 := onDev 0 (BI.own (ER (launchOf barCells scCells toks)))

theorem unscopedSems0_eq : (unscopedSems0 c : sProp 𝕄) = semVal (barCell c) 0 := by
  have h : (Finset.univ.filter fun sm : SemLoc sig => ¬ sm.isScoped .tc) = {SemLoc.reg (sig.barrier 0 rfl)} := by decide +kernel
  unfold unscopedSems0
  rw [h, bigSep_singleton]

variable (ρ : Dev nD → PrngReg)

theorem together {A B : Dev nD → sProp 𝕄} : iprop(bigSep Finset.univ A ∗ bigSep Finset.univ B) ⊢ bigSep Finset.univ (fun c => iprop(A c ∗ B c)) :=
  Entails.of_eq (bigSep_sep' _ _ _).symm
theorem apart {A B : Dev nD → sProp 𝕄} : bigSep Finset.univ (fun c => iprop(A c ∗ B c)) ⊢ iprop(bigSep Finset.univ A ∗ bigSep Finset.univ B) :=
  Entails.of_eq (bigSep_sep' _ _ _)

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) (Pipeline.ucRefs τ sig) (V0 m c) ∗ Es m c)) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(((StableHlo.held (c : Thread nD τ) (Pipeline.ucRefs τ sig) (V0 m c) ∗ (∃ W, owes (c : Thread nD τ) (O₀ c) W) ∗ ∃ r, prngReg c r)
          ∗ (cred (tallyAt (barCell c) () 2) ∗ rows (CredR c))) ∗ (semVal (barCell c) 0 ∗ G c)) : sProp 𝕄) := by
    rw [← Pipeline.unscopedBufs_held (Ix := Unit) (Name := ℕ) (U := UU) (Lvl := ℕ) c (V0 m c), unscopedSems0_eq]
    iintro ⟨Hh, Hus, HO, Hcr, Hp, HG⟩
    isplitl [Hh HO Hp Hcr]
    · isplitl [Hh HO Hp]
      · isplitl [Hh]; · iexact Hh
        isplitl [HO]
        · iexists ∅; iexact HO
        iexists (ρ c); iexact Hp
      iapply (creds (F := F) c); iexact Hcr
    isplitl [Hus]
    · iexact Hus
    iexact HG
  have hall : bigSep Finset.univ (fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (bigSep Finset.univ (fun c : Dev nD => iprop(((StableHlo.held (c : Thread nD τ) (Pipeline.ucRefs τ sig) (V0 m c) ∗ (∃ W, owes (c : Thread nD τ) (O₀ c) W) ∗ ∃ r, prngReg c r)
          ∗ (cred (tallyAt (barCell c) () 2) ∗ rows (CredR c))) ∗ (semVal (barCell c) 0 ∗ G c))) : sProp 𝕄) := bigSep_mono fun c _ => hcore c
  have hv : bigSep Finset.univ (fun c : Dev nD => (semVal (barCell c) 0 : sProp 𝕄)) ⊢ bigSep barCells (fun g => (semVal g 0 : sProp 𝕄)) :=
    Entails.of_eq (bigSep_bar (fun g => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_bar (fun g => (atPos ER g 0 ∅ 0 : sProp 𝕄)))
  have hopn : bigSep scCells (fun g => (openTok ER g : sProp 𝕄)) ⊢ bigSep Finset.univ (fun c : Dev nD => bigSep usedSems (fun q => (openTok ER ((c : Thread nD τ), .dma q) : sProp 𝕄))) :=
    Entails.of_eq (bigSep_sc (fun g => (openTok ER g : sProp 𝕄)))
  have hg : bigSep Finset.univ (G (F := F)) ⊢ BI.own (ER (launchOf barCells scCells toks)) := Entails.of_eq (bigSep_onDev (F := F) 0 (BI.own (ER (launchOf barCells scCells toks))))
  iintro ⟨H, #HL⟩
  ihave H' := hall $$ H
  ihave H2 := apart $$ H'
  icases H2 with ⟨HB, H3⟩
  ihave H4 := apart $$ H3
  icases H4 with ⟨Hv, HG⟩
  ihave Hu := hg $$ HG
  imod (Rounds.fund_launch ER (rd (inp m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(Linear c ∗ ((StableHlo.held (c : Thread nD τ) (Pipeline.ucRefs τ sig) (V0 m c) ∗ (∃ W, owes (c : Thread nD τ) (O₀ c) W) ∗ ∃ r, prngReg c r)
          ∗ (cred (tallyAt (barCell c) () 2) ∗ rows (CredR c))))) fun c _ => ?_)
  · iintro ⟨#HR, Hl, ⟨⟨Hh, HO, Hp⟩, Hc⟩⟩
    isplitl [Hh]; · iexact Hh
    unfold Es
    isplitl [Hl Hc]
    · iapply (tk_intro m c κ)
      isplitr; · iexact HR
      isplitl [Hl]; · iexact Hl
      iexact Hc
    isplitl [HO]; · iexact HO
    iexact Hp
  isplitr
  · unfold records Ctx
    isplitr
    · isplitr
      · iexact Hinv
      iexact HL
    iexact Hr
  iapply together
  isplitr [HB]
  · unfold Linear
    iapply together; isplitl [Hat]; · iapply hat $$ Hat
    iapply together; isplitl [Hopen]; · iapply hopn $$ Hopen
    iapply (toks_eq (F := F)) $$ Htok
  · iexact HB

/-! ## The run -/

theorem unscoped_eq : ∀ sm : SemLoc sig, sm.isScoped .tc = false → sm = .reg (sig.barrier 0 rfl) := by decide +kernel

def u₀ : UU := (initOf (Pipeline.cells (Pipeline.pin (pcfgs (F := F)) adm) cellOf_inj) (Pipeline.launchToks (Pipeline.pin (pcfgs (F := F)) adm) cellOf_inj), (launchOf barCells scCells toks, 1))

theorem arr_sub : Pipeline.arrRefs (τ := τ) spec0 ⊆ Pipeline.ucRefs τ sig := by decide +kernel

theorem split_refs (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) restRefs W) := by
  unfold restRefs
  exact StableHlo.held_sub_split (c : Thread nD τ) arr_sub W

theorem reg_pre : iprop(StableHlo.held (c : Thread nD τ) (Pipeline.ucRefs τ sig) (V1 m c) ∗ Es m c) ⊢ ((reg m).pre c : sProp 𝕄) := by
  show _ ⊢ iprop(StableHlo.held (c : Thread nD τ) (Pipeline.arrRefs (τ := τ) spec0) (V1 m c) ∗ (∃ r, prngReg c r)
    ∗ (StableHlo.held (c : Thread nD τ) restRefs (V1 m c) ∗ emp) ∗ Tk m c ∗ ∃ Wd, owes (c : Thread nD τ) (0 + O₀ c) Wd)
  rw [split_refs, zero_add]
  unfold Es
  iintro ⟨⟨HA, HR⟩, HT, HO, Hp⟩
  isplitl [HA]; · iexact HA
  isplitl [Hp]; · iexact Hp
  isplitl [HR]
  · isplitl [HR]
    · iexact HR
    iempintro
  isplitl [HT]; · iexact HT
  iexact HO

def Tn : sProp 𝕄 := iprop(StableHlo.held (c : Thread nD τ) (Pipeline.ucRefs τ sig) (Vend m c) ∗ semVal (barCell c) 0)

theorem reg_post : (reg m).post c ⊢ (iprop(Tn m c ∗ ∃ W, owes (c : Thread nD τ) (0 : CellTallies nD τ sig Unit) W) : sProp 𝕄) := by
  show iprop(StableHlo.held (c : Thread nD τ) (Pipeline.arrRefs (τ := τ) spec0) (Vend m c) ∗ (∃ r, prngReg c r)
    ∗ (StableHlo.held (c : Thread nD τ) restRefs (Vend m c) ∗ emp) ∗ Yk c ∗ ∃ Wd, owes (c : Thread nD τ) 0 Wd) ⊢ _
  unfold Tn Yk
  rw [split_refs]
  iintro ⟨HA, -, ⟨HR, -⟩, HY, HO⟩
  isplitr [HO]
  · isplitl [HA HR]
    · isplitl [HA]
      · iexact HA
      iexact HR
    iexact HY
  iexact HO

set_option backward.isDefEq.respectTransparency.types false in
/-- From any contents with all counters at zero, every weakly fair execution of the program on the devices ends; then every buffer of the host holds
what the host's operations and the kernel's result leave there, and every counter is at zero. -/
theorem run_all : θ_run defs (onTc (τ := τ) (main (F := F))) ⟨m, fun _ => 0, ρ⟩ (fun r =>
    (∀ c : Dev nD, ∀ b ∈ Pipeline.ucRefs τ sig, r.2.mem (c, b) = Vend m c b) ∧ r.2.sem = fun _ => 0) := by
  refine Pipeline.θ_run_regions_kit_dev_sems (pcfgs (F := F)) adm (dats m) () cellOf_inj EP defs₀ 𝒱₀ L lv m ρ main
    (segs m 𝒱₀ L lv (fun _ => Es m) () (dats m) (reg m))
    (fun c Q => by
      rewrite [main_chain c, Pipeline.Seg.run_eq_chain,
        show (segs m 𝒱₀ L lv (fun _ => Es m) () (dats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne (G (F := F)) (u₀ (F := F)) ?_
    (T₀ := fun c => iprop(StableHlo.held (c : Thread nD τ) (Pipeline.ucRefs τ sig) (V0 m c) ∗ Es m c))
    (Tₙ := Tn m)
    (hch := fun c => ⟨.rfl, reg_pre m c, reg_post m c⟩)
    (hinit := init m ρ) (QY := fun c s => (∀ b ∈ Pipeline.ucRefs τ sig, s.mem (c, b) = Vend m c b) ∧ s.sem (barCell c) = 0)
    (hfin := fun c s' => ?_) (hQ := fun s h hs => ⟨fun c => (h c).1, sem_eq_zero hs fun c sm hsm => by
        obtain rfl := unscoped_eq sm hsm
        exact (h c).2⟩)
  · unfold u₀ G
    iintro Hu
    ihave H := (ownU_pair _ _) $$ Hu
    icases H with ⟨HP, HX⟩
    imodintro
    isplitl [HP]; · iexact HP
    rw [bigSep_onDev]; iexact HX
  · unfold Tn StableHlo.held
    iintro ⟨⟨Hh, Hb0⟩, HSI⟩
    icombine HSI Hb0 gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨h, by simpa using hb⟩
    · iexact HSI

end Cert.KIProof

end
-- ==== Proof.KI.Run.lean ====
/- The run of the kernel's program: its results, its arguments, its counters. -/
module

public import proofs.«01_k».proof.Proof.KI.Launch

@[expose] public section

set_option maxRecDepth 10000

noncomputable section

namespace Cert.KIProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable [∀ e, Nonempty (Elt F e)] (m : (ℓ : Loc nD τ sig) → Buf (Elt F) ℓ) (c : Dev nD)

variable (ρ : Dev nD → PrngReg)

theorem Vend_of (r : Ref sig .tc) (hn : (Proc.devRef .tc r : DevRef τ sig) ≠ Proc.devRef .tc main_v19) (hw : r ∉ hostOps0_W) :
    Vend m c (Proc.devRef .tc r) = m ((c.tc : Thread nD τ).loc r) :=
  (Function.update_of_ne hn _ _).trans (V1_of m c r hw)

theorem Vend_out : Vend m c (Proc.devRef .tc main_v19) = outV m c := Function.update_self _ _ _

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- What the run leaves: the kernel's result on every device, the arguments as they were, every counter at zero. -/
theorem run_result : θ_run defs (onTc (τ := τ) (main (F := F))) ⟨m, fun _ => 0, ρ⟩ (fun r =>
    (∀ c : Dev nD, r.2.mem ((c.tc : Thread nD τ).loc main_v19) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs (onTc (τ := τ) (main (F := F))) ⟨m, fun _ => 0, ρ⟩).mono (fun r h => ⟨fun c =>
    ⟨(h.1 c _ (mem_uc main_v19 (by decide))).trans (Vend_out m c),
     (h.1 c _ (mem_uc main_arg0 (by decide))).trans (Vend_of m c main_arg0 (by decide) (by decide)),
     (h.1 c _ (mem_uc main_arg1 (by decide))).trans (Vend_of m c main_arg1 (by decide) (by decide)),
     (h.1 c _ (mem_uc main_arg2 (by decide))).trans (Vend_of m c main_arg2 (by decide) (by decide)),
     (h.1 c _ (mem_uc main_arg3 (by decide))).trans (Vend_of m c main_arg3 (by decide) (by decide)),
     (h.1 c _ (mem_uc main_arg4 (by decide))).trans (Vend_of m c main_arg4 (by decide) (by decide))⟩, h.2⟩) (run_all m ρ)

end Cert.KIProof

end
-- ==== Proof.Maths.Soft.lean ====
/- Softmax over the extended reals: subtracting the greatest score changes nothing, and dividing every exponential by their
   sum is dividing the weighted sum by it. -/
module

public import Idealize.ShloMosaic.PureOps.Ideal

@[expose] public section

noncomputable section

namespace Cert.Maths

open Idealize.ShloMosaic

/-- A sum times a nonnegative real, term by term: at infinite terms too. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals is the real sum. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real number among the extended ones. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i, IsReal (f i)) : IsReal (∑ i ∈ s, f i) := by
  choose g hg using h
  exact ⟨∑ i ∈ s, g i, by rw [← sum_real]; exact Finset.sum_congr rfl fun i _ => hg i⟩

section Soft

variable {ι : Type} [Fintype ι] (s v : ι → EReal) (p : ι → Prop) [DecidablePred p]

/-- The scores that count; the others are −∞. -/
def kept (j : ι) : EReal := if p j then s j else ⊥
/-- The greatest score. -/
def top : EReal := Finset.univ.fold max ⊥ (kept s p)

/-- The kernel's mean of the values: no score subtracted, one division at the end. -/
def meanK : EReal :=
  (∑ j, Ideal.exp (s j + if p j then 0 else ⊥) * v j) * Ideal.div 1 (∑ j, Ideal.exp (s j + if p j then 0 else ⊥))
/-- The reference's: each weight over the sum of the weights. -/
def meanR : EReal :=
  ∑ j, v j * Ideal.div (Ideal.exp (kept s p j - top s p)) (∑ j, Ideal.exp (kept s p j - top s p))

/-- For real scores of which one counts the two means are the same, whatever the values are. -/
theorem mean_eq (hs : ∀ j, IsReal (s j)) (hp : ∃ j, p j) : meanK s v p = meanR s v p := by
  choose r hr using hs
  have htop : IsReal (top s p) := by
    have h1 : top s p < ⊤ := by
      refine (Finset.fold_max_lt _).mpr ⟨bot_lt_top, fun j _ => ?_⟩
      unfold kept; split
      · rw [hr]; exact EReal.coe_lt_top _
      · exact bot_lt_top
    have h2 : ⊥ < top s p := by
      obtain ⟨j, hj⟩ := hp
      refine (Finset.lt_fold_max _).mpr (.inr ⟨j, Finset.mem_univ _, ?_⟩)
      rw [kept, if_pos hj, hr]; exact EReal.bot_lt_coe _
    exact ⟨(top s p).toReal, (EReal.coe_toReal h1.ne h2.ne').symm⟩
  obtain ⟨M, hM⟩ := htop
  have hb : ∀ j, Ideal.exp (s j + if p j then 0 else ⊥) = ((if p j then Real.exp (r j) else 0 : ℝ) : EReal) := fun j => by
    split
    · rw [add_zero, hr]; rfl
    · rw [EReal.add_bot]; rfl
  have hk : ∀ j, Ideal.exp (kept s p j - top s p) = (((if p j then Real.exp (r j) else 0) * Real.exp (-M) : ℝ) : EReal) := fun j => by
    rw [hM]; unfold kept; split
    · rw [hr, ← EReal.coe_sub]
      show ((Real.exp (r j - M) : ℝ) : EReal) = _
      rw [sub_eq_add_neg, Real.exp_add]
    · rw [EReal.bot_sub, zero_mul]; rfl
  set E : ι → ℝ := fun j => if p j then Real.exp (r j) else 0 with hE
  have hE0 : ∀ j, 0 ≤ E j := fun j => by rw [hE]; dsimp only; split; exacts [(Real.exp_pos _).le, le_rfl]
  have hS : 0 < ∑ j, E j := by
    obtain ⟨j, hj⟩ := hp
    refine Finset.sum_pos' (fun j _ => hE0 j) ⟨j, Finset.mem_univ _, ?_⟩
    rw [hE]; dsimp only; rw [if_pos hj]; exact Real.exp_pos _
  unfold meanK meanR
  simp only [hb, hk, sum_real]
  rw [Ideal.div_coe hS.ne', one_mul, sum_mul_real _ _ (one_div_nonneg.mpr hS.le)]
  refine Finset.sum_congr rfl fun j _ => ?_
  rw [← Finset.sum_mul, Ideal.div_coe (mul_pos hS (Real.exp_pos _)).ne', mul_right_comm, mul_comm (v j), ← EReal.coe_mul, ← EReal.coe_mul]
  congr 2
  have := (Real.exp_pos (-M)).ne'
  have := hS.ne'
  field_simp

end Soft

end Cert.Maths

end
-- ==== Proof.Maths.Keep.lean ====
/- Which keys a query keeps, and the literals of the programs. -/
module

public import proofs.«01_k».proof.Proof.Maths.Soft
public import Idealize.ShloMosaic.Lib.Pointwise
public import Idealize.ShloMosaic.Lib.IdealHost

@[expose] public section

noncomputable section

namespace Cert.Maths

open Idealize.ShloMosaic

/-- Query `i` keeps key `j`: the same block of 64, the first block, or blocks whose numbers add up to a multiple of three. -/
def Keep (i j : Fin 256) : Prop := i.val / 64 = j.val / 64 ∨ j.val / 64 = 0 ∨ (i.val / 64 + j.val / 64) % 3 = 0

instance (i : Fin 256) : DecidablePred (Keep i) := fun j => by unfold Keep; infer_instance

theorem keep_first (i : Fin 256) : ∃ j, Keep i j := ⟨0, .inr (.inl (by decide))⟩

/-- −∞ and +∞ in bits. -/
theorem lit_bot : Ideal.ofBits .f32 0xFF800000#32 = ⊥ := by simp [Ideal.ofBits, Ideal.ieee, -EReal.coe_mul]
theorem lit_top : Ideal.ofBits .f32 0x7F800000#32 = ⊤ := by simp [Ideal.ofBits, Ideal.ieee, -EReal.coe_mul]
/-- The scale of the scores. -/
def scale : EReal := Ideal.ofBits .f32 0x3E000000#32
theorem scale_real : IsReal scale := ⟨1 / 8, by unfold scale; simp [Ideal.ofBits, Ideal.ieee, -EReal.coe_mul]; norm_num⟩

end Cert.Maths

end
-- ==== Proof.Maths.RefDefs.lean ====
/- The reference's result in named steps. -/
module

public import proofs.«01_k».proof.Proof.Gen.ReferenceIdeal.Run
public import proofs.«01_k».proof.Proof.Maths.Keep

@[expose] public section

set_option maxRecDepth 16384

noncomputable section

namespace Cert.Maths

open Cert.ReferenceIdeal Cert.ReferenceIdeal.Gen Idealize.ShloMosaic Idealize.ShloMosaic.TcCoe

/-- The block of a position, as the floor division of the position by 64 is written out. -/
def blockR : IVec S256 32 :=
  let n : IVec S256 32 := broadcastInDim S256 ![] bcast_S_S256 (id (constantI S_ 32 64#32))
  select (andi (cmpi .ne (signi (iotaInDim S256 32 0)) (broadcastInDim S256 ![] bcast_S_S256 (signi (id (constantI S_ 32 64#32)))))
      (cmpi .ne (Host.remsi (iotaInDim S256 32 0) n) (broadcastInDim S256 ![] bcast_S_S256 (constantI S_ 32 0#32))))
    (subi (Host.divsi (iotaInDim S256 32 0) n) (broadcastInDim S256 ![] bcast_S_S256 (constantI S_ 32 1#32))) (Host.divsi (iotaInDim S256 32 0) n)

/-- The remainder of a sum of two blocks by three, with its correction for negative numbers. -/
def remR (s : IVec S256x256 32) : IVec S256x256 32 :=
  let d : IVec S_ 32 := select (cmpi .eq (id (constantI S_ 32 3#32)) (constantI S_ 32 0#32)) (constantI S_ 32 1#32) (id (constantI S_ 32 3#32))
  let n : IVec S256x256 32 := broadcastInDim S256x256 ![] bcast_S_S256x256 d
  let z : IVec S256x256 32 := broadcastInDim S256x256 ![] bcast_S_S256x256 (constantI S_ 32 0#32)
  select (andi (cmpi .ne (cmpi .slt (Host.remsi s n) z) (broadcastInDim S256x256 ![] bcast_S_S256x256 (cmpi .slt d (constantI S_ 32 0#32)))) (cmpi .ne (Host.remsi s n) z))
    (addi (Host.remsi s n) n) (Host.remsi s n)

/-- The mask. -/
def maskR (t : IVec S256 32) : IVec S256x256 1 :=
  let q : IVec S256x256 32 := broadcastInDim S256x256 ![0, 1] bcast_S256x1_S256x256_0_1 (broadcastInDim S256x1 ![0] bcast_S256_S256x1_0 t)
  let k : IVec S1x256 32 := broadcastInDim S1x256 ![1] bcast_S256_S1x256_1 t
  let k' : IVec S256x256 32 := broadcastInDim S256x256 ![0, 1] bcast_S1x256_S256x256_0_1 k
  ori (ori (cmpi .eq q k') (broadcastInDim S256x256 ![0, 1] bcast_S1x256_S256x256_0_1 (cmpi .eq k (broadcastInDim S1x256 ![] bcast_S_S1x256 (constantI S_ 32 0#32)))))
    (cmpi .eq (remR (addi q k')) (broadcastInDim S256x256 ![] bcast_S_S256x256 (constantI S_ 32 0#32)))

/-- Whether a query keeps any key. -/
def rowsR (k : IVec S256x256 1) : IVec S1x1x256x1 1 :=
  broadcastInDim S1x1x256x1 ![2] bcast_S256_S1x1x256x1_2 (Host.reduce IntOp.ori k (constantI S_ 1 0#1) reducesTo_S256x256_S256_d1 h_S_)

variable (x : FVec Ideal S32x256x512 .f32) (Wq : FVec Ideal S512x4096 .f32) (K V : FVec Ideal S32x256x64x64 .f32) (Wo : FVec Ideal S4096x512 .f32)

/-- The scores. -/
def scoresR : FVec Ideal S32x64x256x256 .f32 :=
  mulf (Host.dotGeneral dot_S32x256x64x64_S32x256x64x64_S32x64x256x256_3_3_1_1_02_02 none
      (shapeCast _ (Host.dotGeneral dot_S32x256x512_S512x4096_S32x256x4096_2_0_01_1_n_n none x Wq) shapeCasts_S32x256x4096_S32x256x64x64) K)
    (broadcastInDim S32x64x256x256 ![] bcast_S_S32x64x256x256 (constant S_ .f32 0x3E000000#32))

/-- Masked. -/
def maskedR (k : IVec S256x256 1) (s : FVec Ideal S32x64x256x256 .f32) : FVec Ideal S32x64x256x256 .f32 :=
  select (broadcastInDim S32x64x256x256 ![0, 1, 2, 3] bcast_S1x1x256x256_S32x64x256x256_0_1_2_3 (broadcastInDim S1x1x256x256 ![2, 3] bcast_S256x256_S1x1x256x256_2_3 k)) s
    (broadcastInDim S32x64x256x256 ![] bcast_S_S32x64x256x256 (id (constant S_ .f32 0xFF800000#32)))

/-- The exponentials. -/
def expR (t : FVec Ideal S32x64x256x256 .f32) : FVec Ideal S32x64x256x256 .f32 :=
  Host.exp (subf t (broadcastInDim S32x64x256x256 ![0, 1, 2, 3] bcast_S32x64x256x1_S32x64x256x256_0_1_2_3 (broadcastInDim S32x64x256x1 ![0, 1, 2] bcast_S32x64x256_S32x64x256x1_0_1_2
    (Host.reduce FloatOps.maximumf t (constant S_ .f32 0xFF800000#32) reducesTo_S32x64x256x256_S32x64x256_d3 h_S_))))

/-- The weights. -/
def weightsR (r : IVec S1x1x256x1 1) (e : FVec Ideal S32x64x256x256 .f32) : FVec Ideal S32x64x256x256 .f32 :=
  select (broadcastInDim S32x64x256x256 ![0, 1, 2, 3] bcast_S1x1x256x1_S32x64x256x256_0_1_2_3 r)
    (Host.divf e (broadcastInDim S32x64x256x256 ![0, 1, 2, 3] bcast_S32x64x256x1_S32x64x256x256_0_1_2_3
      (select (broadcastInDim S32x64x256x1 ![0, 1, 2, 3] bcast_S1x1x256x1_S32x64x256x1_0_1_2_3 r)
        (broadcastInDim S32x64x256x1 ![0, 1, 2] bcast_S32x64x256_S32x64x256x1_0_1_2 (Host.reduceAdd e (constant S_ .f32 0x00000000#32) reducesTo_S32x64x256x256_S32x64x256_d3 h_S_))
        (broadcastInDim S32x64x256x1 ![] bcast_S_S32x64x256x1 (id (constant S_ .f32 0x3F800000#32))))))
    (broadcastInDim S32x64x256x256 ![] bcast_S_S32x64x256x256 (id (constant S_ .f32 0x00000000#32)))

/-- The contexts, heads side by side. -/
def ctxR (w : FVec Ideal S32x64x256x256 .f32) : FVec Ideal S32x256x4096 .f32 :=
  shapeCast _ (transpose S32x256x64x64 [0, 3, 1, 2] (Host.dotGeneral dot_S32x256x64x64_S32x64x256x256_S32x64x64x256_1_3_3_2_02_01 none V w)
    transposes_S32x64x64x256_S32x256x64x64_0_3_1_2) shapeCasts_S32x256x64x64_S32x256x4096

/-- The result. -/
def resultR : FVec Ideal S32x256x512 .f32 :=
  Host.dotGeneral dot_S32x256x4096_S4096x512_S32x256x512_2_0_01_1_n_n none
    (ctxR V (weightsR (rowsR (maskR blockR)) (expR (maskedR (maskR blockR) (scoresR x Wq K))))) Wo

theorem res_eq (m : (ℓ : Loc nD τ sig) → Buf (Elt Ideal) ℓ) (c : Dev nD) :
    Value.res_main_v44 m c = resultR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.Maths

end
-- ==== Proof.Maths.RefAt.lean ====
/- The reference's result at an index. -/
module

public import proofs.«01_k».proof.Proof.Maths.RefDefs
public import Idealize.ShloMosaic.Lib.Routing.OpsOrder

@[expose] public section

set_option maxRecDepth 16384

noncomputable section

namespace Cert.Maths

open Cert.ReferenceIdeal Cert.ReferenceIdeal.Gen Idealize.ShloMosaic Idealize.ShloMosaic.TcCoe

theorem blockR_at (i : Fin 256) : blockR (ix1 i) = BitVec.ofNat 32 (i.val / 64) := by revert i; decide +kernel

theorem maskR_at (i j : Fin 256) : maskR blockR (ix2 i j) = if Keep i j then 1#1 else 0#1 := by
  pointwise [maskR, remR]
  rw [blockR_at, blockR_at]
  have hi : i.val / 64 < 4 := by have := i.isLt; omega
  have hj : j.val / 64 < 4 := by have := j.isLt; omega
  split <;> rename_i hk <;> unfold Keep at hk <;> generalize i.val / 64 = a at hi hk ⊢ <;> generalize j.val / 64 = b at hj hk ⊢
    <;> lift a to Fin 4 using hi <;> lift b to Fin 4 using hj <;> revert a b <;> decide +kernel

/-- Some key is kept, so the reference's guards against empty rows do nothing. -/
theorem rowsR_at (k : IVec S256x256 1) (i : Fin 256) (h : ∃ j, k (ix2 i j) = 1#1) : rowsR k (ix4 0 0 i 0) = 1#1 := by
  pointwise [rowsR]
  obtain ⟨j, hj⟩ := h
  exact (Routing.fold_ori _ _).mpr ⟨j, Finset.mem_univ _, hj⟩

section Score

variable (x : FVec Ideal S32x256x512 .f32) (Wq : FVec Ideal S512x4096 .f32) (K : FVec Ideal S32x256x64x64 .f32)

/-- The score of key `j` for query `i` of head `h`, batch entry `b`. -/
def score (b : Fin 32) (h : Fin 64) (i j : Fin 256) : EReal :=
  (∑ d : Fin 64, (∑ k : Fin 512, x (ix3 b i k) * Wq (ix2 k ⟨h.val * 64 + d.val, by have := h.isLt; have := d.isLt; omega⟩)) * K (ix4 b j h d)) * scale

/-- From finite arguments the scores are finite. -/
theorem score_real (hx : ∀ i, IsReal (x i)) (hw : ∀ i, IsReal (Wq i)) (hk : ∀ i, IsReal (K i)) (b : Fin 32) (h : Fin 64) (i j : Fin 256) :
    IsReal (score x Wq K b h i j) :=
  (IsReal.sum _ _ fun _ => (IsReal.sum _ _ fun _ => (hx _).mul (hw _)).mul (hk _)).mul scale_real

theorem scoresR_at (b : Fin 32) (h : Fin 64) (i j : Fin 256) : scoresR x Wq K (ix4 b h i j) = score x Wq K b h i j := by
  pointwise [scoresR, score, scale]

end Score

theorem maskedR_at (s : FVec Ideal S32x64x256x256 .f32) (b : Fin 32) (h : Fin 64) (i j : Fin 256) :
    maskedR (maskR blockR) s (ix4 b h i j) = kept (fun j => s (ix4 b h i j)) (Keep i) j := by
  pointwise [maskedR]
  rw [maskR_at]; unfold kept
  split
  · rfl
  · exact lit_bot

theorem expR_at (t : FVec Ideal S32x64x256x256 .f32) (b : Fin 32) (h : Fin 64) (i j : Fin 256) :
    expR t (ix4 b h i j) = Ideal.exp (t (ix4 b h i j) - Finset.univ.fold max ⊥ fun j => t (ix4 b h i j)) := by
  pointwise [expR]
  rw [lit_bot]

theorem weightsR_at (e : FVec Ideal S32x64x256x256 .f32) (b : Fin 32) (h : Fin 64) (i j : Fin 256) :
    weightsR (rowsR (maskR blockR)) e (ix4 b h i j) = Ideal.div (e (ix4 b h i j)) (∑ j, e (ix4 b h i j)) := by
  have hr : rowsR (maskR blockR) (ix4 0 0 i 0) = 1#1 := by
    obtain ⟨j, hj⟩ := keep_first i
    exact rowsR_at _ i ⟨j, by rw [maskR_at, if_pos hj]⟩
  pointwise [weightsR]
  rw [hr]
  exact congrArg (Ideal.div _) rfl

theorem ctxR_at (V : FVec Ideal S32x256x64x64 .f32) (w : FVec Ideal S32x64x256x256 .f32) (b : Fin 32) (i : Fin 256) (n : Fin 4096) :
    ctxR V w (ix3 b i n) = ∑ j : Fin 256, V (ix4 b j ⟨n.val / 64, by have := n.isLt; omega⟩ ⟨n.val % 64, Nat.mod_lt _ (by decide)⟩)
      * w (ix4 b ⟨n.val / 64, by have := n.isLt; omega⟩ i j) := by
  pointwise [ctxR]

variable (x : FVec Ideal S32x256x512 .f32) (Wq : FVec Ideal S512x4096 .f32) (K V : FVec Ideal S32x256x64x64 .f32) (Wo : FVec Ideal S4096x512 .f32)

/-- Entry `n` of the contexts, as the reference has it. -/
def ctxRef (b : Fin 32) (i : Fin 256) (n : Fin 4096) : EReal :=
  meanR (score x Wq K b ⟨n.val / 64, by have := n.isLt; omega⟩ i) (fun j => V (ix4 b j ⟨n.val / 64, by have := n.isLt; omega⟩ ⟨n.val % 64, Nat.mod_lt _ (by decide)⟩)) (Keep i)

theorem resultR_at (b : Fin 32) (i : Fin 256) (o : Fin 512) :
    resultR x Wq K V Wo (ix3 b i o) = ∑ n : Fin 4096, ctxRef x Wq K V b i n * Wo (ix2 n o) := by
  pointwise [resultR]
  refine Finset.sum_congr rfl fun n _ => ?_
  refine congrArg (fun y : EReal => y * Wo (ix2 n o)) ?_
  refine (ctxR_at V _ b i n).trans ?_
  unfold ctxRef meanR
  refine Finset.sum_congr rfl fun j _ => ?_
  simp only [weightsR_at, expR_at, maskedR_at, scoresR_at]
  rfl

end Cert.Maths

end
-- ==== Proof.Maths.KerAt.lean ====
/- The kernel's result at an index. -/
module

public import proofs.«01_k».proof.Proof.KI.Values
public import proofs.«01_k».proof.Proof.Maths.Keep

@[expose] public section

set_option maxRecDepth 16384

noncomputable section

namespace Cert.Maths

open Cert.KernelIdeal Cert.KernelIdeal.Gen Cert.KIProof Idealize.ShloMosaic Idealize.ShloMosaic.TcCoe

theorem masked_bot : Named.named (F := Ideal) κ "masked" (φ := .f32) 0xC1F00000#32 = ⊥ :=
  IdealRules.named_const.ideal_named_scalar _ _ _ _ rfl

/-- The block of a position, as the floor division of the position by 64 is written out. -/
def blockK (u : BitVec 32) : BitVec 32 :=
  Scalar.select
    (IntOp.andi
      (IntOp.cmpi .ne (IntOp.subi (BitVec.setWidth 32 (IntOp.cmpi .sgt u 0#32)) (BitVec.setWidth 32 (IntOp.cmpi .slt u 0#32)))
        (Scalar.subi (Scalar.extui (Scalar.cmpi .sgt 64#32 0#32)) (Scalar.extui (Scalar.cmpi .slt 64#32 0#32))))
      (IntOp.cmpi .ne (IntOp.remsi .vector u 64#32) 0#32))
    (IntOp.subi (IntOp.divsi .vector u 64#32) 1#32) (IntOp.divsi .vector u 64#32)

theorem blockK_at (i : Fin 256) : blockK (BitVec.ofNat 32 i.val) = BitVec.ofNat 32 (i.val / 64) := by revert i; decide +kernel

/-- The additive mask: nothing for a kept key, −∞ for the others. -/
theorem bias_at (i j : Fin 256) : bias (F := Ideal) (ix2 i j) = if Keep i j then 0 else ⊥ := by
  pointwise [bias, k0_pay52, k0_pay50, k0_pay51]
  rw [masked_bot]
  change Scalar.select (IntOp.ori (IntOp.ori (IntOp.cmpi .eq (blockK (BitVec.ofNat 32 i.val)) (blockK (BitVec.ofNat 32 j.val))) (IntOp.cmpi .eq (blockK (BitVec.ofNat 32 j.val)) 0#32))
    (IntOp.cmpi .eq (IntOp.remsi .vector (IntOp.addi (blockK (BitVec.ofNat 32 i.val)) (blockK (BitVec.ofNat 32 j.val))) 3#32) 0#32)) (0 : EReal) ⊥ = _
  rw [blockK_at, blockK_at]
  have key : ∀ a b : Fin 4, IntOp.ori (IntOp.ori (IntOp.cmpi .eq (BitVec.ofNat 32 a.val) (BitVec.ofNat 32 b.val)) (IntOp.cmpi .eq (BitVec.ofNat 32 b.val) 0#32))
      (IntOp.cmpi .eq (IntOp.remsi .vector (IntOp.addi (BitVec.ofNat 32 a.val) (BitVec.ofNat 32 b.val)) 3#32) 0#32) = 1#1
      ↔ (a.val = b.val ∨ b.val = 0 ∨ (a.val + b.val) % 3 = 0) := by decide +kernel
  have := key ⟨i.val / 64, by have := i.isLt; omega⟩ ⟨j.val / 64, by have := j.isLt; omega⟩
  unfold Scalar.select
  exact if_congr this rfl rfl

section Group

variable (x : FVec Ideal S512x512 .f32) (w w' : FVec Ideal S512x256 .f32) (k v : FVec Ideal S2x4x256x64 .f32)

theorem queries_at (i : Fin 512) (n : Fin 256) : queries x w (ix2 i n) = ∑ l : Fin 512, x (ix2 i l) * w (ix2 l n) := by
  pointwise [queries, wSlot]
  exact Finset.sum_congr rfl fun l _ => congrArg (x (ix2 i l) * w ·) (eq_ix2 _)

theorem attn_at (qh kh vh : FVec Ideal S256x64 .f32) (i : Fin 256) (d : Fin 64) :
    attn bias qh kh vh (ix2 i d) = meanK (fun j => (∑ d : Fin 64, qh (ix2 i d) * kh (ix2 j d)) * scale) (fun j => vh (ix2 j d)) (Keep i) := by
  pointwise [attn]
  simp only [bias_at]
  rfl

/-- The score of key `j` for query `i` of a group's head `g`, batch entry `b`. -/
def scoreK (b : Fin 2) (g : Fin 4) (i j : Fin 256) : EReal :=
  (∑ d : Fin 64, (∑ l : Fin 512, x (ix2 ⟨256 * b.val + i.val, by have := b.isLt; have := i.isLt; omega⟩ l) * w (ix2 l ⟨64 * g.val + d.val, by have := g.isLt; have := d.isLt; omega⟩))
    * k (ix4 b g j d)) * scale

theorem headCtx_at (b : Fin 2) (g : Fin 4) (i : Fin 256) (d : Fin 64) :
    headCtx x w k v b g (ix2 i d) = meanK (scoreK x w k b g i) (fun j => v (ix4 b g j d)) (Keep i) := by
  unfold headCtx
  rw [attn_at]
  pointwise [kvSlot]
  refine congrArg₂ (fun s u => meanK s u (Keep i)) (funext fun j => ?_) (funext fun j => congrArg v (eq_ix4 _))
  refine congrArg (· * scale) (Finset.sum_congr rfl fun d _ => ?_)
  exact congrArg₂ (· * ·) (queries_at _ _ _ _) (congrArg k (eq_ix4 _))

/-- One group's part of the result: the contexts of its four heads through its output weights. -/
def partK (b : Fin 2) (i : Fin 256) (o : Fin 512) : EReal :=
  ∑ r : Fin 256, meanK (scoreK x w k b ⟨r.val / 64, by have := r.isLt; omega⟩ i)
    (fun j => v (ix4 b ⟨r.val / 64, by have := r.isLt; omega⟩ j ⟨r.val % 64, Nat.mod_lt _ (by decide)⟩)) (Keep i) * w' (ix2 o r)

theorem project_at (b : Fin 2) (i : Fin 256) (o : Fin 512) : project w' (colsOf (headCtx x w k v b)) (ix2 i o) = partK x w w' k v b i o := by
  pointwise [project, wSlot]
  refine Finset.sum_congr rfl fun r _ => ?_
  refine congrArg₂ (· * ·) ?_ (congrArg w' (eq_ix2 _))
  exact (congrArg (headCtx x w k v b ⟨r.val / 64, by have := r.isLt; omega⟩) (eq_ix2 _)).trans (headCtx_at x w k v b _ i _)

end Group

theorem putOut_at (w : FVec Ideal S512x256 .f32) (c : FVec Ideal S256x256 .f32) (i : Fin 256) (o : Fin 512) : putOut w c (ix3 0 i o) = project w c (ix2 i o) := by
  pointwise [putOut]
theorem addOut_at (w : FVec Ideal S512x256 .f32) (c : FVec Ideal S256x256 .f32) (r : FVec Ideal S1x256x512 .f32) (i : Fin 256) (o : Fin 512) :
    addOut w c r (ix3 0 i o) = r (ix3 0 i o) + project w c (ix2 i o) := by
  pointwise [addOut]

/-! ## The groups of all devices -/

section All

variable (I : Inp Ideal)

/-- What device `e`'s weights add to the result of device `c`. -/
def partOf (c : Dev nD) (b : Fin 2) (i : Fin 256) (o : Fin 512) (e : Dev nD) : EReal :=
  partK (I.x c) (I.w e 0) (I.w e 1) (headsOf (I.k c) e) (headsOf (I.v c) e) b i o

theorem plus_at (X : Dir) (c : Dev nD) (h : ℕ) (b : Fin 2) (r : FVec Ideal S1x256x512 .f32) (i : Fin 256) (o : Fin 512) :
    plus I X c h b r (ix3 0 i o) = r (ix3 0 i o) + partOf I c b i o (srcDev X c h) := by
  unfold plus ctxAt partOf
  rw [addOut_at, project_at]
  rfl

theorem acc_at (c : Dev nD) (b : Fin 2) (i : Fin 256) (o : Fin 512) (k : ℕ) :
    acc I c b k (ix3 0 i o) = partOf I c b i o c
      + ∑ h ∈ Finset.range k, (partOf I c b i o (srcDev .R c (h + 1)) + partOf I c b i o (srcDev .L c (h + 1))) := by
  induction k with
  | zero =>
    unfold acc ctxAt partOf
    rw [putOut_at, project_at, Finset.sum_range_zero, add_zero]
    simp only [Kv.heads, srcDev_zero]
  | succ k ih =>
    rw [acc, plus_at, plus_at, ih, Finset.sum_range_succ, add_assoc, add_assoc]

/-- The own group, seven from either side and the eighth from the left: all devices, each once. -/
theorem ring_sum (f : Dev nD → EReal) (c : Dev nD) :
    f c + (∑ h ∈ Finset.range 7, (f (srcDev .R c (h + 1)) + f (srcDev .L c (h + 1)))) + f (srcDev .R c 8) = ∑ e, f e := by
  have hs : (∑ e, f e) = ∑ e ∈ Finset.range 16, f (srcDev .L c e) := by
    rw [← Fin.sum_univ_eq_sum_range]
    refine (Fintype.sum_bijective (fun e : Dev nD => srcDev .L c e.val) ?_ _ _ fun _ => rfl).symm
    revert c; decide +kernel
  have hr : ∀ h : Fin 17, srcDev .R c h.val = srcDev .L c (16 - h.val) := by clear hs; revert c; decide +kernel
  have r := fun (h : ℕ) (hh : h < 17) => congrArg f (hr ⟨h, hh⟩)
  rw [hs]
  simp only [Finset.sum_range_succ, Finset.sum_range_zero, srcDev_zero, r 1 (by decide), r 2 (by decide), r 3 (by decide), r 4 (by decide),
    r 5 (by decide), r 6 (by decide), r 7 (by decide), r 8 (by decide), Nat.reduceAdd, Nat.reduceSub]
  abel

theorem result_at (c : Dev nD) (b : Fin 2) (i : Fin 256) (o : Fin 512) :
    result I c b (ix3 0 i o) = ∑ e, partOf I c b i o e := by
  unfold result
  rw [plus_at, acc_at, ring_sum]

end All

end Cert.Maths

end
-- ==== Proof.Maths.HostAt.lean ====
/- What the host hands the kernel, at an index: the reshaped activations, the transposed output weights, the batch entries
   of the keys and values that belong to the device. -/
module

public import proofs.«01_k».proof.Proof.Gen.KernelIdeal.Regions
public import Idealize.ShloMosaic.Lib.Pointwise
public import Idealize.ShloMosaic.Lib.DynamicIndex
public import Idealize.ShloMosaic.Lib.StableHlo.ReadAt

@[expose] public section

set_option maxRecDepth 16384

noncomputable section

namespace Cert.Maths

open Cert.KernelIdeal Cert.KernelIdeal.Gen Idealize.ShloMosaic Idealize.ShloMosaic.TcCoe

variable {F : FTy → Type} [FloatOps F] [Named F]

/-- The device's number from its word, doubled, as the host computes a start. -/
def startWord (c : Dev nD) : IVec S_ 32 :=
  let t : IVec S_ 32 := muli (id (Host.remui (Host.divui (constantI S_ 32 (Dev.word c)) (constantI S_ 32 1#32)) (constantI S_ 32 16#32))) (constantI S_ 32 2#32)
  select (cmpi .slt t (constantI S_ 32 0#32)) (addi t (constantI S_ 32 32#32)) t

theorem startWord_at (c : Dev nD) : (startWord c (Shape.Idx.first h_S_)).toInt = ((2 * c.val : ℕ) : Int) := by revert c; decide +kernel

theorem slices_own (c : Dev nD) : S32x256x64x64.Slices ![2 * c.val, 0, 0, 0] S2x256x64x64 := by revert c; decide

/-- The device's two batch entries, heads before positions. -/
def own (c : Dev nD) (A : FVec F S32x256x64x64 .f32) : FVec F S2x64x256x64 .f32 :=
  transpose S2x64x256x64 [0, 2, 1, 3] (extractStridedSlice S2x256x64x64 ![2 * c.val, 0, 0, 0] A (slices_own c)) transposes_S2x256x64x64_S2x64x256x64_0_2_1_3

theorem own_at (c : Dev nD) (A : FVec F S32x256x64x64 .f32) (b : Fin 2) (h : Fin 64) (j : Fin 256) (d : Fin 64) :
    own c A (ix4 b h j d) = A (ix4 ⟨2 * c.val + b.val, by have h1 : c.val < 16 := c.isLt; have := b.isLt; omega⟩ j h d) := by
  pointwise [own]

theorem slice_eq (c : Dev nD) (A : FVec F S32x256x64x64 .f32) :
    Host.dynamicSlice S2x256x64x64 A (fun k => ((![startWord c, constantI S_ 32 0#32, constantI S_ 32 0#32, constantI S_ 32 0#32] : Fin 4 → IVec S_ 32) k (Shape.Idx.first h_S_)).toInt)
      sliceFits_S32x256x64x64_S2x256x64x64 = extractStridedSlice S2x256x64x64 ![2 * c.val, 0, 0, 0] A (slices_own c) :=
  Host.dynamicSlice_eq_extractStridedSlice _ _ _ _ _ (slices_own c) fun a => by
    match a with
    | 0 => exact startWord_at c
    | 1 => rfl
    | 2 => rfl
    | 3 => rfl

variable (m : (ℓ : Loc nD τ sig) → Buf (Elt F) ℓ) (c : Dev nD)

theorem v6_eq : V1 m c (Proc.devRef .tc main_v6) = shapeCast S512x512 (m ((c.tc : Thread nD τ).loc main_arg0) : FVec F S2x256x512 .f32) shapeCasts_S2x256x512_S512x512 := by
  simp only [V1, hostOps0]
  after_results_simp <;> rfl

theorem v5_eq : V1 m c (Proc.devRef .tc main_v5) = transpose S512x256 [1, 0] (m ((c.tc : Thread nD τ).loc main_arg4) : FVec F S256x512 .f32) transposes_S256x512_S512x256_1_0 := by
  simp only [V1, hostOps0]
  after_results_simp <;> rfl

theorem v12_eq : V1 m c (Proc.devRef .tc main_v12) = own c (m ((c.tc : Thread nD τ).loc main_arg2)) := by
  unfold own
  rw [← slice_eq]
  simp only [V1, hostOps0]
  after_results_simp
  refine congrArg (fun st : Fin 4 → Int => transpose S2x64x256x64 [0, 2, 1, 3]
    (Host.dynamicSlice S2x256x64x64 (m ((c.tc : Thread nD τ).loc main_arg2) : FVec F S32x256x64x64 .f32) st sliceFits_S32x256x64x64_S2x256x64x64) transposes_S2x256x64x64_S2x64x256x64_0_2_1_3)
    (funext fun k => ?_)
  match k with
  | 0 =>
    simp only [Matrix.cons_val_zero]
    after_results_simp
    rfl
  | 1 => simp only [Matrix.cons_val_one]; after_results_simp; rfl
  | 2 => simp only [Matrix.cons_val]; after_results_simp; rfl
  | 3 => simp only [Matrix.cons_val]; after_results_simp; rfl

theorem v18_eq : V1 m c (Proc.devRef .tc main_v18) = own c (m ((c.tc : Thread nD τ).loc main_arg3)) := by
  unfold own
  rw [← slice_eq]
  simp only [V1, hostOps0]
  after_results_simp
  refine congrArg (fun st : Fin 4 → Int => transpose S2x64x256x64 [0, 2, 1, 3]
    (Host.dynamicSlice S2x256x64x64 (m ((c.tc : Thread nD τ).loc main_arg3) : FVec F S32x256x64x64 .f32) st sliceFits_S32x256x64x64_S2x256x64x64) transposes_S2x256x64x64_S2x64x256x64_0_2_1_3)
    (funext fun k => ?_)
  match k with
  | 0 =>
    simp only [Matrix.cons_val_zero]
    after_results_simp
    rfl
  | 1 => simp only [Matrix.cons_val_one]; after_results_simp; rfl
  | 2 => simp only [Matrix.cons_val]; after_results_simp; rfl
  | 3 => simp only [Matrix.cons_val]; after_results_simp; rfl

theorem x_at (A : FVec F S2x256x512 .f32) (b : Fin 2) (i : Fin 256) (l : Fin 512) :
    shapeCast S512x512 A shapeCasts_S2x256x512_S512x512 (ix2 ⟨256 * b.val + i.val, by have := b.isLt; have := i.isLt; omega⟩ l) = A (ix3 b i l) := by
  pointwise

theorem wt_at (A : FVec F S256x512 .f32) (o : Fin 512) (r : Fin 256) :
    transpose S512x256 [1, 0] A transposes_S256x512_S512x256_1_0 (ix2 o r) = A (ix2 r o) := by
  pointwise

end Cert.Maths

end
-- ==== Proof.Maths.Match.lean ====
/- The kernel's results on the devices are the blocks of the reference's. -/
module

public import proofs.«01_k».proof.Proof.Maths.RefAt
public import proofs.«01_k».proof.Proof.Maths.KerAt
public import proofs.«01_k».proof.Proof.Maths.HostAt
public import proofs.«01_k».proof.Proof.KI.Region
public import Idealize.ShloMosaic.Lib.Layout

@[expose] public section

set_option maxRecDepth 16384

noncomputable section

namespace Cert.Maths

open Cert.KernelIdeal Cert.KernelIdeal.Gen Cert.KIProof Idealize.ShloMosaic Idealize.ShloMosaic.TcCoe

/-! ## Blocks at an index -/

section Blocks

variable {α : Type} (c : Fin 16)

theorem blockBatch_at (v : (⟨3, ![32, 256, 512]⟩ : Shape).Idx → α) (h : Layout.Tiles ⟨3, ![2, 256, 512]⟩ ⟨3, ![32, 256, 512]⟩ 0 16) (b : Fin 2) (i : Fin 256) (l : Fin 512) :
    Layout.block ⟨3, ![2, 256, 512]⟩ ⟨3, ![32, 256, 512]⟩ 0 16 c v h (ix3 b i l) = v (ix3 ⟨2 * c.val + b.val, by have := c.isLt; have := b.isLt; omega⟩ i l) := by
  rw [Layout.block_apply]
  refine congrArg v (funext fun a => ?_)
  match a with
  | 0 => exact Fin.ext (congrArg (· + b.val) (Nat.mul_comm c.val 2))
  | 1 => rfl
  | 2 => rfl

theorem blockCols_at (v : (⟨2, ![512, 4096]⟩ : Shape).Idx → α) (h : Layout.Tiles ⟨2, ![512, 256]⟩ ⟨2, ![512, 4096]⟩ 1 16) (l : Fin 512) (n : Fin 256) :
    Layout.block ⟨2, ![512, 256]⟩ ⟨2, ![512, 4096]⟩ 1 16 c v h (ix2 l n) = v (ix2 l ⟨256 * c.val + n.val, by have := c.isLt; have := n.isLt; omega⟩) := by
  rw [Layout.block_apply]
  refine congrArg v (funext fun a => ?_)
  match a with
  | 0 => rfl
  | 1 => exact Fin.ext (congrArg (· + n.val) (Nat.mul_comm c.val 256))

theorem blockRows_at (v : (⟨2, ![4096, 512]⟩ : Shape).Idx → α) (h : Layout.Tiles ⟨2, ![256, 512]⟩ ⟨2, ![4096, 512]⟩ 0 16) (n : Fin 256) (o : Fin 512) :
    Layout.block ⟨2, ![256, 512]⟩ ⟨2, ![4096, 512]⟩ 0 16 c v h (ix2 n o) = v (ix2 ⟨256 * c.val + n.val, by have := c.isLt; have := n.isLt; omega⟩ o) := by
  rw [Layout.block_apply]
  refine congrArg v (funext fun a => ?_)
  match a with
  | 0 => exact Fin.ext (congrArg (· + n.val) (Nat.mul_comm c.val 256))
  | 1 => rfl

end Blocks

/-- A sum over all columns, device by device. -/
theorem sum_groups (f : Fin 4096 → EReal) :
    (∑ e : Fin 16, ∑ r : Fin 256, f ⟨256 * e.val + r.val, by have := e.isLt; have := r.isLt; omega⟩) = ∑ n, f n := by
  rw [← (finProdFinEquiv (m := 16) (n := 256)).sum_comp (fun n : Fin (16 * 256) => f n), Fintype.sum_prod_type]
  exact Finset.sum_congr rfl fun e _ => Finset.sum_congr rfl fun r _ => congrArg f (Fin.ext (Nat.add_comm _ _))

/-! ## One device's part -/

theorem tilesX : Layout.Tiles ⟨3, ![2, 256, 512]⟩ ⟨3, ![32, 256, 512]⟩ 0 16 := by decide
theorem tilesQ : Layout.Tiles ⟨2, ![512, 256]⟩ ⟨2, ![512, 4096]⟩ 1 16 := by decide
theorem tilesO : Layout.Tiles ⟨2, ![256, 512]⟩ ⟨2, ![4096, 512]⟩ 0 16 := by decide

section Part

variable (m : (ℓ : Loc nD τ sig) → Buf (Elt Ideal) ℓ)
  (x : FVec Ideal ⟨3, ![32, 256, 512]⟩ .f32) (Wq : FVec Ideal ⟨2, ![512, 4096]⟩ .f32) (K V : FVec Ideal ⟨4, ![32, 256, 64, 64]⟩ .f32) (Wo : FVec Ideal ⟨2, ![4096, 512]⟩ .f32)
  (hx : ∀ c : Dev nD, m ((c.tc : Thread nD τ).loc main_arg0) = Layout.block ⟨3, ![2, 256, 512]⟩ ⟨3, ![32, 256, 512]⟩ 0 16 c x tilesX)
  (hq : ∀ c : Dev nD, m ((c.tc : Thread nD τ).loc main_arg1) = Layout.block ⟨2, ![512, 256]⟩ ⟨2, ![512, 4096]⟩ 1 16 c Wq tilesQ)
  (hk : ∀ c : Dev nD, m ((c.tc : Thread nD τ).loc main_arg2) = K)
  (hv : ∀ c : Dev nD, m ((c.tc : Thread nD τ).loc main_arg3) = V)
  (ho : ∀ c : Dev nD, m ((c.tc : Thread nD τ).loc main_arg4) = Layout.block ⟨2, ![256, 512]⟩ ⟨2, ![4096, 512]⟩ 0 16 c Wo tilesO)

/-- The batch entry `b` of device `c`, -/
def entry (c : Dev nD) (b : Fin 2) : Fin 32 := ⟨2 * c.val + b.val, by have h : c.val < 16 := c.isLt; have := b.isLt; omega⟩
/-- head `g` of device `e`, -/
def head (e : Dev nD) (g : Fin 4) : Fin 64 := ⟨4 * e.val + g.val, by have h : e.val < 16 := e.isLt; have := g.isLt; omega⟩
/-- and its column `r`. -/
def col (e : Dev nD) (r : Fin 256) : Fin 4096 := ⟨256 * e.val + r.val, by have h : e.val < 16 := e.isLt; have := r.isLt; omega⟩

include hx in
theorem inp_x (c : Dev nD) (b : Fin 2) (i : Fin 256) (l : Fin 512) :
    (inp m).x c (ix2 ⟨256 * b.val + i.val, by have := b.isLt; have := i.isLt; omega⟩ l) = x (ix3 (entry c b) i l) :=
  (congrFun (v6_eq m c) _).trans ((x_at (F := Ideal) (m ((c.tc : Thread nD τ).loc main_arg0)) b i l).trans ((congrFun (hx c) _).trans (blockBatch_at c x _ b i l)))

include hq in
theorem inp_q (e : Dev nD) (l : Fin 512) (r : Fin 256) : (inp m).w e 0 (ix2 l r) = Wq (ix2 l (col e r)) :=
  (congrFun (V1_of m e main_arg1 (by decide)) _).trans ((congrFun (hq e) _).trans (blockCols_at e Wq _ l r))

include ho in
theorem inp_o (e : Dev nD) (o : Fin 512) (r : Fin 256) : (inp m).w e 1 (ix2 o r) = Wo (ix2 (col e r) o) :=
  (congrFun (v5_eq m e) _).trans ((wt_at (F := Ideal) (m ((e.tc : Thread nD τ).loc main_arg4)) o r).trans ((congrFun (ho e) _).trans (blockRows_at e Wo _ r o)))

include hk in
theorem inp_k (c e : Dev nD) (b : Fin 2) (g : Fin 4) (j : Fin 256) (d : Fin 64) : headsOf ((inp m).k c) e (ix4 b g j d) = K (ix4 (entry c b) j (head e g) d) :=
  (congrArg ((inp m).k c) (eq_ix4 _)).trans ((congrFun (v12_eq m c) _).trans ((own_at c _ b (head e g) j d).trans (congrFun (hk c) _)))

include hv in
theorem inp_v (c e : Dev nD) (b : Fin 2) (g : Fin 4) (j : Fin 256) (d : Fin 64) : headsOf ((inp m).v c) e (ix4 b g j d) = V (ix4 (entry c b) j (head e g) d) :=
  (congrArg ((inp m).v c) (eq_ix4 _)).trans ((congrFun (v18_eq m c) _).trans ((own_at c _ b (head e g) j d).trans (congrFun (hv c) _)))

include hx hq hk in
theorem scoreK_eq (c e : Dev nD) (b : Fin 2) (g : Fin 4) (i j : Fin 256) :
    scoreK ((inp m).x c) ((inp m).w e 0) (headsOf ((inp m).k c) e) b g i j = score x Wq K (entry c b) (head e g) i j := by
  unfold scoreK score
  refine congrArg (fun y : EReal => y * scale) (Finset.sum_congr rfl fun d _ => ?_)
  refine congrArg₂ (fun y z : EReal => y * z) (Finset.sum_congr rfl fun l _ => ?_) (inp_k m K hk c e b g j d)
  refine congrArg₂ (fun y z : EReal => y * z) (inp_x m x hx c b i l) ((inp_q m Wq hq e l _).trans (congrArg Wq ?_))
  exact congrArg (ix2 l) (Fin.ext (by show 256 * e.val + (64 * g.val + d.val) = (4 * e.val + g.val) * 64 + d.val; omega))

include hx hq hk hv ho in
theorem partOf_eq (fx : ∀ i, IsReal (x i)) (fq : ∀ i, IsReal (Wq i)) (fk : ∀ i, IsReal (K i)) (c e : Dev nD) (b : Fin 2) (i : Fin 256) (o : Fin 512) :
    partOf (inp m) c b i o e = ∑ r : Fin 256, ctxRef x Wq K V (entry c b) i (col e r) * Wo (ix2 (col e r) o) := by
  unfold partOf partK
  refine Finset.sum_congr rfl fun r _ => ?_
  refine congrArg₂ (fun y z : EReal => y * z) ?_ (inp_o m Wo ho e o r)
  have e1 : head e ⟨r.val / 64, by have := r.isLt; omega⟩ = ⟨(col e r).val / 64, by have := (col e r).isLt; omega⟩ :=
    Fin.ext (by show 4 * e.val + r.val / 64 = (256 * e.val + r.val) / 64; omega)
  have e2 : (⟨r.val % 64, Nat.mod_lt _ (by decide)⟩ : Fin 64) = ⟨(col e r).val % 64, Nat.mod_lt _ (by decide)⟩ :=
    Fin.ext (by show r.val % 64 = (256 * e.val + r.val) % 64; omega)
  unfold ctxRef
  rw [← mean_eq _ _ _ (fun j => score_real x Wq K fx fq fk _ _ i j) (keep_first i), ← e1, ← e2]
  exact congrArg₂ (fun s u => meanK s u (Keep i)) (funext fun j => scoreK_eq m x Wq K hx hq hk c e b _ i j) (funext fun j => inp_v m V hv c e b _ j _)

include hx hq hk hv ho in
/-- The result of a device is its block of the reference's. -/
theorem outV_eq (fx : ∀ i, IsReal (x i)) (fq : ∀ i, IsReal (Wq i)) (fk : ∀ i, IsReal (K i)) (c : Dev nD) :
    outV m c = Layout.block ⟨3, ![2, 256, 512]⟩ ⟨3, ![32, 256, 512]⟩ 0 16 c (resultR x Wq K V Wo) tilesX := by
  have one : ∀ (b : Fin 2) (i : Fin 256) (o : Fin 512), result (inp m) c b (ix3 0 i o) = resultR x Wq K V Wo (ix3 (entry c b) i o) := fun b i o => by
    rw [result_at, resultR_at, ← sum_groups]
    exact Finset.sum_congr rfl fun e _ => partOf_eq m x Wq K V Wo hx hq hk hv ho fx fq fk c e b i o
  have at3 : ∀ (b : Fin 2) (i : Fin 256) (o : Fin 512),
      outV m c (ix3 b i o) = Layout.block ⟨3, ![2, 256, 512]⟩ ⟨3, ![32, 256, 512]⟩ 0 16 c (resultR x Wq K V Wo) tilesX (ix3 b i o) := fun b i o => by
    refine Eq.trans ?_ (blockBatch_at c _ _ b i o).symm
    refine Eq.trans ?_ (one b i o)
    match b with
    | 0 => exact congrArg (result (inp m) c 0) (eq_ix3 _)
    | 1 => exact congrArg (result (inp m) c 1) (eq_ix3 _)
  funext j
  exact (congrArg (outV m c) (eq_ix3 j)).trans ((at3 _ _ _).trans (congrArg (Layout.block _ _ 0 16 c _ _) (eq_ix3 j).symm))

/-! ## Every element lies in some device's block -/

include hx in
theorem real_x (h : ∀ c : Dev nD, ∀ i, IsReal ((m ((c.tc : Thread nD τ).loc main_arg0) : FVec Ideal S2x256x512 .f32) i)) : ∀ i, IsReal (x i) := by
  have at3 : ∀ (b : Fin 32) (i : Fin 256) (l : Fin 512), IsReal (x (ix3 b i l)) := fun b i l => by
    have hb := b.isLt
    have := h ⟨b.val / 2, by show b.val / 2 < 16; omega⟩ (ix3 ⟨b.val % 2, Nat.mod_lt _ (by decide)⟩ i l)
    rw [hx] at this
    have e := blockBatch_at ⟨b.val / 2, by omega⟩ x tilesX ⟨b.val % 2, Nat.mod_lt _ (by decide)⟩ i l
    have e' : (⟨2 * (b.val / 2) + b.val % 2, by omega⟩ : Fin 32) = b := Fin.ext (Nat.div_add_mod _ _)
    exact e' ▸ (e ▸ this :)
  intro i
  rw [eq_ix3 i]
  exact at3 _ _ _

include hq in
theorem real_q (h : ∀ c : Dev nD, ∀ i, IsReal ((m ((c.tc : Thread nD τ).loc main_arg1) : FVec Ideal S512x256 .f32) i)) : ∀ i, IsReal (Wq i) := by
  have at2 : ∀ (l : Fin 512) (n : Fin 4096), IsReal (Wq (ix2 l n)) := fun l n => by
    have hn := n.isLt
    have := h ⟨n.val / 256, by show n.val / 256 < 16; omega⟩ (ix2 l ⟨n.val % 256, Nat.mod_lt _ (by decide)⟩)
    rw [hq] at this
    have e := blockCols_at ⟨n.val / 256, by omega⟩ Wq tilesQ l ⟨n.val % 256, Nat.mod_lt _ (by decide)⟩
    have e' : (⟨256 * (n.val / 256) + n.val % 256, by omega⟩ : Fin 4096) = n := Fin.ext (Nat.div_add_mod _ _)
    exact e' ▸ (e ▸ this :)
  intro i
  rw [eq_ix2 i]
  exact at2 _ _

end Part

end Cert.Maths

end
-- ==== Proof.Maths.Finite.lean ====
/- What the precondition says: the activations, query weights and keys are finite. -/
module

public import proofs.«01_k».proof.Pre_finite_scores_KernelIdeal
public import proofs.«01_k».proof.Pre_finite_scores_ReferenceIdeal
public import proofs.«01_k».proof.Proof.Maths.Keep
public import Idealize.ShloMosaic.Lib.ReduceAll

@[expose] public section

set_option maxRecDepth 16384

noncomputable section

namespace Cert.Maths

open Idealize.ShloMosaic

theorem preFacts : Cert.Pre_finite_scores_KernelIdeal.Facts where
  bcast_S_S2x256x512 := by decide
  reducesTo_S2x256x512_S_d0_1_2 := by decide
  h_S_ := by decide
  bcast_S_S512x256 := by decide
  reducesTo_S512x256_S_d0_1 := by decide
  bcast_S_S32x256x64x64 := by decide
  reducesTo_S32x256x64x64_S_d0_1_2_3 := by decide

theorem preFactsR : Cert.Pre_finite_scores_ReferenceIdeal.Facts where
  bcast_S_S32x256x512 := by decide
  reducesTo_S32x256x512_S_d0_1_2 := by decide
  h_S_ := by decide
  bcast_S_S512x4096 := by decide
  reducesTo_S512x4096_S_d0_1 := by decide
  bcast_S_S32x256x64x64 := by decide
  reducesTo_S32x256x64x64_S_d0_1_2_3 := by decide

/-- Strictly between the infinities. -/
theorem real_of_between (a : EReal) (h : IntOp.andi (FloatOps.cmpf (F := Ideal) (φ := .f32) .ogt a (Ideal.ofBits .f32 0xFF800000#32))
    (FloatOps.cmpf (F := Ideal) (φ := .f32) .olt a (Ideal.ofBits .f32 0x7F800000#32)) = 1#1) : IsReal a := by
  rw [lit_bot, lit_top] at h
  obtain ⟨h1, h2⟩ := IntOp.andi_eq_one.1 h
  have e : ∀ p : Bool, BitVec.ofBool p = 1#1 → p = true := by decide
  have b1 : ⊥ < a := of_decide_eq_true (e _ h1)
  have b2 : a < ⊤ := of_decide_eq_true (e _ h2)
  exact ⟨a.toReal, (EReal.coe_toReal b2.ne b1.ne').symm⟩

open Cert.Pre_finite_scores_KernelIdeal in
/-- What the precondition asks of a device's arguments. -/
theorem finite_of_pre [Facts] (x : FVec Ideal S2x256x512 .f32) (Wq : FVec Ideal S512x256 .f32) (K V : FVec Ideal S32x256x64x64 .f32) (Wo : FVec Ideal S256x512 .f32)
    (h : fn (F := Ideal) x Wq K V Wo = fun _ => 1#1) : (∀ i, IsReal (x i)) ∧ (∀ i, IsReal (Wq i)) ∧ ∀ i, IsReal (K i) := by
  have h0 := congrFun h ix0
  unfold fn fn_part1 at h0
  obtain ⟨h1, h2⟩ := IntOp.andi_eq_one.1 h0
  obtain ⟨h3, h4⟩ := IntOp.andi_eq_one.1 h1
  haveI : Subsingleton S_.Idx := ⟨fun a b => funext fun k => k.elim0⟩
  exact ⟨fun i => real_of_between _ (Host.reduce_andi_all _ _ _ _ _ h3 i), fun i => real_of_between _ (Host.reduce_andi_all _ _ _ _ _ h4 i),
    fun i => real_of_between _ (Host.reduce_andi_all _ _ _ _ _ h2 i)⟩

end Cert.Maths

end
-- ==== Proof.lean ====
/- The claims about the kernel: it runs on its devices and leaves everything in order, so does the reference, and from finite
   activations, query weights and keys the devices' results are the blocks of the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Maths.Match
public import proofs.«01_k».proof.Proof.Maths.Finite
public import Idealize.ShloMosaic.Adequacy
public import Idealize.ShloMosaic.Init
public import Idealize.ShloMosaic.Lib.Quiescent

@[expose] public section

noncomputable section

namespace Cert.Proof

open Idealize.ShloMosaic Idealize.SL.Sem

/-- The kernel ends with its arguments unchanged and every counter at zero, -/
theorem frame_p : Cert.quiescent_Kernel := fun m ρ _ =>
  (θ_run Cert.Kernel.defs _ _).mono (fun _ h => ⟨fun c => (h.1 c).2, h.2⟩) (Cert.KProof.run_result m ρ)

/-- so does its idealization, -/
theorem frame_pi : Cert.quiescent_KernelIdeal := fun m ρ _ =>
  (θ_run Cert.KernelIdeal.defs _ _).mono (fun _ h => ⟨fun c => (h.1 c).2, h.2⟩) (Cert.KIProof.run_result m ρ)

/-- and so does the reference, which has no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The one named literal denotes −∞. -/
theorem preserves : Cert.preserves_Kernel_KernelIdeal :=
  IdealRules.named_const.statement Cert.KernelIdeal.κ "masked" .f32 0xC1F00000#32 ⊥ rfl

/-- The values: each device ends with its block of the reference's result. -/
theorem algebraic : @Cert.algebraic_KernelIdeal_ReferenceIdeal_pre_finite_scores_KernelIdeal Cert.KernelIdeal.Gen.facts Cert.ReferenceIdeal.Gen.facts Cert.Maths.preFacts :=
  fun m ρ m' ρ' hpre hin => by
    haveI := Cert.Maths.preFacts
    have hfin := fun c => Cert.Maths.finite_of_pre _ _ _ _ _ (hpre c)
    have hx := fun c => (hin c).1
    have hq := fun c => (hin c).2.1
    have hk := fun c => (hin c).2.2.1
    have hv := fun c => (hin c).2.2.2.1
    have ho := fun c => (hin c).2.2.2.2
    have fx := Cert.Maths.real_x m _ hx fun c => (hfin c).1
    have fq := Cert.Maths.real_q m _ hq fun c => (hfin c).2.1
    have fk := hk 0 ▸ (hfin 0).2.2
    refine ⟨Cert.ReferenceIdeal.Value.res_main_v44 m' 0, ?_, ?_⟩
    · refine (θ_run Cert.KernelIdeal.defs _ _).mono (fun r h c => ⟨(h.1 c).1.trans ?_, (h.1 c).2⟩) (Cert.KIProof.run_result m ρ)
      rw [Cert.Maths.res_eq]
      exact Cert.Maths.outV_eq m _ _ _ _ _ hx hq hk hv ho fx fq fk c
    · exact (θ_run Cert.ReferenceIdeal.defs _ _).mono (fun r h => h 0) (Cert.ReferenceIdeal.Value.run m' ρ')

theorem claim : Cert.Claim :=
  ⟨Cert.Kernel.Gen.facts, Cert.KernelIdeal.Gen.facts, Cert.ReferenceIdeal.Gen.facts, Cert.Maths.preFacts, Cert.Maths.preFactsR,
    frame_p, frame_pi, fun m ρ _ => frame_pi m ρ trivial, frame_ri, fun m ρ _ => frame_ri m ρ trivial, preserves, algebraic⟩

end Cert.Proof

end
